-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_weights [hPre_finite_weights : Cert.Pre_finite_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_weights [hPre_finite_weights : Cert.Pre_finite_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_weights_sample [hPre_finite_weights_sample : Cert.Pre_finite_weights_sample.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_weights_sample.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_weights_sample [hPre_finite_weights_sample : Cert.Pre_finite_weights_sample.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_weights_sample.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_scores_sample [hPre_finite_scores_sample : Cert.Pre_finite_scores_sample.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_scores_sample.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_scores_sample [hPre_finite_scores_sample : Cert.Pre_finite_scores_sample.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_scores_sample.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_weights [hKernel2Ideal : Cert.Kernel2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_weights [hReference2Ideal : Cert.Reference2Ideal.Facts] [hPre_finite_weights : Cert.Pre_finite_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_weights_sample [hKernel4Ideal : Cert.Kernel4Ideal.Facts] [hPre_finite_weights_sample : Cert.Pre_finite_weights_sample.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_weights_sample m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_weights_sample [hReference4Ideal : Cert.Reference4Ideal.Facts] [hPre_finite_weights_sample : Cert.Pre_finite_weights_sample.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_weights_sample m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_scores_sample [hKernel9Ideal : Cert.Kernel9Ideal.Facts] [hPre_finite_scores_sample : Cert.Pre_finite_scores_sample.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_scores_sample m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_scores_sample [hReference9Ideal : Cert.Reference9Ideal.Facts] [hPre_finite_scores_sample : Cert.Pre_finite_scores_sample.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_scores_sample m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_weights [hKernel2Ideal : Cert.Kernel2Ideal.Facts] [hReference2Ideal : Cert.Reference2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_v34) = v5 c
          ∧ r.2.mem ((c.tc : Thread Cert.Reference2Ideal.nD Cert.Reference2Ideal.τ).loc Cert.Reference2Ideal.main_v35) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_weights_sample [hKernel4Ideal : Cert.Kernel4Ideal.Facts] [hReference4Ideal : Cert.Reference4Ideal.Facts] [hPre_finite_weights_sample : Cert.Pre_finite_weights_sample.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_weights_sample m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)) (v3 : (c : Dev Cert.Kernel4Ideal.nD) → Buf (Elt Ideal) ((c.tc : Thread Cert.Kernel4Ideal.nD Cert.Kernel4Ideal.τ).loc Cert.Kernel4Ideal.main_v11_3)) (v4 : (c : Dev Cert.Kernel4Ideal.nD) → Buf (Elt Ideal) ((c.tc : Thread Cert.Kernel4Ideal.nD Cert.Kernel4Ideal.τ).loc Cert.Kernel4Ideal.main_v11_4)) (v5 : (c : Dev Cert.Kernel4Ideal.nD) → Buf (Elt Ideal) ((c.tc : Thread Cert.Kernel4Ideal.nD Cert.Kernel4Ideal.τ).loc Cert.Kernel4Ideal.main_v11_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_v11_3) = v3 c
          ∧ r.2.mem ((c.tc : Thread Cert.Kernel4Ideal.nD Cert.Kernel4Ideal.τ).loc Cert.Kernel4Ideal.main_v11_4) = v4 c
          ∧ r.2.mem ((c.tc : Thread Cert.Kernel4Ideal.nD Cert.Kernel4Ideal.τ).loc Cert.Kernel4Ideal.main_v11_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_v18) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite_scores_sample [hKernel9Ideal : Cert.Kernel9Ideal.Facts] [hReference9Ideal : Cert.Reference9Ideal.Facts] [hPre_finite_scores_sample : Cert.Pre_finite_scores_sample.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_scores_sample m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_weights : Cert.Pre_finite_weights.Facts) (hPre_finite_weights_sample : Cert.Pre_finite_weights_sample.Facts) (hPre_finite_scores : Cert.Pre_finite_scores.Facts) (hPre_finite_scores_sample : Cert.Pre_finite_scores_sample.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_weights (hKernel2Ideal := hKernel2Ideal) (hPre_finite_weights := hPre_finite_weights)
    ∧ quiescent_Reference2Ideal (hReference2Ideal := hReference2Ideal)
    ∧ quiescent_Reference2Ideal_pre_finite_weights (hReference2Ideal := hReference2Ideal) (hPre_finite_weights := hPre_finite_weights)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_weights_sample (hKernel4Ideal := hKernel4Ideal) (hPre_finite_weights_sample := hPre_finite_weights_sample)
    ∧ quiescent_Reference4Ideal (hReference4Ideal := hReference4Ideal)
    ∧ quiescent_Reference4Ideal_pre_finite_weights_sample (hReference4Ideal := hReference4Ideal) (hPre_finite_weights_sample := hPre_finite_weights_sample)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_scores_sample (hKernel9Ideal := hKernel9Ideal) (hPre_finite_scores_sample := hPre_finite_scores_sample)
    ∧ quiescent_Reference9Ideal (hReference9Ideal := hReference9Ideal)
    ∧ quiescent_Reference9Ideal_pre_finite_scores_sample (hReference9Ideal := hReference9Ideal) (hPre_finite_scores_sample := hPre_finite_scores_sample)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_weights (hKernel2Ideal := hKernel2Ideal) (hReference2Ideal := hReference2Ideal) (hPre_finite_weights := hPre_finite_weights)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_weights_sample (hKernel4Ideal := hKernel4Ideal) (hReference4Ideal := hReference4Ideal) (hPre_finite_weights_sample := hPre_finite_weights_sample)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_scores_sample (hKernel9Ideal := hKernel9Ideal) (hReference9Ideal := hReference9Ideal) (hPre_finite_scores_sample := hPre_finite_scores_sample)
-- ==== Pre_finite_scores.lean ====
abbrev S65536x512 : Shape := ⟨2, ![65536, 512]⟩
abbrev S65536x1024 : Shape := ⟨2, ![65536, 1024]⟩
abbrev S1x1024x1024 : Shape := ⟨3, ![1, 1024, 1024]⟩
abbrev S1x1024 : Shape := ⟨2, ![1, 1024]⟩
abbrev S8x256x1024 : Shape := ⟨3, ![8, 256, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn {F : FTy → Type} [FloatOps F] (main_arg0 : FVec F S65536x512 .f32) (main_arg1 : FVec F S65536x512 .f32) (main_arg2 : FVec F S65536x1024 .f32) (main_arg3 : FVec F S1x1024x1024 .f32) (main_arg4 : FVec F S1x1024 .f32) (main_arg5 : FVec F S1x1024x1024 .f32) (main_arg6 : FVec F S8x256x1024 .f32) (main_arg7 : FVec F S8x256x1024 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x1024 .f32 := Host.absf main_arg5
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : FVec F S8x256x1024 .f32 := Host.absf main_arg6
  let main_cst_2 : FVec F S_ .f32 := constant S_ .f32 0x7F800000#32
  let main_v9 : FVec F S8x256x1024 .f32 := broadcastInDim S8x256x1024 ![] bcast_S_S8x256x1024 main_cst_2
  let main_v10 : IVec S8x256x1024 1 := cmpf .olt main_v8 main_v9
  let main_c_3 : IVec S_ 1 := constantI S_ 1 1#1
  let main_v11 : IVec S_ 1 := (fun x v => Host.reduce IntOp.andi x v reducesTo_S8x256x1024_S_d0_1_2 h_S_) main_v10 main_c_3
  let main_v12 : IVec S_ 1 := andi main_v7 main_v11
  let main_v13 : IVec S_ 1 := andi main_v3 main_v12
  main_v13
-- ==== Pre_finite_scores_sample.lean ====
abbrev S128x1024 : Shape := ⟨2, ![128, 1024]⟩
abbrev S1x128x256x4x256 : Shape := ⟨5, ![1, 128, 256, 4, 256]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1x128x256x4x256 : S_.BroadcastsInDim S1x128x256x4x256 (![] : Fin 0 → Fin S1x128x256x4x256.rank)
  reducesTo_S1x128x256x4x256_S_d0_1_2_3_4 : S1x128x256x4x256.ReducesTo [0, 1, 2, 3, 4] S_

variable [Facts]

def fn {F : FTy → Type} [FloatOps F] (main_arg0 : FVec F S128x1024 .f32) (main_arg1 : FVec F S1x128x256x4x256 .f32) (main_arg2 : FVec F S1x128x256x4x256 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1x128x256x4x256 .f32 := Host.absf main_arg1
  let main_cst_0 : FVec F S_ .f32 := constant S_ .f32 0x7F800000#32
  let main_v5 : FVec F S1x128x256x4x256 .f32 := broadcastInDim S1x128x256x4x256 ![] bcast_S_S1x128x256x4x256 main_cst_0
  let main_v6 : IVec S1x128x256x4x256 1 := cmpf .olt main_v4 main_v5
  let main_c_1 : IVec S_ 1 := constantI S_ 1 1#1
  let main_v7 : IVec S_ 1 := (fun x v => Host.reduce IntOp.andi x v reducesTo_S1x128x256x4x256_S_d0_1_2_3_4 h_S_) main_v6 main_c_1
  let main_v8 : IVec S_ 1 := andi main_v3 main_v7
  main_v8
-- ==== Pre_finite_weights.lean ====
abbrev S8x8192x1024 : Shape := ⟨3, ![8, 8192, 1024]⟩
abbrev S1x1024 : Shape := ⟨2, ![1, 1024]⟩
abbrev S1x1024x3592 : Shape := ⟨3, ![1, 1024, 3592]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x3592 : S_.BroadcastsInDim S1x1024x3592 (![] : Fin 0 → Fin S1x1024x3592.rank)
  reducesTo_S1x1024x3592_S_d0_1_2 : S1x1024x3592.ReducesTo [0, 1, 2] S_

variable [Facts]

def fn {F : FTy → Type} [FloatOps F] (main_arg0 : FVec F S8x8192x1024 .f32) (main_arg1 : FVec F S1x1024 .f32) (main_arg2 : FVec F S1x1024x3592 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x3592 .f32 := Host.absf main_arg2
  let main_cst_0 : FVec F S_ .f32 := constant S_ .f32 0x7F800000#32
  let main_v5 : FVec F S1x1024x3592 .f32 := broadcastInDim S1x1024x3592 ![] bcast_S_S1x1024x3592 main_cst_0
  let main_v6 : IVec S1x1024x3592 1 := cmpf .olt main_v4 main_v5
  let main_c_1 : IVec S_ 1 := constantI S_ 1 1#1
  let main_v7 : IVec S_ 1 := (fun x v => Host.reduce IntOp.andi x v reducesTo_S1x1024x3592_S_d0_1_2 h_S_) main_v6 main_c_1
  let main_v8 : IVec S_ 1 := andi main_v3 main_v7
  main_v8
-- ==== Pre_finite_weights_sample.lean ====
abbrev S128x1x1024 : Shape := ⟨3, ![128, 1, 1024]⟩
abbrev S1x1024 : Shape := ⟨2, ![1, 1024]⟩
abbrev S1x1024x3592 : Shape := ⟨3, ![1, 1024, 3592]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x3592 : S_.BroadcastsInDim S1x1024x3592 (![] : Fin 0 → Fin S1x1024x3592.rank)
  reducesTo_S1x1024x3592_S_d0_1_2 : S1x1024x3592.ReducesTo [0, 1, 2] S_

variable [Facts]

def fn {F : FTy → Type} [FloatOps F] (main_arg0 : FVec F S128x1x1024 .f32) (main_arg1 : FVec F S1x1024 .f32) (main_arg2 : FVec F S1x1024x3592 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x3592 .f32 := Host.absf main_arg2
  let main_cst_0 : FVec F S_ .f32 := constant S_ .f32 0x7F800000#32
  let main_v5 : FVec F S1x1024x3592 .f32 := broadcastInDim S1x1024x3592 ![] bcast_S_S1x1024x3592 main_cst_0
  let main_v6 : IVec S1x1024x3592 1 := cmpf .olt main_v4 main_v5
  let main_c_1 : IVec S_ 1 := constantI S_ 1 1#1
  let main_v7 : IVec S_ 1 := (fun x v => Host.reduce IntOp.andi x v reducesTo_S1x1024x3592_S_d0_1_2 h_S_) main_v6 main_c_1
  let main_v8 : IVec S_ 1 := andi main_v3 main_v7
  main_v8
-- ==== Kernel.lean ====
abbrev S128x1536 : Shape := ⟨2, ![128, 1536]⟩
abbrev S128x512 : Shape := ⟨2, ![128, 512]⟩
abbrev S128x128 : Shape := ⟨2, ![128, 128]⟩
abbrev S1x128x3x1536 : Shape := ⟨4, ![1, 128, 3, 1536]⟩
abbrev S1x128x4x128x128 : Shape := ⟨5, ![1, 128, 4, 128, 128]⟩
abbrev S1x4x1536 : Shape := ⟨3, ![1, 4, 1536]⟩
abbrev S1x4 : Shape := ⟨2, ![1, 4]⟩
abbrev S1x128 : Shape := ⟨2, ![1, 128]⟩
abbrev S4 : Shape := ⟨1, ![4]⟩
abbrev S_ : Shape := ⟨0, ![]⟩
abbrev S128 : Shape := ⟨1, ![128]⟩
abbrev S128x1x1536 : Shape := ⟨3, ![128, 1, 1536]⟩
abbrev S128x1x512 : Shape := ⟨3, ![128, 1, 512]⟩
abbrev S128x1x128 : Shape := ⟨3, ![128, 1, 128]⟩
abbrev S128x3x1536 : Shape := ⟨3, ![128, 3, 1536]⟩
abbrev S128x4x128x128 : Shape := ⟨4, ![128, 4, 128, 128]⟩
abbrev S4x1536 : Shape := ⟨2, ![4, 1536]⟩
abbrev S1x1x1536 : Shape := ⟨3, ![1, 1, 1536]⟩
abbrev S1x1x512 : Shape := ⟨3, ![1, 1, 512]⟩
abbrev S1x1x128 : Shape := ⟨3, ![1, 1, 128]⟩
abbrev S1x3x1536 : Shape := ⟨3, ![1, 3, 1536]⟩
abbrev S1x4x128x128 : Shape := ⟨4, ![1, 4, 128, 128]⟩
abbrev S1x1536 : Shape := ⟨2, ![1, 1536]⟩
abbrev S3x1536 : Shape := ⟨2, ![3, 1536]⟩
abbrev S2x1536 : Shape := ⟨2, ![2, 1536]⟩
abbrev S1x2x1536 : Shape := ⟨3, ![1, 2, 1536]⟩
abbrev S1x512 : Shape := ⟨2, ![1, 512]⟩
abbrev S1 : Shape := ⟨1, ![1]⟩
abbrev S1x1 : Shape := ⟨2, ![1, 1]⟩
abbrev S1x1x128x128 : Shape := ⟨4, ![1, 1, 128, 128]⟩
abbrev S128x1 : Shape := ⟨2, ![128, 1]⟩

abbrev nBuf : Space → Nat
  | .hbm => 30
  | .vmem => 20
  | .smem => 0
  | _ => 0

abbrev bufTy : (tb : Table) → Fin (tcTables nBuf tb) → BufTy
  | .hbm, ⟨0, _⟩ => ⟨S128x1536, .f32⟩
  | .hbm, ⟨1, _⟩ => ⟨S128x512, .f32⟩
  | .hbm, ⟨2, _⟩ => ⟨S128x128, .f32⟩
  | .hbm, ⟨3, _⟩ => ⟨S1x128x3x1536, .f32⟩
  | .hbm, ⟨4, _⟩ => ⟨S1x128x4x128x128, .f32⟩
  | .hbm, ⟨5, _⟩ => ⟨S1x4x1536, .f32⟩
  | .hbm, ⟨6, _⟩ => ⟨S1x4, .f32⟩
  | .hbm, ⟨7, _⟩ => ⟨S1x4, .f32⟩
  | .hbm, ⟨8, _⟩ => ⟨S1x128, .f32⟩
  | .hbm, ⟨9, _⟩ => ⟨S4, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S4, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S128, .f32⟩
  | .hbm, ⟨20, _⟩ => ⟨S128x1x1536, .f32⟩
  | .hbm, ⟨21, _⟩ => ⟨S128x1x512, .f32⟩
  | .hbm, ⟨22, _⟩ => ⟨S128x1x128, .f32⟩
  | .hbm, ⟨23, _⟩ => ⟨S128x3x1536, .f32⟩
  | .hbm, ⟨24, _⟩ => ⟨S128x4x128x128, .f32⟩
  | .hbm, ⟨25, _⟩ => ⟨S4x1536, .f32⟩
  | .hbm, ⟨26, _⟩ => ⟨S1x128, .f32⟩
  | .hbm, ⟨27, _⟩ => ⟨S128x1x512, .f32⟩
  | .hbm, ⟨28, _⟩ => ⟨S128x4x128x128, .f32⟩
  | .hbm, ⟨29, _⟩ => ⟨S128x3x1536, .f32⟩
  | .local _ .vmem, ⟨0, _⟩ => ⟨S1x1x1536, .f32⟩
  | .local _ .vmem, ⟨1, _⟩ => ⟨S1x1x1536, .f32⟩
  | .local _ .vmem, ⟨2, _⟩ => ⟨S1x1x512, .f32⟩
  | .local _ .vmem, ⟨3, _⟩ => ⟨S1x1x512, .f32⟩
  | .local _ .vmem, ⟨4, _⟩ => ⟨S1x1x128, .f32⟩
  | .local _ .vmem, ⟨5, _⟩ => ⟨S1x1x128, .f32⟩
  | .local _ .vmem, ⟨6, _⟩ => ⟨S1x3x1536, .f32⟩
  | .local _ .vmem, ⟨7, _⟩ => ⟨S1x3x1536, .f32⟩
  | .local _ .vmem, ⟨8, _⟩ => ⟨S1x4x128x128, .f32⟩
  | .local _ .vmem, ⟨9, _⟩ => ⟨S1x4x128x128, .f32⟩
  | .local _ .vmem, ⟨10, _⟩ => ⟨S4x1536, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x1x512, .f32⟩
  | .local _ .vmem, ⟨15, _⟩ => ⟨S1x1x512, .f32⟩
  | .local _ .vmem, ⟨16, _⟩ => ⟨S1x4x128x128, .f32⟩
  | .local _ .vmem, ⟨17, _⟩ => ⟨S1x4x128x128, .f32⟩
  | .local _ .vmem, ⟨18, _⟩ => ⟨S1x3x1536, .f32⟩
  | .local _ .vmem, ⟨19, _⟩ => ⟨S1x3x1536, .f32⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S128x1536 : Shape := ⟨2, ![128, 1536]⟩
abbrev S128x512 : Shape := ⟨2, ![128, 512]⟩
abbrev S128x128 : Shape := ⟨2, ![128, 128]⟩
abbrev S1x128x3x1536 : Shape := ⟨4, ![1, 128, 3, 1536]⟩
abbrev S1x128x4x128x128 : Shape := ⟨5, ![1, 128, 4, 128, 128]⟩
abbrev S1x4x1536 : Shape := ⟨3, ![1, 4, 1536]⟩
abbrev S1x4 : Shape := ⟨2, ![1, 4]⟩
abbrev S1x128 : Shape := ⟨2, ![1, 128]⟩
abbrev S128x1x1536 : Shape := ⟨3, ![128, 1, 1536]⟩
abbrev S128x3x1536 : Shape := ⟨3, ![128, 3, 1536]⟩
abbrev S128x4x1536 : Shape := ⟨3, ![128, 4, 1536]⟩
abbrev S1x1x1536 : Shape := ⟨3, ![1, 1, 1536]⟩
abbrev S1536 : Shape := ⟨1, ![1536]⟩
abbrev S_ : Shape := ⟨0, ![]⟩
abbrev S128x1x512 : Shape := ⟨3, ![128, 1, 512]⟩
abbrev S128x1x4x128 : Shape := ⟨4, ![128, 1, 4, 128]⟩
abbrev S128x1x4 : Shape := ⟨3, ![128, 1, 4]⟩
abbrev S128x1x4x1 : Shape := ⟨4, ![128, 1, 4, 1]⟩
abbrev S128x4 : Shape := ⟨2, ![128, 4]⟩
abbrev S4 : Shape := ⟨1, ![4]⟩
abbrev S1x1x4 : Shape := ⟨3, ![1, 1, 4]⟩
abbrev S128x4x128 : Shape := ⟨3, ![128, 4, 128]⟩
abbrev S128x4x128x128 : Shape := ⟨4, ![128, 4, 128, 128]⟩
abbrev S128x4x1 : Shape := ⟨3, ![128, 4, 1]⟩
abbrev S128x4x1x1 : Shape := ⟨4, ![128, 4, 1, 1]⟩
abbrev S128x4x128x1 : Shape := ⟨4, ![128, 4, 128, 1]⟩
abbrev S128x4x1x128 : Shape := ⟨4, ![128, 4, 1, 128]⟩
abbrev S128 : Shape := ⟨1, ![128]⟩
abbrev S1x1x128 : Shape := ⟨3, ![1, 1, 128]⟩

abbrev nBuf : Space → Nat
  | .hbm => 182
  | .vmem => 0
  | .smem => 0
  | _ => 0

abbrev hbmTy0_0 (i : Nat) : BufTy := match i % 128 with
  | 0 => ⟨S128x1536, .f32⟩
  | 1 => ⟨S128x512, .f32⟩
  | 2 => ⟨S128x128, .f32⟩
  | 3 => ⟨S1x128x3x1536, .f32⟩
  | 4 => ⟨S1x128x4x128x128, .f32⟩
  | 5 => ⟨S1x4x1536, .f32⟩
  | 6 => ⟨S1x4, .f32⟩
  | 7 => ⟨S1x4, .f32⟩
  | 8 => ⟨S1x128, .f32⟩
  | 9 => ⟨S128x1x1536, .f32⟩
  | 10 => ⟨S128x3x1536, .f32⟩
  | 11 => ⟨S128x4x1536, .f32⟩
  | 12 => ⟨S128x1x1536, .f32⟩
  | 13 => ⟨S1x1x1536, .f32⟩
  | 14 => ⟨S1536, .f32⟩
  | 15 => ⟨S1x1x1536, .f32⟩
  | 16 => ⟨S128x1x1536, .f32⟩
  | 17 => ⟨S128x1x1536, .f32⟩
  | 18 => ⟨S_, .f32⟩
  | 19 => ⟨S128x1x1536, .f32⟩
  | 20 => ⟨S128x1x1536, .f32⟩
  | 21 => ⟨S128x1x1536, .f32⟩
  | 22 => ⟨S1x1x1536, .f32⟩
  | 23 => ⟨S1536, .f32⟩
  | 24 => ⟨S1x1x1536, .f32⟩
  | 25 => ⟨S128x1x1536, .f32⟩
  | 26 => ⟨S128x1x1536, .f32⟩
  | 27 => ⟨S128x1x1536, .f32⟩
  | 28 => ⟨S128x1x1536, .f32⟩
  | 29 => ⟨S1x1x1536, .f32⟩
  | 30 => ⟨S1536, .f32⟩
  | 31 => ⟨S1x1x1536, .f32⟩
  | 32 => ⟨S128x1x1536, .f32⟩
  | 33 => ⟨S128x1x1536, .f32⟩
  | 34 => ⟨S128x1x1536, .f32⟩
  | 35 => ⟨S128x1x1536, .f32⟩
  | 36 => ⟨S1x1x1536, .f32⟩
  | 37 => ⟨S1536, .f32⟩
  | 38 => ⟨S1x1x1536, .f32⟩
  | 39 => ⟨S128x1x1536, .f32⟩
  | 40 => ⟨S128x1x1536, .f32⟩
  | 41 => ⟨S128x1x1536, .f32⟩
  | 42 => ⟨S128x3x1536, .f32⟩
  | 43 => ⟨S128x1x1536, .f32⟩
  | 44 => ⟨S128x1x1536, .f32⟩
  | 45 => ⟨S_, .f32⟩
  | 46 => ⟨S128x1x1536, .f32⟩
  | 47 => ⟨S128x1x1536, .f32⟩
  | 48 => ⟨S_, .f32⟩
  | 49 => ⟨S128x1x1536, .f32⟩
  | 50 => ⟨S128x1x1536, .f32⟩
  | 51 => ⟨S128x1x1536, .f32⟩
  | 52 => ⟨S128x1x512, .f32⟩
  | 53 => ⟨S128x1x512, .f32⟩
  | 54 => ⟨S128x1x512, .f32⟩
  | 55 => ⟨S128x1x4x128, .f32⟩
  | 56 => ⟨S128x1x4x128, .f32⟩
  | 57 => ⟨S_, .f32⟩
  | 58 => ⟨S128x1x4, .f32⟩
  | 59 => ⟨S128x1x4x1, .f32⟩
  | 60 => ⟨S_, .f32⟩
  | 61 => ⟨S128x1x4x1, .f32⟩
  | 62 => ⟨S128x1x4x1, .f32⟩
  | 63 => ⟨S128x1x4x1, .f32⟩
  | 64 => ⟨S128x1x4x128, .f32⟩
  | 65 => ⟨S128x1x4x128, .f32⟩
  | 66 => ⟨S_, .f32⟩
  | 67 => ⟨S128x1x4x128, .f32⟩
  | 68 => ⟨S128x1x4x128, .f32⟩
  | 69 => ⟨S128x1x4x128, .f32⟩
  | 70 => ⟨S128x1x4x128, .f32⟩
  | 71 => ⟨S_, .f32⟩
  | 72 => ⟨S128x1x4, .f32⟩
  | 73 => ⟨S128x1x4x1, .f32⟩
  | 74 => ⟨S_, .f32⟩
  | 75 => ⟨S128x1x4x1, .f32⟩
  | 76 => ⟨S128x1x4x1, .f32⟩
  | 77 => ⟨S128x1x4x1, .f32⟩
  | 78 => ⟨S128x1x4x128, .f32⟩
  | 79 => ⟨S128x1x4x128, .f32⟩
  | 80 => ⟨S128x1x4x128, .f32⟩
  | 81 => ⟨S128x4, .f32⟩
  | 82 => ⟨S128x1x4, .f32⟩
  | 83 => ⟨S128x4, .f32⟩
  | 84 => ⟨S128x1x4, .f32⟩
  | 85 => ⟨S128x1x4, .f32⟩
  | 86 => ⟨S128x1x4, .f32⟩
  | 87 => ⟨S_, .f32⟩
  | 88 => ⟨S128x1x4, .f32⟩
  | 89 => ⟨S128x1x4, .f32⟩
  | 90 => ⟨S_, .f32⟩
  | 91 => ⟨S128x1x4, .f32⟩
  | 92 => ⟨S128x1x4, .f32⟩
  | 93 => ⟨S4, .f32⟩
  | 94 => ⟨S4, .f32⟩
  | 95 => ⟨S4, .f32⟩
  | 96 => ⟨S4, .f32⟩
  | 97 => ⟨S1x1x4, .f32⟩
  | 98 => ⟨S128x1x4, .f32⟩
  | 99 => ⟨S128x1x4, .f32⟩
  | 100 => ⟨S_, .f32⟩
  | 101 => ⟨S128x1x4, .f32⟩
  | 102 => ⟨S128x1x4, .f32⟩
  | 103 => ⟨S128x1x4, .f32⟩
  | 104 => ⟨S128x1x4, .f32⟩
  | 105 => ⟨S128x1x4, .i1⟩
  | 106 => ⟨S128x1x4, .f32⟩
  | 107 => ⟨S128x1x4, .f32⟩
  | 108 => ⟨S128x1x4, .f32⟩
  | 109 => ⟨S128x1x4, .f32⟩
  | 110 => ⟨S128x1x4, .f32⟩
  | 111 => ⟨S128x1x4, .f32⟩
  | 112 => ⟨S128x1x4, .f32⟩
  | 113 => ⟨S128x1x4, .f32⟩
  | 114 => ⟨S1x1x4, .f32⟩
  | 115 => ⟨S128x1x4, .f32⟩
  | 116 => ⟨S128x1x4, .f32⟩
  | 117 => ⟨S128x4x128, .f32⟩
  | 118 => ⟨S128x4x128, .f32⟩
  | 119 => ⟨S128x4x128, .f32⟩
  | 120 => ⟨S128x4, .f32⟩
  | 121 => ⟨S128x4, .f32⟩
  | 122 => ⟨S128x4x128x128, .f32⟩
  | 123 => ⟨S128x4x1, .f32⟩
  | 124 => ⟨S128x4x128, .f32⟩
  | 125 => ⟨S128x4x128, .f32⟩
  | 126 => ⟨S128x4, .f32⟩
  | 127 => ⟨S128x4, .f32⟩
  | _ => ⟨S128x1536, .f32⟩

abbrev hbmTy0_1 (i : Nat) : BufTy := match i % 128 with
  | 0 => ⟨S128x4x1, .f32⟩
  | 1 => ⟨S128x4x128, .f32⟩
  | 2 => ⟨S128x4x128, .f32⟩
  | 3 => ⟨S128x4, .f32⟩
  | 4 => ⟨S128x4x128, .f32⟩
  | 5 => ⟨S128x4x128, .f32⟩
  | 6 => ⟨S128x4, .f32⟩
  | 7 => ⟨S128x4x1, .f32⟩
  | 8 => ⟨S128x4x128, .f32⟩
  | 9 => ⟨S128x4x128, .f32⟩
  | 10 => ⟨S128x4x128, .f32⟩
  | 11 => ⟨S128x4x1, .f32⟩
  | 12 => ⟨S128x4x128, .f32⟩
  | 13 => ⟨S128x4x128, .f32⟩
  | 14 => ⟨S128x4x128, .f32⟩
  | 15 => ⟨S128x4, .f32⟩
  | 16 => ⟨S128x4x1x1, .f32⟩
  | 17 => ⟨S128x4x128x128, .f32⟩
  | 18 => ⟨S128x4x128x128, .f32⟩
  | 19 => ⟨S128x4x128x1, .f32⟩
  | 20 => ⟨S128x4x1x128, .f32⟩
  | 21 => ⟨S128x4x128x128, .f32⟩
  | 22 => ⟨S128x4x128x128, .f32⟩
  | 23 => ⟨S128x4x128x128, .f32⟩
  | 24 => ⟨S128x4x128x128, .f32⟩
  | 25 => ⟨S128x4x128, .f32⟩
  | 26 => ⟨S_, .f32⟩
  | 27 => ⟨S128x4, .f32⟩
  | 28 => ⟨S128x4x1, .f32⟩
  | 29 => ⟨S_, .f32⟩
  | 30 => ⟨S128x4x1, .f32⟩
  | 31 => ⟨S128x4x1, .f32⟩
  | 32 => ⟨S_, .f32⟩
  | 33 => ⟨S128x4x1, .f32⟩
  | 34 => ⟨S128x4x1, .f32⟩
  | 35 => ⟨S128x4x1, .f32⟩
  | 36 => ⟨S128x4x128, .f32⟩
  | 37 => ⟨S128x4x128, .f32⟩
  | 38 => ⟨S128, .f32⟩
  | 39 => ⟨S1x1x128, .f32⟩
  | 40 => ⟨S128x4x128, .f32⟩
  | 41 => ⟨S128x4x128, .f32⟩
  | 42 => ⟨S128x512, .f32⟩
  | 43 => ⟨S128x512, .f32⟩
  | 44 => ⟨S_, .f32⟩
  | 45 => ⟨S128x512, .f32⟩
  | 46 => ⟨S128x512, .f32⟩
  | 47 => ⟨S_, .f32⟩
  | 48 => ⟨S128x512, .f32⟩
  | 49 => ⟨S128x512, .f32⟩
  | 50 => ⟨S128x512, .f32⟩
  | 51 => ⟨S128x4x128, .f32⟩
  | 52 => ⟨S128x4x128, .f32⟩
  | 53 => ⟨S128x1x512, .f32⟩
  | _ => ⟨S128x1536, .f32⟩

abbrev hbmTy (i : Nat) : BufTy := match i / 128 with
  | 0 => hbmTy0_0 i
  | 1 => hbmTy0_1 i
  | _ => ⟨S128x1536, .f32⟩

abbrev bufTy : (tb : Table) → Fin (tcTables nBuf tb) → BufTy
  | .hbm, ⟨i, _⟩ => hbmTy i
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_5 : Ref sig .tc := ⟨.hbm, 87, rfl⟩
abbrev main_v64 : Ref sig .tc := ⟨.hbm, 88, rfl⟩
abbrev main_v65 : Ref sig .tc := ⟨.hbm, 89, rfl⟩
abbrev main_cst_6 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_7 : Ref sig .tc := ⟨.hbm, 154, rfl⟩
abbrev main_v116 : Ref sig .tc := ⟨.hbm, 155, rfl⟩
abbrev main_v117 : Ref sig .tc := ⟨.hbm, 156, rfl⟩
abbrev main_cst_8 : Ref sig .tc := ⟨.hbm, 157, rfl⟩
abbrev main_v118 : Ref sig .tc := ⟨.hbm, 158, rfl⟩
abbrev main_v119 : Ref sig .tc := ⟨.hbm, 159, rfl⟩
abbrev main_cst_9 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_call2_v0 : Ref sig .tc := ⟨.hbm, 170, rfl⟩
abbrev main_call2_v1 : Ref sig .tc := ⟨.hbm, 171, rfl⟩
abbrev main_call2_cst : Ref sig .tc := ⟨.hbm, 172, rfl⟩
abbrev main_call2_v2 : Ref sig .tc := ⟨.hbm, 173, rfl⟩
abbrev main_call2_v3 : Ref sig .tc := ⟨.hbm, 174, rfl⟩
abbrev main_call2_cst_0 : Ref sig .tc := ⟨.hbm, 175, rfl⟩
abbrev main_call2_v4 : Ref sig .tc := ⟨.hbm, 176, rfl⟩
abbrev main_call2_v5 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩

abbrev nD : Nat := 1
abbrev τ : Topo := Topo.v7x

variable {F : FTy → Type} [FloatOps F]
-- ==== Kernel2.lean ====
abbrev S8x8192x1024 : Shape := ⟨3, ![8, 8192, 1024]⟩
abbrev S1x1024 : Shape := ⟨2, ![1, 1024]⟩
abbrev S1x1024x3592 : Shape := ⟨3, ![1, 1024, 3592]⟩
abbrev S1024x3592 : Shape := ⟨2, ![1024, 3592]⟩
abbrev S_ : Shape := ⟨0, ![]⟩
abbrev S1024x3712 : Shape := ⟨2, ![1024, 3712]⟩
abbrev S1024x512 : Shape := ⟨2, ![1024, 512]⟩
abbrev S65536x1024 : Shape := ⟨2, ![65536, 1024]⟩
abbrev S1024 : Shape := ⟨1, ![1024]⟩
abbrev S65536x512 : Shape := ⟨2, ![65536, 512]⟩
abbrev S8x8x64x8192 : Shape := ⟨4, ![8, 8, 64, 8192]⟩
abbrev S65536x1536 : Shape := ⟨2, ![65536, 1536]⟩
abbrev S65536x128 : Shape := ⟨2, ![65536, 128]⟩
abbrev S128x2x1024 : Shape := ⟨3, ![128, 2, 1024]⟩
abbrev S512x1024 : Shape := ⟨2, ![512, 1024]⟩
abbrev S512x512 : Shape := ⟨2, ![512, 512]⟩
abbrev S1x8x64x512 : Shape := ⟨4, ![1, 8, 64, 512]⟩
abbrev S512x1536 : Shape := ⟨2, ![512, 1536]⟩
abbrev S512x128 : Shape := ⟨2, ![512, 128]⟩
abbrev S1x2x1024 : Shape := ⟨3, ![1, 2, 1024]⟩
abbrev S512 : Shape := ⟨1, ![512]⟩
abbrev S512x1 : Shape := ⟨2, ![512, 1]⟩
abbrev S256x1024 : Shape := ⟨2, ![256, 1024]⟩
abbrev S1x1x1024 : Shape := ⟨3, ![1, 1, 1024]⟩
abbrev S8x64x512 : Shape := ⟨3, ![8, 64, 512]⟩
abbrev S1024x128 : Shape := ⟨2, ![1024, 128]⟩

abbrev nBuf : Space → Nat
  | .hbm => 23
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x3592, .f32⟩
  | .hbm, ⟨3, _⟩ => ⟨S1024x3592, .f32⟩
  | .hbm, ⟨4, _⟩ => ⟨S_, .i32⟩
  | .hbm, ⟨5, _⟩ => ⟨S_, .f32⟩
  | .hbm, ⟨6, _⟩ => ⟨S1024x3712, .f32⟩
  | .hbm, ⟨7, _⟩ => ⟨S1024x3712, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .f32⟩
  | .hbm, ⟨12, _⟩ => ⟨S1024x512, .bf16⟩
  | .hbm, ⟨13, _⟩ => ⟨S65536x1024, .f32⟩
  | .hbm, ⟨14, _⟩ => ⟨S1024, .f32⟩
  | .hbm, ⟨15, _⟩ => ⟨S1x1024, .f32⟩
  | .hbm, ⟨16, _⟩ => ⟨S65536x512, .f32⟩
  | .hbm, ⟨17, _⟩ => ⟨S8x8x64x8192, .f32⟩
  | .hbm, ⟨18, _⟩ => ⟨S8x8x64x8192, .f32⟩
  | .hbm, ⟨19, _⟩ => ⟨S65536x1536, .f32⟩
  | .hbm, ⟨20, _⟩ => ⟨S65536x512, .f32⟩
  | .hbm, ⟨21, _⟩ => ⟨S65536x128, .f32⟩
  | .hbm, ⟨22, _⟩ => ⟨S128x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S1x8x64x512, .f32⟩
  | .local _ .vmem, ⟨8, _⟩ => ⟨S1x8x64x512, .f32⟩
  | .local _ .vmem, ⟨9, _⟩ => ⟨S1x8x64x512, .f32⟩
  | .local _ .vmem, ⟨10, _⟩ => ⟨S1x8x64x512, .f32⟩
  | .local _ .vmem, ⟨11, _⟩ => ⟨S512x1536, .f32⟩
  | .local _ .vmem, ⟨12, _⟩ => ⟨S512x1536, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | .local _ .vmem, ⟨17, _⟩ => ⟨S1x2x1024, .f32⟩
  | .local _ .vmem, ⟨18, _⟩ => ⟨S1x2x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x8192x1024 : Shape := ⟨3, ![8, 8192, 1024]⟩
abbrev S1x1024 : Shape := ⟨2, ![1, 1024]⟩
abbrev S1x1024x3592 : Shape := ⟨3, ![1, 1024, 3592]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x3592 : Shape := ⟨2, ![1024, 3592]⟩
abbrev S8x8192x3592 : Shape := ⟨3, ![8, 8192, 3592]⟩
abbrev S8x8192x512 : Shape := ⟨3, ![8, 8192, 512]⟩
abbrev S8x8192x8x64 : Shape := ⟨4, ![8, 8192, 8, 64]⟩
abbrev S8x8192x1536 : Shape := ⟨3, ![8, 8192, 1536]⟩
abbrev S8x8192x8 : Shape := ⟨3, ![8, 8192, 8]⟩
abbrev S8x8192x128 : Shape := ⟨3, ![8, 8192, 128]⟩
abbrev S8x32x256x1024 : Shape := ⟨4, ![8, 32, 256, 1024]⟩
abbrev S8x32x1024 : Shape := ⟨3, ![8, 32, 1024]⟩
abbrev S65536x512 : Shape := ⟨2, ![65536, 512]⟩
abbrev S8x8x64x8192 : Shape := ⟨4, ![8, 8, 64, 8192]⟩
abbrev S65536x1536 : Shape := ⟨2, ![65536, 1536]⟩
abbrev S65536x128 : Shape := ⟨2, ![65536, 128]⟩
abbrev S128x2x1024 : Shape := ⟨3, ![128, 2, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x3592, .f32⟩
  | .hbm, ⟨3, _⟩ => ⟨S1024, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S1024x3592, .f32⟩
  | .hbm, ⟨21, _⟩ => ⟨S8x8192x3592, .f32⟩
  | .hbm, ⟨22, _⟩ => ⟨S8x8192x512, .f32⟩
  | .hbm, ⟨23, _⟩ => ⟨S8x8192x512, .f32⟩
  | .hbm, ⟨24, _⟩ => ⟨S8x8192x8x64, .f32⟩
  | .hbm, ⟨25, _⟩ => ⟨S8x8192x512, .f32⟩
  | .hbm, ⟨26, _⟩ => ⟨S8x8192x8x64, .f32⟩
  | .hbm, ⟨27, _⟩ => ⟨S8x8192x1536, .f32⟩
  | .hbm, ⟨28, _⟩ => ⟨S8x8192x512, .f32⟩
  | .hbm, ⟨29, _⟩ => ⟨S8x8192x8, .f32⟩
  | .hbm, ⟨30, _⟩ => ⟨S_, .i32⟩
  | .hbm, ⟨31, _⟩ => ⟨S_, .f32⟩
  | .hbm, ⟨32, _⟩ => ⟨S8x8192x128, .f32⟩
  | .hbm, ⟨33, _⟩ => ⟨S8x32x256x1024, .f32⟩
  | .hbm, ⟨34, _⟩ => ⟨S_, .f32⟩
  | .hbm, ⟨35, _⟩ => ⟨S8x32x1024, .f32⟩
  | .hbm, ⟨36, _⟩ => ⟨S_, .f32⟩
  | .hbm, ⟨37, _⟩ => ⟨S8x32x1024, .f32⟩
  | .hbm, ⟨38, _⟩ => ⟨S8x32x1024, .f32⟩
  | .hbm, ⟨39, _⟩ => ⟨S65536x512, .f32⟩
  | .hbm, ⟨40, _⟩ => ⟨S8x8x64x8192, .f32⟩
  | .hbm, ⟨41, _⟩ => ⟨S8x8x64x8192, .f32⟩
  | .hbm, ⟨42, _⟩ => ⟨S65536x1536, .f32⟩
  | .hbm, ⟨43, _⟩ => ⟨S65536x512, .f32⟩
  | .hbm, ⟨44, _⟩ => ⟨S65536x128, .f32⟩
  | .hbm, ⟨45, _⟩ => ⟨S128x2x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel3.lean ====
abbrev S8x256x1024 : Shape := ⟨3, ![8, 256, 1024]⟩
abbrev S1x1024 : Shape := ⟨2, ![1, 1024]⟩
abbrev S1x1024x2048 : Shape := ⟨3, ![1, 1024, 2048]⟩
abbrev S1024x2048 : Shape := ⟨2, ![1024, 2048]⟩
abbrev S2048x1024 : Shape := ⟨2, ![2048, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S1024x2048, .f32⟩
  | .hbm, ⟨4, _⟩ => ⟨S1024x2048, .bf16⟩
  | .hbm, ⟨5, _⟩ => ⟨S2048x1024, .f32⟩
  | .hbm, ⟨6, _⟩ => ⟨S1024, .f32⟩
  | .hbm, ⟨7, _⟩ => ⟨S1x1024, .f32⟩
  | .hbm, ⟨8, _⟩ => ⟨S2048x1024, .f32⟩
  | .hbm, ⟨9, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x256x1024 : Shape := ⟨3, ![8, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x2048 : Shape := ⟨2, ![1024, 2048]⟩
abbrev S8x256x2048 : Shape := ⟨3, ![8, 256, 2048]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x2048, .f32⟩
  | .hbm, ⟨21, _⟩ => ⟨S8x256x2048, .f32⟩
  | .hbm, ⟨22, _⟩ => ⟨S8x256x1024, .f32⟩
  | .hbm, ⟨23, _⟩ => ⟨S2048x1024, .f32⟩
  | .hbm, ⟨24, _⟩ => ⟨S8x256x1024, .f32⟩
  | .hbm, ⟨25, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S128x1x1024 : Shape := ⟨3, ![128, 1, 1024]⟩
abbrev S1x1024 : Shape := ⟨2, ![1, 1024]⟩
abbrev S1x1024x3592 : Shape := ⟨3, ![1, 1024, 3592]⟩
abbrev S1024x3592 : Shape := ⟨2, ![1024, 3592]⟩
abbrev S_ : Shape := ⟨0, ![]⟩
abbrev S1024x3712 : Shape := ⟨2, ![1024, 3712]⟩
abbrev S1024x512 : Shape := ⟨2, ![1024, 512]⟩
abbrev S128x1024 : Shape := ⟨2, ![128, 1024]⟩
abbrev S1024 : Shape := ⟨1, ![1024]⟩
abbrev S128x512 : Shape := ⟨2, ![128, 512]⟩
abbrev S128x1536 : Shape := ⟨2, ![128, 1536]⟩
abbrev S128x128 : Shape := ⟨2, ![128, 128]⟩
abbrev S128 : Shape := ⟨1, ![128]⟩
abbrev S128x1 : Shape := ⟨2, ![128, 1]⟩
abbrev S1024x128 : Shape := ⟨2, ![1024, 128]⟩

abbrev nBuf : Space → Nat
  | .hbm => 22
  | .vmem => 10
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x3592, .f32⟩
  | .hbm, ⟨3, _⟩ => ⟨S1024x3592, .f32⟩
  | .hbm, ⟨4, _⟩ => ⟨S_, .i32⟩
  | .hbm, ⟨5, _⟩ => ⟨S_, .f32⟩
  | .hbm, ⟨6, _⟩ => ⟨S1024x3712, .f32⟩
  | .hbm, ⟨7, _⟩ => ⟨S1024x3712, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .f32⟩
  | .hbm, ⟨12, _⟩ => ⟨S1024x512, .bf16⟩
  | .hbm, ⟨13, _⟩ => ⟨S128x1024, .f32⟩
  | .hbm, ⟨14, _⟩ => ⟨S1024, .f32⟩
  | .hbm, ⟨15, _⟩ => ⟨S1x1024, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S128x1536, .f32⟩
  | .hbm, ⟨20, _⟩ => ⟨S128x512, .f32⟩
  | .hbm, ⟨21, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x3712, .bf16⟩
  | .local _ .vmem, ⟨3, _⟩ => ⟨S1024x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x1536, .f32⟩
  | .local _ .vmem, ⟨8, _⟩ => ⟨S128x512, .f32⟩
  | .local _ .vmem, ⟨9, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference4Ideal.lean ====
abbrev S128x1x1024 : Shape := ⟨3, ![128, 1, 1024]⟩
abbrev S1x1024 : Shape := ⟨2, ![1, 1024]⟩
abbrev S1x1024x3592 : Shape := ⟨3, ![1, 1024, 3592]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩
abbrev S1024x3592 : Shape := ⟨2, ![1024, 3592]⟩
abbrev S128x3592 : Shape := ⟨2, ![128, 3592]⟩
abbrev S128x8 : Shape := ⟨2, ![128, 8]⟩
abbrev S128x128 : Shape := ⟨2, ![128, 128]⟩
abbrev S128x512 : Shape := ⟨2, ![128, 512]⟩
abbrev S128x1536 : Shape := ⟨2, ![128, 1536]⟩

abbrev nBuf : Space → Nat
  | .hbm => 32
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x3592, .f32⟩
  | .hbm, ⟨3, _⟩ => ⟨S1024, .f32⟩
  | .hbm, ⟨4, _⟩ => ⟨S128x1x1024, .f32⟩
  | .hbm, ⟨5, _⟩ => ⟨S_, .f32⟩
  | .hbm, ⟨6, _⟩ => ⟨S128x1, .f32⟩
  | .hbm, ⟨7, _⟩ => ⟨S128x1x1, .f32⟩
  | .hbm, ⟨8, _⟩ => ⟨S_, .f32⟩
  | .hbm, ⟨9, _⟩ => ⟨S128x1x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S128x1x1, .f32⟩
  | .hbm, ⟨15, _⟩ => ⟨S128x1x1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S128x1024, .f32⟩
  | .hbm, ⟨21, _⟩ => ⟨S1024x3592, .f32⟩
  | .hbm, ⟨22, _⟩ => ⟨S128x3592, .f32⟩
  | .hbm, ⟨23, _⟩ => ⟨S128x8, .f32⟩
  | .hbm, ⟨24, _⟩ => ⟨S_, .i32⟩
  | .hbm, ⟨25, _⟩ => ⟨S_, .f32⟩
  | .hbm, ⟨26, _⟩ => ⟨S128x128, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S128x1536, .f32⟩
  | .hbm, ⟨31, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S65536x1024 : Shape := ⟨2, ![65536, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1x1024x1024, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1024x5632, .f32⟩
  | .hbm, ⟨11, _⟩ => ⟨S1024x5632, .bf16⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S65536x1024 : Shape := ⟨2, ![65536, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1024x5632 : Shape := ⟨2, ![1024, 5632]⟩
abbrev S65536x5632 : Shape := ⟨2, ![65536, 5632]⟩
abbrev S65536x2816 : Shape := ⟨2, ![65536, 2816]⟩
abbrev S2816x1024 : Shape := ⟨2, ![2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1x1024x1024, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1024, .f32⟩
  | .hbm, ⟨7, _⟩ => ⟨S1024x1024, .f32⟩
  | .hbm, ⟨8, _⟩ => ⟨S65536x1024, .f32⟩
  | .hbm, ⟨9, _⟩ => ⟨S65536x1024, .f32⟩
  | .hbm, ⟨10, _⟩ => ⟨S1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S1024x5632, .f32⟩
  | .hbm, ⟨28, _⟩ => ⟨S65536x5632, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S_, .f32⟩
  | .hbm, ⟨33, _⟩ => ⟨S65536x2816, .f32⟩
  | .hbm, ⟨34, _⟩ => ⟨S65536x2816, .f32⟩
  | .hbm, ⟨35, _⟩ => ⟨S_, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S2816x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel6.lean ====
abbrev S128x1024 : Shape := ⟨2, ![128, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 17
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1024x1024, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1024x5632, .f32⟩
  | .hbm, ⟨11, _⟩ => ⟨S1024x5632, .bf16⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S128x1024 : Shape := ⟨2, ![128, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1024x5632 : Shape := ⟨2, ![1024, 5632]⟩
abbrev S128x5632 : Shape := ⟨2, ![128, 5632]⟩
abbrev S128x2816 : Shape := ⟨2, ![128, 2816]⟩
abbrev S2816x1024 : Shape := ⟨2, ![2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1024x1024, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1024, .f32⟩
  | .hbm, ⟨7, _⟩ => ⟨S1024x1024, .f32⟩
  | .hbm, ⟨8, _⟩ => ⟨S128x1024, .f32⟩
  | .hbm, ⟨9, _⟩ => ⟨S128x1024, .f32⟩
  | .hbm, ⟨10, _⟩ => ⟨S1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S1024x5632, .f32⟩
  | .hbm, ⟨28, _⟩ => ⟨S128x5632, .f32⟩
  | .hbm, ⟨29, _⟩ => ⟨S128x2816, .f32⟩
  | .hbm, ⟨30, _⟩ => ⟨S128x2816, .f32⟩
  | .hbm, ⟨31, _⟩ => ⟨S128x2816, .f32⟩
  | .hbm, ⟨32, _⟩ => ⟨S_, .f32⟩
  | .hbm, ⟨33, _⟩ => ⟨S128x2816, .f32⟩
  | .hbm, ⟨34, _⟩ => ⟨S128x2816, .f32⟩
  | .hbm, ⟨35, _⟩ => ⟨S_, .f32⟩
  | .hbm, ⟨36, _⟩ => ⟨S128x2816, .f32⟩
  | .hbm, ⟨37, _⟩ => ⟨S128x2816, .f32⟩
  | .hbm, ⟨38, _⟩ => ⟨S128x2816, .f32⟩
  | .hbm, ⟨39, _⟩ => ⟨S128x2816, .f32⟩
  | .hbm, ⟨40, _⟩ => ⟨S128x2816, .f32⟩
  | .hbm, ⟨41, _⟩ => ⟨S2816x1024, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128, .f32⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S_, .f32⟩
  | .hbm, ⟨52, _⟩ => ⟨S128x1, .f32⟩
  | .hbm, ⟨53, _⟩ => ⟨S128x1, .f32⟩
  | .hbm, ⟨54, _⟩ => ⟨S128x1, .f32⟩
  | .hbm, ⟨55, _⟩ => ⟨S128x1024, .f32⟩
  | .hbm, ⟨56, _⟩ => ⟨S128x1024, .f32⟩
  | .hbm, ⟨57, _⟩ => ⟨S1x1024, .f32⟩
  | .hbm, ⟨58, _⟩ => ⟨S128x1024, .f32⟩
  | .hbm, ⟨59, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel7.lean ====
abbrev S65536x512 : Shape := ⟨2, ![65536, 512]⟩
abbrev S65536x1024 : Shape := ⟨2, ![65536, 1024]⟩
abbrev S1x1024x1024 : Shape := ⟨3, ![1, 1024, 1024]⟩
abbrev S1x1024 : Shape := ⟨2, ![1, 1024]⟩
abbrev S8x256x1024 : Shape := ⟨3, ![8, 256, 1024]⟩
abbrev S1024x1024 : Shape := ⟨2, ![1024, 1024]⟩
abbrev S1024 : Shape := ⟨1, ![1024]⟩
abbrev S512x512 : Shape := ⟨2, ![512, 512]⟩
abbrev S512x1024 : Shape := ⟨2, ![512, 1024]⟩
abbrev S1x256x1024 : Shape := ⟨3, ![1, 256, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 16
  | .vmem => 17
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S8x256x1024, .f32⟩
  | .hbm, ⟨7, _⟩ => ⟨S8x256x1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S65536x1024, .f32⟩
  | .hbm, ⟨15, _⟩ => ⟨S65536x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S65536x512 : Shape := ⟨2, ![65536, 512]⟩
abbrev S65536x1024 : Shape := ⟨2, ![65536, 1024]⟩
abbrev S1x1024x1024 : Shape := ⟨3, ![1, 1024, 1024]⟩
abbrev S1x1024 : Shape := ⟨2, ![1, 1024]⟩
abbrev S8x256x1024 : Shape := ⟨3, ![8, 256, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S8x8192x4x256 : Shape := ⟨4, ![8, 8192, 4, 256]⟩
abbrev S8x256x4x256 : Shape := ⟨4, ![8, 256, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩

abbrev nBuf : Space → Nat
  | .hbm => 55
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S8x256x1024, .f32⟩
  | .hbm, ⟨7, _⟩ => ⟨S8x256x1024, .f32⟩
  | .hbm, ⟨8, _⟩ => ⟨S65536x1024, .f32⟩
  | .hbm, ⟨9, _⟩ => ⟨S1024x1024, .f32⟩
  | .hbm, ⟨10, _⟩ => ⟨S65536x1024, .f32⟩
  | .hbm, ⟨11, _⟩ => ⟨S65536x1024, .f32⟩
  | .hbm, ⟨12, _⟩ => ⟨S1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S1024x1024, .f32⟩
  | .hbm, ⟨30, _⟩ => ⟨S65536x1024, .f32⟩
  | .hbm, ⟨31, _⟩ => ⟨S8x8192x4x256, .f32⟩
  | .hbm, ⟨32, _⟩ => ⟨S8x256x4x256, .f32⟩
  | .hbm, ⟨33, _⟩ => ⟨S8x4x8192x256, .f32⟩
  | .hbm, ⟨34, _⟩ => ⟨S_, .f32⟩
  | .hbm, ⟨35, _⟩ => ⟨S8x4x8192x256, .f32⟩
  | .hbm, ⟨36, _⟩ => ⟨S8x4x8192x256, .f32⟩
  | .hbm, ⟨37, _⟩ => ⟨S_, .f32⟩
  | .hbm, ⟨38, _⟩ => ⟨S8x4x8192, .f32⟩
  | .hbm, ⟨39, _⟩ => ⟨S_, .f32⟩
  | .hbm, ⟨40, _⟩ => ⟨S8x4x8192, .f32⟩
  | .hbm, ⟨41, _⟩ => ⟨S8x4x8192, .f32⟩
  | .hbm, ⟨42, _⟩ => ⟨S8x4x8192x1, .f32⟩
  | .hbm, ⟨43, _⟩ => ⟨S8x4x8192x256, .f32⟩
  | .hbm, ⟨44, _⟩ => ⟨S8x4x8192x256, .f32⟩
  | .hbm, ⟨45, _⟩ => ⟨S8x4x8192x256, .f32⟩
  | .hbm, ⟨46, _⟩ => ⟨S_, .f32⟩
  | .hbm, ⟨47, _⟩ => ⟨S8x4x8192, .f32⟩
  | .hbm, ⟨48, _⟩ => ⟨S8x4x8192x1, .f32⟩
  | .hbm, ⟨49, _⟩ => ⟨S8x4x8192x256, .f32⟩
  | .hbm, ⟨50, _⟩ => ⟨S8x4x8192x256, .f32⟩
  | .hbm, ⟨51, _⟩ => ⟨S8x256x4x256, .f32⟩
  | .hbm, ⟨52, _⟩ => ⟨S8x4x256x8192, .f32⟩
  | .hbm, ⟨53, _⟩ => ⟨S8x8192x4x256, .f32⟩
  | .hbm, ⟨54, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel8.lean ====
abbrev S128x512 : Shape := ⟨2, ![128, 512]⟩
abbrev S128x1024 : Shape := ⟨2, ![128, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S512x1024 : Shape := ⟨2, ![512, 1024]⟩
abbrev S128 : Shape := ⟨1, ![128]⟩
abbrev S128x1 : Shape := ⟨2, ![128, 1]⟩

abbrev nBuf : Space → Nat
  | .hbm => 14
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S128x1024, .f32⟩
  | .hbm, ⟨13, _⟩ => ⟨S128x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S128x512 : Shape := ⟨2, ![128, 512]⟩
abbrev S128x1024 : Shape := ⟨2, ![128, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S128 : Shape := ⟨1, ![128]⟩
abbrev S128x1 : Shape := ⟨2, ![128, 1]⟩

abbrev nBuf : Space → Nat
  | .hbm => 29
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S128x1024, .f32⟩
  | .hbm, ⟨7, _⟩ => ⟨S1024x1024, .f32⟩
  | .hbm, ⟨8, _⟩ => ⟨S128x1024, .f32⟩
  | .hbm, ⟨9, _⟩ => ⟨S128x1024, .f32⟩
  | .hbm, ⟨10, _⟩ => ⟨S1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S1024x1024, .f32⟩
  | .hbm, ⟨28, _⟩ => ⟨S128x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel9.lean ====
abbrev S128x1024 : Shape := ⟨2, ![128, 1024]⟩
abbrev S1x128x256x4x256 : Shape := ⟨5, ![1, 128, 256, 4, 256]⟩
abbrev S128x256x4x256 : Shape := ⟨4, ![128, 256, 4, 256]⟩
abbrev S128x4x256 : Shape := ⟨3, ![128, 4, 256]⟩
abbrev S1x4x256 : Shape := ⟨3, ![1, 4, 256]⟩
abbrev S1x256x4x256 : Shape := ⟨4, ![1, 256, 4, 256]⟩
abbrev S4x256 : Shape := ⟨2, ![4, 256]⟩
abbrev S256x4x256 : Shape := ⟨3, ![256, 4, 256]⟩
abbrev S256x4 : Shape := ⟨2, ![256, 4]⟩
abbrev S256x4x1 : Shape := ⟨3, ![256, 4, 1]⟩
abbrev S128x4x1 : Shape := ⟨3, ![128, 4, 1]⟩
abbrev S64x4x1 : Shape := ⟨3, ![64, 4, 1]⟩
abbrev S32x4x1 : Shape := ⟨3, ![32, 4, 1]⟩
abbrev S16x4x1 : Shape := ⟨3, ![16, 4, 1]⟩
abbrev S8x4x1 : Shape := ⟨3, ![8, 4, 1]⟩
abbrev S4x4x1 : Shape := ⟨3, ![4, 4, 1]⟩
abbrev S2x4x1 : Shape := ⟨3, ![2, 4, 1]⟩
abbrev S1x4x1 : Shape := ⟨3, ![1, 4, 1]⟩
abbrev S64x4x256 : Shape := ⟨3, ![64, 4, 256]⟩
abbrev S32x4x256 : Shape := ⟨3, ![32, 4, 256]⟩
abbrev S16x4x256 : Shape := ⟨3, ![16, 4, 256]⟩
abbrev S8x4x256 : Shape := ⟨3, ![8, 4, 256]⟩
abbrev S4x4x256 : Shape := ⟨3, ![4, 4, 256]⟩
abbrev S2x4x256 : Shape := ⟨3, ![2, 4, 256]⟩
abbrev S4x1 : Shape := ⟨2, ![4, 1]⟩

abbrev nBuf : Space → Nat
  | .hbm => 7
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1x128x256x4x256, .f32⟩
  | .hbm, ⟨2, _⟩ => ⟨S1x128x256x4x256, .f32⟩
  | .hbm, ⟨3, _⟩ => ⟨S128x256x4x256, .f32⟩
  | .hbm, ⟨4, _⟩ => ⟨S128x256x4x256, .f32⟩
  | .hbm, ⟨5, _⟩ => ⟨S128x4x256, .f32⟩
  | .hbm, ⟨6, _⟩ => ⟨S128x4x256, .f32⟩
  | .local _ .vmem, ⟨0, _⟩ => ⟨S1x4x256, .f32⟩
  | .local _ .vmem, ⟨1, _⟩ => ⟨S1x4x256, .f32⟩
  | .local _ .vmem, ⟨2, _⟩ => ⟨S1x256x4x256, .f32⟩
  | .local _ .vmem, ⟨3, _⟩ => ⟨S1x256x4x256, .f32⟩
  | .local _ .vmem, ⟨4, _⟩ => ⟨S1x256x4x256, .f32⟩
  | .local _ .vmem, ⟨5, _⟩ => ⟨S1x256x4x256, .f32⟩
  | .local _ .vmem, ⟨6, _⟩ => ⟨S1x4x256, .f32⟩
  | .local _ .vmem, ⟨7, _⟩ => ⟨S1x4x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S128x1024 : Shape := ⟨2, ![128, 1024]⟩
abbrev S1x128x256x4x256 : Shape := ⟨5, ![1, 128, 256, 4, 256]⟩
abbrev S128x1x4x256 : Shape := ⟨4, ![128, 1, 4, 256]⟩
abbrev S128x256x4x256 : Shape := ⟨4, ![128, 256, 4, 256]⟩
abbrev S128x4x1x256 : Shape := ⟨4, ![128, 4, 1, 256]⟩
abbrev S_ : Shape := ⟨0, ![]⟩
abbrev S128x4x1 : Shape := ⟨3, ![128, 4, 1]⟩
abbrev S128x4x1x1 : Shape := ⟨4, ![128, 4, 1, 1]⟩
abbrev S128x4x256x1 : Shape := ⟨4, ![128, 4, 256, 1]⟩
abbrev S128x4x256 : Shape := ⟨3, ![128, 4, 256]⟩

abbrev nBuf : Space → Nat
  | .hbm => 27
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x128x256x4x256, .f32⟩
  | .hbm, ⟨2, _⟩ => ⟨S1x128x256x4x256, .f32⟩
  | .hbm, ⟨3, _⟩ => ⟨S128x1x4x256, .f32⟩
  | .hbm, ⟨4, _⟩ => ⟨S128x256x4x256, .f32⟩
  | .hbm, ⟨5, _⟩ => ⟨S128x4x1x256, .f32⟩
  | .hbm, ⟨6, _⟩ => ⟨S_, .f32⟩
  | .hbm, ⟨7, _⟩ => ⟨S128x4x1x256, .f32⟩
  | .hbm, ⟨8, _⟩ => ⟨S128x4x1x256, .f32⟩
  | .hbm, ⟨9, _⟩ => ⟨S_, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S128x4x1x1, .f32⟩
  | .hbm, ⟨15, _⟩ => ⟨S128x4x1x256, .f32⟩
  | .hbm, ⟨16, _⟩ => ⟨S128x4x1x256, .f32⟩
  | .hbm, ⟨17, _⟩ => ⟨S128x4x1x256, .f32⟩
  | .hbm, ⟨18, _⟩ => ⟨S_, .f32⟩
  | .hbm, ⟨19, _⟩ => ⟨S128x4x1, .f32⟩
  | .hbm, ⟨20, _⟩ => ⟨S128x4x1x1, .f32⟩
  | .hbm, ⟨21, _⟩ => ⟨S128x4x1x256, .f32⟩
  | .hbm, ⟨22, _⟩ => ⟨S128x4x1x256, .f32⟩
  | .hbm, ⟨23, _⟩ => ⟨S128x256x4x256, .f32⟩
  | .hbm, ⟨24, _⟩ => ⟨S128x4x256x1, .f32⟩
  | .hbm, ⟨25, _⟩ => ⟨S128x1x4x256, .f32⟩
  | .hbm, ⟨26, _⟩ => ⟨S128x4x256, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Row.lean ====
module

public import Idealize.ShloMosaic.Lib.Pipeline.ValueKit
public import Idealize.ShloMosaic.Lib.Pointwise

/-! # The layer's mathematics, one row at a time

Every dense step of the layer works on each row of its arrays alone, so the kernels and the references meet at functions of
one row (a function on `Fin n`) and of the weights. The constants are the bit patterns both programs state. -/

@[expose] public section
noncomputable section
open Idealize.ShloMosaic
namespace Cert.Row

/-- The model width 1024 as both programs write it. -/
abbrev width : EReal := Ideal.ofBits FTy.f32 1149239296#32
/-- The small constant of every normalisation (1e-6). -/
abbrev eps : EReal := Ideal.ofBits FTy.f32 897988541#32

/-- `x * sigmoid x`. -/
def silu (x : EReal) : EReal := x * Ideal.div 1 (1 + Ideal.exp (-x))

/-- Root-mean-square normalisation of a row of the model width, times a weight. -/
def rms (x w : Fin 1024 → EReal) (n : Fin 1024) : EReal :=
  x n * Ideal.rsqrt (Ideal.div (∑ k, x k * x k) width + eps) * w n

/-- A row times a matrix. -/
def mm {a b : ℕ} (x : Fin a → EReal) (w : Fin a → Fin b → EReal) (n : Fin b) : EReal := ∑ k, x k * w k n

/-- The gated hidden unit `f` of the feed-forward step: gate columns first, then the up columns. -/
def act (x : Fin 1024 → EReal) (w : Fin 1024 → Fin 5632 → EReal) (f : Fin 2816) : EReal :=
  silu (mm x w ⟨f, by omega⟩) * mm x w ⟨2816 + f, by omega⟩

/-- The row after the attention's output projection is added. -/
def added (h o : Fin 1024 → EReal) (w : Fin 1024 → Fin 1024 → EReal) (n : Fin 1024) : EReal := h n + mm o w n

/-- The end of the layer on one row: output projection of the cross attention, feed-forward step, final normalisation. -/
def tail (h o : Fin 1024 → EReal) (wxo : Fin 1024 → Fin 1024 → EReal) (wn : Fin 1024 → EReal)
    (wgu : Fin 1024 → Fin 5632 → EReal) (wd : Fin 2816 → Fin 1024 → EReal) (wf : Fin 1024 → EReal) (n : Fin 1024) : EReal :=
  rms (fun n => added h o wxo n + mm (act (rms (added h o wxo) wn) wgu) wd n) wf n

theorem sum_eleven (g : Fin 11 → EReal) :
    ∑ j, g j = 0 + g 0 + g 1 + g 2 + g 3 + g 4 + g 5 + g 6 + g 7 + g 8 + g 9 + g 10 := by
  simp only [Fin.sum_univ_castSucc, Fin.sum_univ_zero]; rfl

/-- A sum over 2816 hidden units is the sum of its eleven chunks of 256, added up one after the other from zero. -/
theorem sum_chunks (f : Fin 2816 → EReal) :
    ∑ k, f k = 0 + (∑ x : Fin 256, f ⟨0 + x, by omega⟩) + (∑ x : Fin 256, f ⟨256 + x, by omega⟩)
      + (∑ x : Fin 256, f ⟨512 + x, by omega⟩) + (∑ x : Fin 256, f ⟨768 + x, by omega⟩)
      + (∑ x : Fin 256, f ⟨1024 + x, by omega⟩) + (∑ x : Fin 256, f ⟨1280 + x, by omega⟩)
      + (∑ x : Fin 256, f ⟨1536 + x, by omega⟩) + (∑ x : Fin 256, f ⟨1792 + x, by omega⟩)
      + (∑ x : Fin 256, f ⟨2048 + x, by omega⟩) + (∑ x : Fin 256, f ⟨2304 + x, by omega⟩)
      + (∑ x : Fin 256, f ⟨2560 + x, by omega⟩) := by
  rw [Fin.sum_univ_tiles 11 256 (by norm_num) f]
  exact sum_eleven _

end Cert.Row
-- ==== Proof.Delta.lean ====
module

public import proofs.«01_k».proof.Proof.Row

/-! # The gated delta rule, one token of one sequence

A short causal convolution with its buffer, then per head: the state decays, the value's error against the state is written
back along the key, and the query reads the new state. -/

@[expose] public section
noncomputable section
open Idealize.ShloMosaic
namespace Cert.Delta
open Cert.Row

/-- `128 ^ (-1/2)`, the scale of the queries, as both programs write it. -/
abbrev scale : EReal := Ideal.ofBits FTy.f32 1035273459#32
/-- The head's width 128 as both programs write it. -/
abbrev headWidth : EReal := Ideal.ofBits FTy.f32 1124073472#32

/-- The convolution over the last four tokens: the new one and the three of the buffer. -/
def conv (x : Fin 1536 → EReal) (cb : Fin 3 → Fin 1536 → EReal) (w : Fin 4 → Fin 1536 → EReal) (j : Fin 1536) : EReal :=
  x j * w 3 j + cb 0 j * w 0 j + cb 1 j * w 1 j + cb 2 j * w 2 j

/-- A vector over its Euclidean length. -/
def unit (x : Fin 128 → EReal) (d : Fin 128) : EReal := x d * Ideal.rsqrt ((∑ k, x k * x k) + eps)

/-- The factor by which a head's state decays at this token. -/
def decay (a al dt : EReal) : EReal :=
  Ideal.exp (-Ideal.exp al * (max (a + dt) 0 + Ideal.log1p (Ideal.exp (-(FloatOps.absf (F := Ideal) (φ := .f32) (a + dt) : EReal)))))

/-- How much of the value's error is written. -/
def gate (b : EReal) : EReal := Ideal.div 1 (1 + Ideal.exp (-b))

/-- The gated error of the value against what the decayed state answers to the key. -/
def error (k v : Fin 128 → EReal) (s : Fin 128 → Fin 128 → EReal) (e b : EReal) (n : Fin 128) : EReal :=
  v n * b - ∑ d, k d * (b * e) * s d n

/-- What the query reads. -/
def answer (q k v : Fin 128 → EReal) (s : Fin 128 → Fin 128 → EReal) (e b : EReal) (n : Fin 128) : EReal :=
  ∑ d, q d * e * s d n + (∑ d, q d * k d) * error k v s e b n

/-- The state after the token. -/
def next (k v : Fin 128 → EReal) (s : Fin 128 → Fin 128 → EReal) (e b : EReal) (d n : Fin 128) : EReal :=
  s d n * e + k d * error k v s e b n

/-- The head's output: normalised, weighted and gated by `z`. -/
def finish (o nw z : Fin 128 → EReal) (n : Fin 128) : EReal :=
  o n * Ideal.rsqrt (Ideal.div (∑ k, o k * o k) headWidth + eps) * nw n * silu (z n)

/-- The convolved row through `silu`: four heads of queries, then of keys, then of values. -/
def mixed (x : Fin 1536 → EReal) (cb : Fin 3 → Fin 1536 → EReal) (w : Fin 4 → Fin 1536 → EReal) (j : Fin 1536) : EReal :=
  silu (conv x cb w j)

def query (a : Fin 1536 → EReal) (h : Fin 4) (d : Fin 128) : EReal := unit (fun k => a ⟨128 * h + k, by omega⟩) d * scale
def key (a : Fin 1536 → EReal) (h : Fin 4) (d : Fin 128) : EReal := unit (fun k => a ⟨512 + 128 * h + k, by omega⟩) d
def value (a : Fin 1536 → EReal) (h : Fin 4) (d : Fin 128) : EReal := a ⟨1024 + 128 * h + d, by omega⟩

/-- Head `h`'s state after the token, `a` the mixed row, `e` and `b` the heads' decays and gates. -/
def state (a : Fin 1536 → EReal) (s : Fin 4 → Fin 128 → Fin 128 → EReal) (e b : Fin 4 → EReal) (h : Fin 4) (d n : Fin 128) : EReal :=
  next (key a h) (value a h) (s h) (e h) (b h) d n

/-- Head `h`'s output. -/
def output (a : Fin 1536 → EReal) (s : Fin 4 → Fin 128 → Fin 128 → EReal) (e b : Fin 4 → EReal) (nw : Fin 128 → EReal)
    (z : Fin 512 → EReal) (h : Fin 4) (n : Fin 128) : EReal :=
  finish (answer (query a h) (key a h) (value a h) (s h) (e h) (b h)) nw (fun k => z ⟨128 * h + k, by omega⟩) n

/-- The buffer after the token: its two newest rows, then the token's. -/
def shifted (x : Fin 1536 → EReal) (cb : Fin 3 → Fin 1536 → EReal) (r : Fin 3) (j : Fin 1536) : EReal :=
  if r = 0 then cb 1 j else if r = 1 then cb 2 j else x j

/-! ## Over the arrays of all sequences -/

/-- Sequence `i`'s mixed row. -/
abbrev rowOf (g : Vec Ideal ⟨2, ![128, 1536]⟩ .f32) (sc : Vec Ideal ⟨4, ![1, 128, 3, 1536]⟩ .f32) (cw : Vec Ideal ⟨3, ![1, 4, 1536]⟩ .f32)
    (i : Fin 128) : Fin 1536 → EReal :=
  mixed (fun j => g (ix2 i j)) (fun r j => sc (ix4 0 i r j)) (fun r j => cw (ix3 0 r j))

/-- Sequence `i`'s decays, head by head. -/
abbrev decaysOf (ab : Vec Ideal ⟨2, ![128, 128]⟩ .f32) (al dt : Vec Ideal ⟨2, ![1, 4]⟩ .f32) (i : Fin 128) (h : Fin 4) : EReal :=
  decay (ab (ix2 i ⟨h, by omega⟩)) (al (ix2 0 h)) (dt (ix2 0 h))

/-- Sequence `i`'s gates, head by head. -/
abbrev gatesOf (ab : Vec Ideal ⟨2, ![128, 128]⟩ .f32) (i : Fin 128) (h : Fin 4) : EReal := gate (ab (ix2 i ⟨4 + h, by omega⟩))

/-- The outputs, head beside head. -/
def outArr (g : Vec Ideal ⟨2, ![128, 1536]⟩ .f32) (z : Vec Ideal ⟨2, ![128, 512]⟩ .f32) (ab : Vec Ideal ⟨2, ![128, 128]⟩ .f32)
    (sc : Vec Ideal ⟨4, ![1, 128, 3, 1536]⟩ .f32) (sg : Vec Ideal ⟨5, ![1, 128, 4, 128, 128]⟩ .f32) (cw : Vec Ideal ⟨3, ![1, 4, 1536]⟩ .f32)
    (al dt : Vec Ideal ⟨2, ![1, 4]⟩ .f32) (nw : Vec Ideal ⟨2, ![1, 128]⟩ .f32) (i : Fin 128) (j : Fin 512) : EReal :=
  output (rowOf g sc cw i) (fun h d n => sg (ix5 0 i h d n)) (decaysOf ab al dt i) (gatesOf ab i) (fun k => nw (ix2 0 k))
    (fun k => z (ix2 i k)) ⟨j / 128, by omega⟩ ⟨j % 128, by omega⟩

/-- The new states. -/
def stateArr (g : Vec Ideal ⟨2, ![128, 1536]⟩ .f32) (ab : Vec Ideal ⟨2, ![128, 128]⟩ .f32)
    (sc : Vec Ideal ⟨4, ![1, 128, 3, 1536]⟩ .f32) (sg : Vec Ideal ⟨5, ![1, 128, 4, 128, 128]⟩ .f32) (cw : Vec Ideal ⟨3, ![1, 4, 1536]⟩ .f32)
    (al dt : Vec Ideal ⟨2, ![1, 4]⟩ .f32) (i : Fin 128) (h : Fin 4) (d n : Fin 128) : EReal :=
  state (rowOf g sc cw i) (fun h d n => sg (ix5 0 i h d n)) (decaysOf ab al dt i) (gatesOf ab i) h d n

/-- The new buffers. -/
def bufArr (g : Vec Ideal ⟨2, ![128, 1536]⟩ .f32) (sc : Vec Ideal ⟨4, ![1, 128, 3, 1536]⟩ .f32) (i : Fin 128) (r : Fin 3) (j : Fin 1536) : EReal :=
  shifted (fun j => g (ix2 i j)) (fun r j => sc (ix4 0 i r j)) r j

end Cert.Delta
-- ==== Proof.DeltaPay.lean ====
module

public import proofs.«01_k».proof.Proof.Gen.KernelIdeal.Frame
public import proofs.«01_k».proof.Proof.Delta
public import Idealize.ShloMosaic.Lib.Claim

/-! # The gated delta rule, the kernel's payloads

Every value the kernel's body computes, read at an index. The body handles its four heads one after the other; a row is turned
into a column by a sum against the diagonal. -/

@[expose] public section
set_option maxRecDepth 16384
noncomputable section
open Idealize.ShloMosaic Idealize.ShloMosaic.TcCoe Idealize.SL.Sem
namespace Cert.KernelIdeal.Delta
open Cert.KernelIdeal Cert.KernelIdeal.Gen Cert.Row Cert.Delta

theorem pay4_at (v0 : Vec Ideal S1x1x1536 .f32) (v2 : Vec Ideal S1x3x1536 .f32) (v4 v8 v13 v18 : Vec Ideal S1x1536 .f32) (j : Fin 1536) :
    k0_pay4 (F := Ideal) v0 v2 v4 v8 v13 v18 (ix2 0 j)
      = v0 (ix3 0 0 j) * v4 (ix2 0 j) + v2 (ix3 0 0 j) * v8 (ix2 0 j) + v2 (ix3 0 1 j) * v13 (ix2 0 j) + v2 (ix3 0 2 j) * v18 (ix2 0 j) := by
  pointwise [k0_pay4, k0_pay2, k0_pay3]

theorem pay7_at (v0 : Vec Ideal S1x1x1536 .f32) (v2 : Vec Ideal S1x3x1536 .f32) (v4 v8 v13 v18 : Vec Ideal S1x1536 .f32) (j : Fin 1536) :
    k0_pay7 (F := Ideal) v0 v2 v4 v8 v13 v18 (ix2 0 j) = 1 + Ideal.exp (-k0_pay4 (F := Ideal) v0 v2 v4 v8 v13 v18 (ix2 0 j)) := by
  pointwise [k0_pay7]
  simp only [zero_sub]

theorem pay8_at (v21 v33 : FVec Ideal S1x1536 .f32) (c : EReal) (j : Fin 1536) :
    k0_pay8 (F := Ideal) v21 v33 c (ix2 0 j) = v21 (ix2 0 j) * Ideal.div c (v33 (ix2 0 j)) := by
  pointwise [k0_pay8]

theorem pay10_at (v37 : Vec Ideal S1x1x128 .f32) (v39 v44 : Vec Ideal S1x128 .f32) (h : Fin 128) :
    k0_pay10 (F := Ideal) v37 v39 v44 (ix2 0 h) = decay (v37 (ix3 0 0 h)) (v39 (ix2 0 h)) (v44 (ix2 0 h)) := by
  pointwise [k0_pay10, k0_pay9, decay]
  simp only [zero_sub]

theorem pay11_at (v37 : Vec Ideal S1x1x128 .f32) (h : Fin 128) :
    k0_pay11 (F := Ideal) v37 (ix2 0 h) = gate (v37 (ix3 0 0 h)) := by
  pointwise [k0_pay11, k0_pay9, gate]
  simp only [zero_sub]

theorem pay14_at (i j : Fin 128) : k0_pay14 (ix2 i j) = if i = j then 1#1 else 0#1 := by
  pointwise [k0_pay14]
  by_cases h : i = j
  · subst h; simp [IntOp.cmpi]
  · have hne : BitVec.ofNat 32 i.val ≠ BitVec.ofNat 32 j.val := fun e => h (Fin.ext (by
      have := congrArg BitVec.toNat e
      simp only [BitVec.toNat_ofNat] at this
      omega))
    simp only [IntOp.cmpi, h, if_false]
    rw [show (BitVec.ofNat 32 i.val == BitVec.ofNat 32 j.val) = false from beq_eq_false_iff_ne.mpr hne]
    rfl

/-- The sum of a row against the diagonal is its entry there. -/
theorem diag (f : Fin 128 → EReal) (d : Fin 128) : ∑ x, Scalar.select (if d = x then 1#1 else 0#1) (f x) (0 : EReal) = f d := by
  rw [Finset.sum_eq_single d]
  · simp [Scalar.select]
  · intro b _ hb
    simp [Scalar.select, Ne.symm hb]
  · simp

theorem pay15_at (v21 v33 : FVec Ideal S1x1536 .f32) (c : EReal) (d : Fin 128) :
    k0_pay15 (F := Ideal) v21 v33 c (ix2 0 d) = k0_pay8 (F := Ideal) v21 v33 c (ix2 0 ⟨0 + d, by omega⟩) := by
  pointwise [k0_pay15]

theorem pay16_at (v21 v33 : FVec Ideal S1x1536 .f32) (c : EReal) (d : Fin 128) :
    k0_pay16 (F := Ideal) v21 v33 c (ix2 0 d) = k0_pay8 (F := Ideal) v21 v33 c (ix2 0 ⟨128 + d, by omega⟩) := by
  pointwise [k0_pay16]

theorem pay17_at (v21 v33 : FVec Ideal S1x1536 .f32) (c : EReal) (d : Fin 128) :
    k0_pay17 (F := Ideal) v21 v33 c (ix2 0 d) = k0_pay8 (F := Ideal) v21 v33 c (ix2 0 ⟨256 + d, by omega⟩) := by
  pointwise [k0_pay17]

theorem pay18_at (v21 v33 : FVec Ideal S1x1536 .f32) (c : EReal) (d : Fin 128) :
    k0_pay18 (F := Ideal) v21 v33 c (ix2 0 d) = k0_pay8 (F := Ideal) v21 v33 c (ix2 0 ⟨384 + d, by omega⟩) := by
  pointwise [k0_pay18]

theorem pay19_at (v21 v33 : FVec Ideal S1x1536 .f32) (c : EReal) (d : Fin 128) :
    k0_pay19 (F := Ideal) v21 v33 c (ix2 0 d) = k0_pay8 (F := Ideal) v21 v33 c (ix2 0 ⟨512 + d, by omega⟩) := by
  pointwise [k0_pay19]

theorem pay20_at (v : FVec Ideal S1x1536 .f32) (d : Fin 128) :
    k0_pay20 (F := Ideal) v (ix2 0 d) = v (ix2 0 ⟨640 + d, by omega⟩) := by
  pointwise [k0_pay20]

theorem pay21_at (v : FVec Ideal S1x1536 .f32) (d : Fin 128) :
    k0_pay21 (F := Ideal) v (ix2 0 d) = v (ix2 0 ⟨768 + d, by omega⟩) := by
  pointwise [k0_pay21]

theorem pay22_at (v : FVec Ideal S1x1536 .f32) (d : Fin 128) :
    k0_pay22 (F := Ideal) v (ix2 0 d) = v (ix2 0 ⟨896 + d, by omega⟩) := by
  pointwise [k0_pay22]

theorem pay23_at (v : FVec Ideal S1x1536 .f32) (d : Fin 128) :
    k0_pay23 (F := Ideal) v (ix2 0 d) = v (ix2 0 ⟨1024 + d, by omega⟩) := by
  pointwise [k0_pay23]

theorem pay24_at (v : FVec Ideal S1x1536 .f32) (d : Fin 128) :
    k0_pay24 (F := Ideal) v (ix2 0 d) = v (ix2 0 ⟨1152 + d, by omega⟩) := by
  pointwise [k0_pay24]

theorem pay25_at (v : FVec Ideal S1x1536 .f32) (d : Fin 128) :
    k0_pay25 (F := Ideal) v (ix2 0 d) = v (ix2 0 ⟨1280 + d, by omega⟩) := by
  pointwise [k0_pay25]

theorem pay26_at (v : FVec Ideal S1x1536 .f32) (d : Fin 128) :
    k0_pay26 (F := Ideal) v (ix2 0 d) = v (ix2 0 ⟨1408 + d, by omega⟩) := by
  pointwise [k0_pay26]

theorem pay27_at (v : FVec Ideal S1x128 .f32) (d : Fin 128) :
    k0_pay27 (F := Ideal) v (ix2 0 d) = unit (fun k => v (ix2 0 k)) d * scale := by
  pointwise [k0_pay27, unit]

theorem pay28_at (v : FVec Ideal S1x128 .f32) (d : Fin 128) :
    k0_pay28 (F := Ideal) v (ix2 0 d) = unit (fun k => v (ix2 0 k)) d * scale := by
  pointwise [k0_pay28, unit]

theorem pay29_at (v : FVec Ideal S1x128 .f32) (d : Fin 128) :
    k0_pay29 (F := Ideal) v (ix2 0 d) = unit (fun k => v (ix2 0 k)) d * scale := by
  pointwise [k0_pay29, unit]

theorem pay30_at (v : FVec Ideal S1x128 .f32) (d : Fin 128) :
    k0_pay30 (F := Ideal) v (ix2 0 d) = unit (fun k => v (ix2 0 k)) d * scale := by
  pointwise [k0_pay30, unit]

theorem pay32_at (v : FVec Ideal S1x128 .f32) (d : Fin 128) :
    k0_pay32 (F := Ideal) v (k0_pay31 v) (ix2 0 d) = unit (fun k => v (ix2 0 k)) d := by
  pointwise [k0_pay32, k0_pay31, unit]

theorem pay33_at (v : FVec Ideal S1x128 .f32) (d : Fin 128) :
    k0_pay33 (F := Ideal) v (ix2 0 d) = unit (fun k => v (ix2 0 k)) d := by
  pointwise [k0_pay33, unit]

theorem pay34_at (v : FVec Ideal S1x128 .f32) (d : Fin 128) :
    k0_pay34 (F := Ideal) v (ix2 0 d) = unit (fun k => v (ix2 0 k)) d := by
  pointwise [k0_pay34, unit]

theorem pay35_at (v : FVec Ideal S1x128 .f32) (d : Fin 128) :
    k0_pay35 (F := Ideal) v (ix2 0 d) = unit (fun k => v (ix2 0 k)) d := by
  pointwise [k0_pay35, unit]

theorem pay36_at (v : FVec Ideal S1x128 .f32) :
    k0_pay36 (F := Ideal) v (ix2 0 0) = v (ix2 0 0) := by
  pointwise [k0_pay36]

theorem pay37_at (v : FVec Ideal S1x128 .f32) :
    k0_pay37 (F := Ideal) v (ix2 0 0) = v (ix2 0 1) := by
  pointwise [k0_pay37]

theorem pay38_at (v : FVec Ideal S1x128 .f32) :
    k0_pay38 (F := Ideal) v (ix2 0 0) = v (ix2 0 2) := by
  pointwise [k0_pay38]

theorem pay39_at (v : FVec Ideal S1x128 .f32) :
    k0_pay39 (F := Ideal) v (ix2 0 0) = v (ix2 0 3) := by
  pointwise [k0_pay39]

theorem pay40_at (v : FVec Ideal S1x128 .f32) :
    k0_pay40 (F := Ideal) v (ix2 0 0) = v (ix2 0 4) := by
  pointwise [k0_pay40]

theorem pay41_at (v : FVec Ideal S1x128 .f32) :
    k0_pay41 (F := Ideal) v (ix2 0 0) = v (ix2 0 5) := by
  pointwise [k0_pay41]

theorem pay42_at (v : FVec Ideal S1x128 .f32) :
    k0_pay42 (F := Ideal) v (ix2 0 0) = v (ix2 0 6) := by
  pointwise [k0_pay42]

theorem pay43_at (v : FVec Ideal S1x128 .f32) :
    k0_pay43 (F := Ideal) v (ix2 0 0) = v (ix2 0 7) := by
  pointwise [k0_pay43]

theorem pay44_at (v : Vec Ideal S1x1x128x128 .f32) (d n : Fin 128) :
    k0_pay44 (F := Ideal) v (ix2 d n) = v (ix4 0 0 d n) := by
  pointwise [k0_pay44]

theorem pay45_at (v : Vec Ideal S1x1x128x128 .f32) (d n : Fin 128) :
    k0_pay45 (F := Ideal) v (ix2 d n) = v (ix4 0 0 d n) := by
  pointwise [k0_pay45]

theorem pay46_at (v : Vec Ideal S1x1x128x128 .f32) (d n : Fin 128) :
    k0_pay46 (F := Ideal) v (ix2 d n) = v (ix4 0 0 d n) := by
  pointwise [k0_pay46]

theorem pay47_at (v : Vec Ideal S1x1x128x128 .f32) (d n : Fin 128) :
    k0_pay47 (F := Ideal) v (ix2 d n) = v (ix4 0 0 d n) := by
  pointwise [k0_pay47]

theorem pay48_at (v : FVec Ideal S1x128 .f32) (d : Fin 128) :
    k0_pay48 (F := Ideal) k0_pay14 v (ix2 d 0) = v (ix2 0 d) := by
  pointwise [k0_pay48]
  simp only [pay14_at]
  exact diag _ d

theorem pay49_at (v : FVec Ideal S1x128 .f32) (d : Fin 128) :
    k0_pay49 (F := Ideal) k0_pay14 v (ix2 d 0) = v (ix2 0 d) := by
  pointwise [k0_pay49]
  simp only [pay14_at]
  exact diag _ d

theorem pay50_at (v : FVec Ideal S1x128 .f32) (d : Fin 128) :
    k0_pay50 (F := Ideal) k0_pay14 v (ix2 d 0) = v (ix2 0 d) := by
  pointwise [k0_pay50]
  simp only [pay14_at]
  exact diag _ d

theorem pay51_at (v : FVec Ideal S1x128 .f32) (d : Fin 128) :
    k0_pay51 (F := Ideal) k0_pay14 v (ix2 d 0) = v (ix2 0 d) := by
  pointwise [k0_pay51]
  simp only [pay14_at]
  exact diag _ d

theorem pay52_at (v : FVec Ideal S1x128 .f32) (d : Fin 128) :
    k0_pay52 (F := Ideal) k0_pay14 v (ix2 d 0) = v (ix2 0 d) := by
  pointwise [k0_pay52]
  simp only [pay14_at]
  exact diag _ d

theorem pay53_at (v : FVec Ideal S1x128 .f32) (d : Fin 128) :
    k0_pay53 (F := Ideal) k0_pay14 v (ix2 d 0) = v (ix2 0 d) := by
  pointwise [k0_pay53]
  simp only [pay14_at]
  exact diag _ d

theorem pay54_at (v : FVec Ideal S1x128 .f32) (d : Fin 128) :
    k0_pay54 (F := Ideal) k0_pay14 v (FloatOps.ofBits FTy.f32 0#32) (ix2 d 0) = v (ix2 0 d) := by
  pointwise [k0_pay54]
  simp only [pay14_at]
  exact diag _ d

theorem pay55_at (v : FVec Ideal S1x128 .f32) (d : Fin 128) :
    k0_pay55 (F := Ideal) k0_pay14 v (ix2 d 0) = v (ix2 0 d) := by
  pointwise [k0_pay55]
  simp only [pay14_at]
  exact diag _ d

theorem pay56_at (v : FVec Ideal S1x128 .f32) (e b : FVec Ideal S1x1 .f32) (s : FVec Ideal S128x128 .f32) (k : FVec Ideal S128x1 .f32) (n : Fin 128) :
    k0_pay56 (F := Ideal) v e b s k (ix2 0 n) = error (fun d => k (ix2 d 0)) (fun d => v (ix2 0 d)) (fun d n => s (ix2 d n)) (e (ix2 0 0)) (b (ix2 0 0)) n := by
  pointwise [k0_pay56, error]

theorem pay57_at (v : FVec Ideal S1x128 .f32) (e b : FVec Ideal S1x1 .f32) (s : FVec Ideal S128x128 .f32) (k : FVec Ideal S128x1 .f32) (n : Fin 128) :
    k0_pay57 (F := Ideal) v e b s k (ix2 0 n) = error (fun d => k (ix2 d 0)) (fun d => v (ix2 0 d)) (fun d n => s (ix2 d n)) (e (ix2 0 0)) (b (ix2 0 0)) n := by
  pointwise [k0_pay57, error]

theorem pay58_at (v : FVec Ideal S1x128 .f32) (e b : FVec Ideal S1x1 .f32) (s : FVec Ideal S128x128 .f32) (k : FVec Ideal S128x1 .f32) (n : Fin 128) :
    k0_pay58 (F := Ideal) v e b s k (ix2 0 n) = error (fun d => k (ix2 d 0)) (fun d => v (ix2 0 d)) (fun d n => s (ix2 d n)) (e (ix2 0 0)) (b (ix2 0 0)) n := by
  pointwise [k0_pay58, error]

theorem pay59_at (v : FVec Ideal S1x128 .f32) (e b : FVec Ideal S1x1 .f32) (s : FVec Ideal S128x128 .f32) (k : FVec Ideal S128x1 .f32) (n : Fin 128) :
    k0_pay59 (F := Ideal) v e b s k (ix2 0 n) = error (fun d => k (ix2 d 0)) (fun d => v (ix2 0 d)) (fun d n => s (ix2 d n)) (e (ix2 0 0)) (b (ix2 0 0)) n := by
  pointwise [k0_pay59, error]

theorem pay61_at (q k v : FVec Ideal S1x128 .f32) (e : FVec Ideal S1x1 .f32) (s : FVec Ideal S128x128 .f32) (qc : FVec Ideal S128x1 .f32) (n : Fin 128) :
    k0_pay61 (F := Ideal) e s qc v (k0_pay60 q k) (ix2 0 n) = ∑ d, qc (ix2 d 0) * e (ix2 0 0) * s (ix2 d n) + (∑ d, q (ix2 0 d) * k (ix2 0 d)) * v (ix2 0 n) := by
  pointwise [k0_pay61, k0_pay60]

theorem pay62_at (q k v : FVec Ideal S1x128 .f32) (e : FVec Ideal S1x1 .f32) (s : FVec Ideal S128x128 .f32) (qc : FVec Ideal S128x1 .f32) (n : Fin 128) :
    k0_pay62 (F := Ideal) q k e s qc v (ix2 0 n) = ∑ d, qc (ix2 d 0) * e (ix2 0 0) * s (ix2 d n) + (∑ d, q (ix2 0 d) * k (ix2 0 d)) * v (ix2 0 n) := by
  pointwise [k0_pay62]

theorem pay63_at (q k v : FVec Ideal S1x128 .f32) (e : FVec Ideal S1x1 .f32) (s : FVec Ideal S128x128 .f32) (qc : FVec Ideal S128x1 .f32) (n : Fin 128) :
    k0_pay63 (F := Ideal) q k e s qc v (ix2 0 n) = ∑ d, qc (ix2 d 0) * e (ix2 0 0) * s (ix2 d n) + (∑ d, q (ix2 0 d) * k (ix2 0 d)) * v (ix2 0 n) := by
  pointwise [k0_pay63]

theorem pay64_at (q k v : FVec Ideal S1x128 .f32) (e : FVec Ideal S1x1 .f32) (s : FVec Ideal S128x128 .f32) (qc : FVec Ideal S128x1 .f32) (n : Fin 128) :
    k0_pay64 (F := Ideal) q k e s qc v (ix2 0 n) = ∑ d, qc (ix2 d 0) * e (ix2 0 0) * s (ix2 d n) + (∑ d, q (ix2 0 d) * k (ix2 0 d)) * v (ix2 0 n) := by
  pointwise [k0_pay64]

theorem pay67_at (v : FVec Ideal S1x128 .f32) (e : FVec Ideal S1x1 .f32) (s : FVec Ideal S128x128 .f32) (k : FVec Ideal S128x1 .f32) (d n : Fin 128) :
    k0_pay67 (F := Ideal) (k0_pay65 e s) (k0_pay66 k v) (ix4 0 0 d n) = s (ix2 d n) * e (ix2 0 0) + k (ix2 d 0) * v (ix2 0 n) := by
  pointwise [k0_pay67, k0_pay65, k0_pay66]

theorem pay68_at (v : FVec Ideal S1x128 .f32) (e : FVec Ideal S1x1 .f32) (s : FVec Ideal S128x128 .f32) (k : FVec Ideal S128x1 .f32) (d n : Fin 128) :
    k0_pay68 (F := Ideal) e s k v (ix4 0 0 d n) = s (ix2 d n) * e (ix2 0 0) + k (ix2 d 0) * v (ix2 0 n) := by
  pointwise [k0_pay68]

theorem pay69_at (v : FVec Ideal S1x128 .f32) (e : FVec Ideal S1x1 .f32) (s : FVec Ideal S128x128 .f32) (k : FVec Ideal S128x1 .f32) (d n : Fin 128) :
    k0_pay69 (F := Ideal) e s k v (ix4 0 0 d n) = s (ix2 d n) * e (ix2 0 0) + k (ix2 d 0) * v (ix2 0 n) := by
  pointwise [k0_pay69]

theorem pay70_at (v : FVec Ideal S1x128 .f32) (e : FVec Ideal S1x1 .f32) (s : FVec Ideal S128x128 .f32) (k : FVec Ideal S128x1 .f32) (d n : Fin 128) :
    k0_pay70 (F := Ideal) e s k v (ix4 0 0 d n) = s (ix2 d n) * e (ix2 0 0) + k (ix2 d 0) * v (ix2 0 n) := by
  pointwise [k0_pay70]

theorem pay73_at (z : Vec Ideal S1x1x512 .f32) (w : Vec Ideal S1x128 .f32) (o : FVec Ideal S1x128 .f32) (n : Fin 128) :
    k0_pay73 (F := Ideal) (k0_pay12 z) (k0_pay13 w) o (k0_pay71 o) k0_pay72 (ix3 0 0 n) = finish (fun k => o (ix2 0 k)) (fun k => w (ix2 0 k)) (fun k => z (ix3 0 0 ⟨0 + k, by omega⟩)) n := by
  pointwise [k0_pay73, k0_pay71, k0_pay72, k0_pay12, k0_pay13, finish, silu]
  simp only [zero_sub]

theorem pay74_at (z : Vec Ideal S1x1x512 .f32) (w : Vec Ideal S1x128 .f32) (o : FVec Ideal S1x128 .f32) (n : Fin 128) :
    k0_pay74 (F := Ideal) (k0_pay12 z) (k0_pay13 w) o (ix3 0 0 n) = finish (fun k => o (ix2 0 k)) (fun k => w (ix2 0 k)) (fun k => z (ix3 0 0 ⟨128 + k, by omega⟩)) n := by
  pointwise [k0_pay74, k0_pay12, k0_pay13, finish, silu]
  simp only [zero_sub]

theorem pay76_at (z : Vec Ideal S1x1x512 .f32) (w : Vec Ideal S1x128 .f32) (o : FVec Ideal S1x128 .f32) (n : Fin 128) :
    k0_pay76 (F := Ideal) (k0_pay12 z) (k0_pay13 w) o (k0_pay75 o) (ix3 0 0 n) = finish (fun k => o (ix2 0 k)) (fun k => w (ix2 0 k)) (fun k => z (ix3 0 0 ⟨256 + k, by omega⟩)) n := by
  pointwise [k0_pay76, k0_pay75, k0_pay12, k0_pay13, finish, silu]
  simp only [zero_sub]

theorem pay77_at (z : Vec Ideal S1x1x512 .f32) (w : Vec Ideal S1x128 .f32) (o : FVec Ideal S1x128 .f32) (n : Fin 128) :
    k0_pay1 (k0_pay77 (F := Ideal) (k0_pay12 z) (k0_pay13 w) o) (ix3 0 0 n) = finish (fun k => o (ix2 0 k)) (fun k => w (ix2 0 k)) (fun k => z (ix3 0 0 ⟨384 + k, by omega⟩)) n := by
  pointwise [k0_pay1, k0_pay77, k0_pay12, k0_pay13, finish, silu]
  simp only [zero_sub]

end Cert.KernelIdeal.Delta
-- ==== Proof.DeltaK.lean ====
module

public import proofs.«01_k».proof.Proof.DeltaPay
public import Idealize.ShloMosaic.Lib.Claim

/-! # The gated delta rule, the kernel's side

One grid point handles one sequence. What it stores in its three blocks, and then the three whole result arrays. -/

@[expose] public section
set_option maxRecDepth 16384
noncomputable section
open Idealize.ShloMosaic Idealize.ShloMosaic.TcCoe Idealize.SL.Sem
open Idealize.ShloMosaic.Pipeline (Dat)
namespace Cert.KernelIdeal.Delta
open Cert.KernelIdeal Cert.KernelIdeal.Gen Cert.Row Cert.Delta

variable (m : (ℓ : Loc nD τ sig) → Buf (Elt Ideal) ℓ)

/-- The mixed row of grid point `t`'s sequence, from the blocks it reads. -/
abbrev row (x0 : Vec Ideal S1x1x1536 .f32) (x3 : Vec Ideal S1x3x1536 .f32) (x5 : Vec Ideal S4x1536 .f32) : Fin 1536 → EReal :=
  mixed (fun j => x0 (ix3 0 0 j)) (fun r j => x3 (ix3 0 r j)) (fun r j => x5 (ix2 r j))

/-- The four heads' decays. -/
abbrev decays (x2 : Vec Ideal S1x1x128 .f32) (x6 x7 : Vec Ideal S1x128 .f32) (h : Fin 4) : EReal :=
  decay (x2 (ix3 0 0 ⟨h, by omega⟩)) (x6 (ix2 0 ⟨h, by omega⟩)) (x7 (ix2 0 ⟨h, by omega⟩))

/-- The four heads' gates. -/
abbrev gates (x2 : Vec Ideal S1x1x128 .f32) (h : Fin 4) : EReal := gate (x2 (ix3 0 0 ⟨4 + h, by omega⟩))

theorem one_bits : (FloatOps.ofBits (F := Ideal) FTy.f32 1065353216#32 : EReal) = 1 := by pointwise

theorem row_at (x0 : Vec Ideal S1x1x1536 .f32) (x3 : Vec Ideal S1x3x1536 .f32) (x5 : Vec Ideal S4x1536 .f32) (j : Fin 1536) :
    k0_pay8 (F := Ideal) (k0_pay4 x0 x3 (View.ld x5 (Rect.unit ![3, 0] ![1, 1536] inb_S4x1536_S1x1536_3_0))
        (View.ld x5 (Rect.unit ![0, 0] ![1, 1536] inb_S4x1536_S1x1536_0_0))
        (View.ld x5 (Rect.unit ![1, 0] ![1, 1536] inb_S4x1536_S1x1536_1_0))
        (View.ld x5 (Rect.unit ![2, 0] ![1, 1536] inb_S4x1536_S1x1536_2_0)))
      (k0_pay7 x0 x3 (View.ld x5 (Rect.unit ![3, 0] ![1, 1536] inb_S4x1536_S1x1536_3_0))
        (View.ld x5 (Rect.unit ![0, 0] ![1, 1536] inb_S4x1536_S1x1536_0_0))
        (View.ld x5 (Rect.unit ![1, 0] ![1, 1536] inb_S4x1536_S1x1536_1_0))
        (View.ld x5 (Rect.unit ![2, 0] ![1, 1536] inb_S4x1536_S1x1536_2_0))) (FloatOps.ofBits FTy.f32 1065353216#32) (ix2 0 j) = row x0 x3 x5 j := by
  have w3 : View.ld x5 (Rect.unit ![3, 0] ![1, 1536] inb_S4x1536_S1x1536_3_0) (ix2 0 j) = x5 (ix2 3 j) := by pointwise; blk_ext
  have w0 : View.ld x5 (Rect.unit ![0, 0] ![1, 1536] inb_S4x1536_S1x1536_0_0) (ix2 0 j) = x5 (ix2 0 j) := by pointwise; blk_ext
  have w1 : View.ld x5 (Rect.unit ![1, 0] ![1, 1536] inb_S4x1536_S1x1536_1_0) (ix2 0 j) = x5 (ix2 1 j) := by pointwise; blk_ext
  have w2 : View.ld x5 (Rect.unit ![2, 0] ![1, 1536] inb_S4x1536_S1x1536_2_0) (ix2 0 j) = x5 (ix2 2 j) := by pointwise; blk_ext
  rw [pay8_at, pay7_at, pay4_at, w0, w1, w2, w3]
  simp only [row, mixed, silu, conv, one_bits]

theorem ld0 (x4 : Vec Ideal S1x4x128x128 .f32) (d n : Fin 128) :
    k0_pay44 (F := Ideal) (View.ld x4 (Rect.unit ![0, 0, 0, 0] ![1, 1, 128, 128] inb_S1x4x128x128_S1x1x128x128_0_0_0_0)) (ix2 d n) = x4 (ix4 0 0 d n) := by
  rw [pay44_at]; pointwise; blk_ext

theorem ld1 (x4 : Vec Ideal S1x4x128x128 .f32) (d n : Fin 128) :
    k0_pay45 (F := Ideal) (View.ld x4 (Rect.unit ![0, 1, 0, 0] ![1, 1, 128, 128] inb_S1x4x128x128_S1x1x128x128_0_1_0_0)) (ix2 d n) = x4 (ix4 0 1 d n) := by
  rw [pay45_at]; pointwise; blk_ext

theorem ld2 (x4 : Vec Ideal S1x4x128x128 .f32) (d n : Fin 128) :
    k0_pay46 (F := Ideal) (View.ld x4 (Rect.unit ![0, 2, 0, 0] ![1, 1, 128, 128] inb_S1x4x128x128_S1x1x128x128_0_2_0_0)) (ix2 d n) = x4 (ix4 0 2 d n) := by
  rw [pay46_at]; pointwise; blk_ext

theorem ld3 (x4 : Vec Ideal S1x4x128x128 .f32) (d n : Fin 128) :
    k0_pay47 (F := Ideal) (View.ld x4 (Rect.unit ![0, 3, 0, 0] ![1, 1, 128, 128] inb_S1x4x128x128_S1x1x128x128_0_3_0_0)) (ix2 d n) = x4 (ix4 0 3 d n) := by
  rw [pay47_at]; pointwise; blk_ext

/-- The state block grid point `t` stores. -/
theorem point10 (c : Dev nD) (t : Fin cfg0.N) (h : Fin 4) (d n : Fin 128) :
    (outsAt0 m c t).2.1 (ix4 0 h d n)
      = state (row (iblk m c 0 t) (iblk m c 3 t) (iblk m c 5 t)) (fun h d n => (iblk m c 4 t : Vec Ideal S1x4x128x128 .f32) (ix4 0 h d n))
          (decays (iblk m c 2 t) (iblk m c 6 t) (iblk m c 7 t)) (gates (iblk m c 2 t)) h d n := by
  unfold outsAt0
  frame_out
  generalize iblk m c 0 t = x0
  generalize iblk m c 2 t = x2
  generalize iblk m c 3 t = x3
  generalize iblk m c 4 t = x4
  generalize iblk m c 5 t = x5
  generalize iblk m c 6 t = x6
  generalize iblk m c 7 t = x7
  generalize hy : (ix4 0 h d n : S1x4x128x128.Idx) = y
  canon_tiles x g
  case piece0 =>
    obtain ⟨d', n', rfl⟩ : ∃ d n, x = ix4 0 0 d n := ⟨x 2, x 3, by blk_ext⟩
    obtain rfl : h = 3 := Fin.ext (by subst hy; simpa using g1)
    obtain rfl : d = d' := Fin.ext (by subst hy; simpa using g2)
    obtain rfl : n = n' := Fin.ext (by subst hy; simpa using g3)
    simp only [pay70_at, pay59_at, pay51_at, pay43_at, pay39_at, pay35_at, pay26_at, pay22_at, pay10_at, pay11_at, row_at, ld3]
    rfl
  case piece1 =>
    obtain ⟨d', n', rfl⟩ : ∃ d n, x = ix4 0 0 d n := ⟨x 2, x 3, by blk_ext⟩
    obtain rfl : h = 2 := Fin.ext (by subst hy; simpa using g1)
    obtain rfl : d = d' := Fin.ext (by subst hy; simpa using g2)
    obtain rfl : n = n' := Fin.ext (by subst hy; simpa using g3)
    simp only [pay69_at, pay58_at, pay50_at, pay42_at, pay38_at, pay34_at, pay25_at, pay21_at, pay10_at, pay11_at, row_at, ld2]
    rfl
  case piece2 =>
    obtain ⟨d', n', rfl⟩ : ∃ d n, x = ix4 0 0 d n := ⟨x 2, x 3, by blk_ext⟩
    obtain rfl : h = 1 := Fin.ext (by subst hy; simpa using g1)
    obtain rfl : d = d' := Fin.ext (by subst hy; simpa using g2)
    obtain rfl : n = n' := Fin.ext (by subst hy; simpa using g3)
    simp only [pay68_at, pay57_at, pay49_at, pay41_at, pay37_at, pay33_at, pay24_at, pay20_at, pay10_at, pay11_at, row_at, ld1]
    rfl
  case piece3 =>
    obtain ⟨d', n', rfl⟩ : ∃ d n, x = ix4 0 0 d n := ⟨x 2, x 3, by blk_ext⟩
    obtain rfl : h = 0 := Fin.ext (by subst hy; simpa using g1)
    obtain rfl : d = d' := Fin.ext (by subst hy; simpa using g2)
    obtain rfl : n = n' := Fin.ext (by subst hy; simpa using g3)
    simp only [pay67_at, pay56_at, pay48_at, pay40_at, pay36_at, pay32_at, pay23_at, pay19_at, pay10_at, pay11_at, row_at, ld0]
    rfl

/-- The output block grid point `t` stores, head beside head. -/
theorem point9 (c : Dev nD) (t : Fin cfg0.N) (j : Fin 512) :
    (outsAt0 m c t).1 (ix3 0 0 j)
      = output (row (iblk m c 0 t) (iblk m c 3 t) (iblk m c 5 t)) (fun h d n => (iblk m c 4 t : Vec Ideal S1x4x128x128 .f32) (ix4 0 h d n))
          (decays (iblk m c 2 t) (iblk m c 6 t) (iblk m c 7 t)) (gates (iblk m c 2 t))
          (fun k => (iblk m c 8 t : Vec Ideal S1x128 .f32) (ix2 0 k)) (fun k => (iblk m c 1 t : Vec Ideal S1x1x512 .f32) (ix3 0 0 k))
          ⟨j / 128, by omega⟩ ⟨j % 128, by omega⟩ := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize hy : (ix3 0 0 j : S1x1x512.Idx) = y
  canon_tiles x g
  case piece0 =>
    obtain ⟨n', rfl⟩ : ∃ n, x = ix3 0 0 n := ⟨x 2, by blk_ext⟩
    obtain rfl : j = ⟨128 * 3 + n', by omega⟩ := Fin.ext (by subst hy; simpa using g2)
    have e1 : (⟨(128 * 3 + n'.val) / 128, by omega⟩ : Fin 4) = 3 := Fin.ext (by simp <;> omega)
    have e2 : (⟨(128 * 3 + n'.val) % 128, by omega⟩ : Fin 128) = n' := Fin.ext (by simp <;> omega)
    simp only [pay77_at, pay64_at, pay59_at, pay55_at, pay51_at, pay43_at, pay39_at, pay35_at, pay30_at, pay26_at, pay22_at, pay18_at, pay10_at, pay11_at, row_at, ld3]
    rw [e1, e2]
    rfl
  case piece1 =>
    obtain ⟨n', rfl⟩ : ∃ n, x = ix3 0 0 n := ⟨x 2, by blk_ext⟩
    obtain rfl : j = ⟨128 * 2 + n', by omega⟩ := Fin.ext (by subst hy; simpa using g2)
    have e1 : (⟨(128 * 2 + n'.val) / 128, by omega⟩ : Fin 4) = 2 := Fin.ext (by simp <;> omega)
    have e2 : (⟨(128 * 2 + n'.val) % 128, by omega⟩ : Fin 128) = n' := Fin.ext (by simp <;> omega)
    simp only [pay76_at, pay63_at, pay58_at, pay54_at, pay50_at, pay42_at, pay38_at, pay34_at, pay29_at, pay25_at, pay21_at, pay17_at, pay10_at, pay11_at, row_at, ld2]
    rw [e1, e2]
    rfl
  case piece2 =>
    obtain ⟨n', rfl⟩ : ∃ n, x = ix3 0 0 n := ⟨x 2, by blk_ext⟩
    obtain rfl : j = ⟨128 * 1 + n', by omega⟩ := Fin.ext (by subst hy; simpa using g2)
    have e1 : (⟨(128 * 1 + n'.val) / 128, by omega⟩ : Fin 4) = 1 := Fin.ext (by simp <;> omega)
    have e2 : (⟨(128 * 1 + n'.val) % 128, by omega⟩ : Fin 128) = n' := Fin.ext (by simp <;> omega)
    simp only [pay74_at, pay62_at, pay57_at, pay53_at, pay49_at, pay41_at, pay37_at, pay33_at, pay28_at, pay24_at, pay20_at, pay16_at, pay10_at, pay11_at, row_at, ld1]
    rw [e1, e2]
    rfl
  case piece3 =>
    obtain ⟨n', rfl⟩ : ∃ n, x = ix3 0 0 n := ⟨x 2, by blk_ext⟩
    obtain rfl : j = ⟨128 * 0 + n', by omega⟩ := Fin.ext (by subst hy; simpa using g2)
    have e1 : (⟨(128 * 0 + n'.val) / 128, by omega⟩ : Fin 4) = 0 := Fin.ext (by simp <;> omega)
    have e2 : (⟨(128 * 0 + n'.val) % 128, by omega⟩ : Fin 128) = n' := Fin.ext (by simp <;> omega)
    simp only [pay73_at, pay61_at, pay56_at, pay52_at, pay48_at, pay40_at, pay36_at, pay32_at, pay27_at, pay23_at, pay19_at, pay15_at, pay10_at, pay11_at, row_at, ld0]
    rw [e1, e2]
    rfl

/-- The convolution buffer grid point `t` stores: the two newest rows move up, the new token's row comes last. -/
theorem point11 (c : Dev nD) (t : Fin cfg0.N) (r : Fin 3) (j : Fin 1536) :
    (outsAt0 m c t).2.2 (ix3 0 r j)
      = shifted (fun j => (iblk m c 0 t : Vec Ideal S1x1x1536 .f32) (ix3 0 0 j)) (fun r j => (iblk m c 3 t : Vec Ideal S1x3x1536 .f32) (ix3 0 r j)) r j := by
  unfold outsAt0
  frame_out
  generalize iblk m c 0 t = x0
  generalize iblk m c 3 t = x3
  generalize hy : (ix3 0 r j : S1x3x1536.Idx) = y
  canon_tiles x g using (View.cover_of_tiledBy _ ![1, 1, 1536] (by sl_kernel_rfl) y)
  case piece0 =>
    obtain ⟨j', rfl⟩ : ∃ j, x = ix3 0 0 j := ⟨x 2, by blk_ext⟩
    obtain rfl : r = 2 := Fin.ext (by subst hy; simpa using g1)
    obtain rfl : j = j' := Fin.ext (by subst hy; simpa using g2)
    pointwise [k0_pay6, k0_pay2, shifted]
  case piece1 =>
    obtain ⟨r', j', rfl⟩ : ∃ r j, x = ix3 0 r j := ⟨x 1, x 2, by blk_ext⟩
    obtain rfl : j = j' := Fin.ext (by subst hy; simpa using g2)
    have e : r.val = r'.val := by subst hy; simpa using g1
    clear hy
    fin_cases r'
    · obtain rfl : r = 0 := Fin.ext e
      pointwise [k0_pay5, k0_pay3, shifted]
    · obtain rfl : r = 1 := Fin.ext e
      pointwise [k0_pay5, k0_pay3, shifted]

end Cert.KernelIdeal.Delta
-- ==== Proof.DeltaFinal.lean ====
module

public import proofs.«01_k».proof.Proof.DeltaK

/-! # The recurrence for one token, the kernel's arrays

The blocks' values, read over the arguments, are the arrays of `Delta`. -/

@[expose] public section
set_option maxRecDepth 16384
noncomputable section
open Idealize.ShloMosaic Idealize.ShloMosaic.TcCoe Idealize.SL.Sem
open Idealize.ShloMosaic.Pipeline (Dat)
namespace Cert.KernelIdeal.Delta
open Cert.KernelIdeal Cert.KernelIdeal.Gen Cert.Row Cert.Delta

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_5.index t = ![0, 0] ∧ win0_6.index t = ![0, 0]
    ∧ win0_7.index t = ![0, 0] ∧ win0_8.index t = ![0, 0] ∧ win0_9.index t = ![t.val, 0, 0] ∧ win0_10.index t = ![t.val, 0, 0, 0]
    ∧ win0_11.index t = ![t.val, 0, 0] :=
  (by decide +kernel : ∀ t : Fin grid0.N, _)

/-- The sequence grid point `t` works on. -/
abbrev seq (t : Fin cfg0.N) : Fin 128 := ⟨t.val, t.isLt⟩

theorem v7_read (X : Vec Ideal S128x1536 .f32) (i : Fin 128) (j : Fin 1536) : (shapeCast S128x1x1536 X shapeCasts_S128x1536_S128x1x1536) (ix3 i 0 j) = X (ix2 i j) := by
  pointwise

theorem v7_at (c : Dev nD) (i : Fin 128) (j : Fin 1536) : (V m c main_v7 : Vec Ideal S128x1x1536 .f32) (ix3 i 0 j) = (m ((c.tc : Thread nD τ).loc main_arg0) : Vec Ideal S128x1536 .f32) (ix2 i j) := by
  have hv : (V m c main_v7 : Vec Ideal S128x1x1536 .f32) = shapeCast S128x1x1536 (m ((c.tc : Thread nD τ).loc main_arg0) : Vec Ideal S128x1536 .f32) shapeCasts_S128x1536_S128x1x1536 := by
    entry_read; rfl
  exact (congrFun hv _).trans (v7_read _ i j)

theorem e0 (c : Dev nD) (t : Fin cfg0.N) (j : Fin 1536) : iblk m c 0 t (ix3 0 0 j) = (m ((c.tc : Thread nD τ).loc main_arg0) : Vec Ideal S128x1536 .f32) (ix2 (seq t) j) := by
  blk_simp [iblk]
  refine Eq.trans (congrArg (V m c main_v7) ?_) (v7_at m c (seq t) j)
  blk_ext [idx t]

theorem v8_read (X : Vec Ideal S128x512 .f32) (i : Fin 128) (j : Fin 512) : (shapeCast S128x1x512 X shapeCasts_S128x512_S128x1x512) (ix3 i 0 j) = X (ix2 i j) := by
  pointwise

theorem v8_at (c : Dev nD) (i : Fin 128) (j : Fin 512) : (V m c main_v8 : Vec Ideal S128x1x512 .f32) (ix3 i 0 j) = (m ((c.tc : Thread nD τ).loc main_arg1) : Vec Ideal S128x512 .f32) (ix2 i j) := by
  have hv : (V m c main_v8 : Vec Ideal S128x1x512 .f32) = shapeCast S128x1x512 (m ((c.tc : Thread nD τ).loc main_arg1) : Vec Ideal S128x512 .f32) shapeCasts_S128x512_S128x1x512 := by
    entry_read; rfl
  exact (congrFun hv _).trans (v8_read _ i j)

theorem e1 (c : Dev nD) (t : Fin cfg0.N) (j : Fin 512) : iblk m c 1 t (ix3 0 0 j) = (m ((c.tc : Thread nD τ).loc main_arg1) : Vec Ideal S128x512 .f32) (ix2 (seq t) j) := by
  blk_simp [iblk]
  refine Eq.trans (congrArg (V m c main_v8) ?_) (v8_at m c (seq t) j)
  blk_ext [idx t]

theorem v9_read (X : Vec Ideal S128x128 .f32) (i : Fin 128) (j : Fin 128) : (shapeCast S128x1x128 X shapeCasts_S128x128_S128x1x128) (ix3 i 0 j) = X (ix2 i j) := by
  pointwise

theorem v9_at (c : Dev nD) (i : Fin 128) (j : Fin 128) : (V m c main_v9 : Vec Ideal S128x1x128 .f32) (ix3 i 0 j) = (m ((c.tc : Thread nD τ).loc main_arg2) : Vec Ideal S128x128 .f32) (ix2 i j) := by
  have hv : (V m c main_v9 : Vec Ideal S128x1x128 .f32) = shapeCast S128x1x128 (m ((c.tc : Thread nD τ).loc main_arg2) : Vec Ideal S128x128 .f32) shapeCasts_S128x128_S128x1x128 := by
    entry_read; rfl
  exact (congrFun hv _).trans (v9_read _ i j)

theorem e2 (c : Dev nD) (t : Fin cfg0.N) (j : Fin 128) : iblk m c 2 t (ix3 0 0 j) = (m ((c.tc : Thread nD τ).loc main_arg2) : Vec Ideal S128x128 .f32) (ix2 (seq t) j) := by
  blk_simp [iblk]
  refine Eq.trans (congrArg (V m c main_v9) ?_) (v9_at m c (seq t) j)
  blk_ext [idx t]

theorem v10_read (X : Vec Ideal S1x128x3x1536 .f32) (i : Fin 128) (r : Fin 3) (j : Fin 1536) : (shapeCast S128x3x1536 X shapeCasts_S1x128x3x1536_S128x3x1536) (ix3 i r j) = X (ix4 0 i r j) := by
  pointwise

theorem v10_at (c : Dev nD) (i : Fin 128) (r : Fin 3) (j : Fin 1536) : (V m c main_v10 : Vec Ideal S128x3x1536 .f32) (ix3 i r j) = (m ((c.tc : Thread nD τ).loc main_arg3) : Vec Ideal S1x128x3x1536 .f32) (ix4 0 i r j) := by
  have hv : (V m c main_v10 : Vec Ideal S128x3x1536 .f32) = shapeCast S128x3x1536 (m ((c.tc : Thread nD τ).loc main_arg3) : Vec Ideal S1x128x3x1536 .f32) shapeCasts_S1x128x3x1536_S128x3x1536 := by
    entry_read; rfl
  exact (congrFun hv _).trans (v10_read _ i r j)

theorem e3 (c : Dev nD) (t : Fin cfg0.N) (r : Fin 3) (j : Fin 1536) : iblk m c 3 t (ix3 0 r j) = (m ((c.tc : Thread nD τ).loc main_arg3) : Vec Ideal S1x128x3x1536 .f32) (ix4 0 (seq t) r j) := by
  blk_simp [iblk]
  refine Eq.trans (congrArg (V m c main_v10) ?_) (v10_at m c (seq t) r j)
  blk_ext [idx t]

theorem v11_read (X : Vec Ideal S1x128x4x128x128 .f32) (i : Fin 128) (h : Fin 4) (d n : Fin 128) : (shapeCast S128x4x128x128 X shapeCasts_S1x128x4x128x128_S128x4x128x128) (ix4 i h d n) = X (ix5 0 i h d n) := by
  pointwise

theorem v11_at (c : Dev nD) (i : Fin 128) (h : Fin 4) (d n : Fin 128) : (V m c main_v11 : Vec Ideal S128x4x128x128 .f32) (ix4 i h d n) = (m ((c.tc : Thread nD τ).loc main_arg4) : Vec Ideal S1x128x4x128x128 .f32) (ix5 0 i h d n) := by
  have hv : (V m c main_v11 : Vec Ideal S128x4x128x128 .f32) = shapeCast S128x4x128x128 (m ((c.tc : Thread nD τ).loc main_arg4) : Vec Ideal S1x128x4x128x128 .f32) shapeCasts_S1x128x4x128x128_S128x4x128x128 := by
    entry_read; rfl
  exact (congrFun hv _).trans (v11_read _ i h d n)

theorem e4 (c : Dev nD) (t : Fin cfg0.N) (h : Fin 4) (d n : Fin 128) : iblk m c 4 t (ix4 0 h d n) = (m ((c.tc : Thread nD τ).loc main_arg4) : Vec Ideal S1x128x4x128x128 .f32) (ix5 0 (seq t) h d n) := by
  blk_simp [iblk]
  refine Eq.trans (congrArg (V m c main_v11) ?_) (v11_at m c (seq t) h d n)
  blk_ext [idx t]

theorem v12_read (X : Vec Ideal S1x4x1536 .f32) (r : Fin 4) (j : Fin 1536) : (shapeCast S4x1536 X shapeCasts_S1x4x1536_S4x1536) (ix2 r j) = X (ix3 0 r j) := by
  pointwise

theorem v12_at (c : Dev nD) (r : Fin 4) (j : Fin 1536) : (V m c main_v12 : Vec Ideal S4x1536 .f32) (ix2 r j) = (m ((c.tc : Thread nD τ).loc main_arg5) : Vec Ideal S1x4x1536 .f32) (ix3 0 r j) := by
  have hv : (V m c main_v12 : Vec Ideal S4x1536 .f32) = shapeCast S4x1536 (m ((c.tc : Thread nD τ).loc main_arg5) : Vec Ideal S1x4x1536 .f32) shapeCasts_S1x4x1536_S4x1536 := by
    entry_read; rfl
  exact (congrFun hv _).trans (v12_read _ r j)

theorem e5 (c : Dev nD) (t : Fin cfg0.N) (r : Fin 4) (j : Fin 1536) : iblk m c 5 t (ix2 r j) = (m ((c.tc : Thread nD τ).loc main_arg5) : Vec Ideal S1x4x1536 .f32) (ix3 0 r j) := by
  blk_simp [iblk]
  refine Eq.trans (congrArg (V m c main_v12) ?_) (v12_at m c r j)
  blk_ext [idx t]

theorem v2_read (X : Vec Ideal S1x4 .f32) (h : Fin 4) : (shapeCast S1x128 (pad S128 ![0] ![124] ![0] (shapeCast S4 X shapeCasts_S1x4_S4) (sitofp (F := Ideal) .f32 (constantI S_ 32 0#32)) pads_S4_S128_01240 h_S_) shapeCasts_S128_S1x128) (ix2 0 ⟨h, by omega⟩) = X (ix2 0 h) := by
  have := h.isLt
  pointwise

theorem v2_at (c : Dev nD) (h : Fin 4) : (V m c main_v2 : Vec Ideal S1x128 .f32) (ix2 0 ⟨h, by omega⟩) = (m ((c.tc : Thread nD τ).loc main_arg6) : Vec Ideal S1x4 .f32) (ix2 0 h) := by
  have hv : (V m c main_v2 : Vec Ideal S1x128 .f32) = shapeCast S1x128 (pad S128 ![0] ![124] ![0] (shapeCast S4 (m ((c.tc : Thread nD τ).loc main_arg6) : Vec Ideal S1x4 .f32) shapeCasts_S1x4_S4) (sitofp (F := Ideal) .f32 (constantI S_ 32 0#32)) pads_S4_S128_01240 h_S_) shapeCasts_S128_S1x128 := by
    entry_read; rfl
  exact (congrFun hv _).trans (v2_read _ h)

theorem e6 (c : Dev nD) (t : Fin cfg0.N) (h : Fin 4) : iblk m c 6 t (ix2 0 ⟨h, by omega⟩) = (m ((c.tc : Thread nD τ).loc main_arg6) : Vec Ideal S1x4 .f32) (ix2 0 h) := by
  blk_simp [iblk]
  refine Eq.trans (congrArg (V m c main_v2) ?_) (v2_at m c h)
  blk_ext [idx t]

theorem v5_read (X : Vec Ideal S1x4 .f32) (h : Fin 4) : (shapeCast S1x128 (pad S128 ![0] ![124] ![0] (shapeCast S4 X shapeCasts_S1x4_S4) (sitofp (F := Ideal) .f32 (constantI S_ 32 0#32)) pads_S4_S128_01240 h_S_) shapeCasts_S128_S1x128) (ix2 0 ⟨h, by omega⟩) = X (ix2 0 h) := by
  have := h.isLt
  pointwise

theorem v5_at (c : Dev nD) (h : Fin 4) : (V m c main_v5 : Vec Ideal S1x128 .f32) (ix2 0 ⟨h, by omega⟩) = (m ((c.tc : Thread nD τ).loc main_arg7) : Vec Ideal S1x4 .f32) (ix2 0 h) := by
  have hv : (V m c main_v5 : Vec Ideal S1x128 .f32) = shapeCast S1x128 (pad S128 ![0] ![124] ![0] (shapeCast S4 (m ((c.tc : Thread nD τ).loc main_arg7) : Vec Ideal S1x4 .f32) shapeCasts_S1x4_S4) (sitofp (F := Ideal) .f32 (constantI S_ 32 0#32)) pads_S4_S128_01240 h_S_) shapeCasts_S128_S1x128 := by
    entry_read; rfl
  exact (congrFun hv _).trans (v5_read _ h)

theorem e7 (c : Dev nD) (t : Fin cfg0.N) (h : Fin 4) : iblk m c 7 t (ix2 0 ⟨h, by omega⟩) = (m ((c.tc : Thread nD τ).loc main_arg7) : Vec Ideal S1x4 .f32) (ix2 0 h) := by
  blk_simp [iblk]
  refine Eq.trans (congrArg (V m c main_v5) ?_) (v5_at m c h)
  blk_ext [idx t]

theorem v13_read (X : Vec Ideal S1x128 .f32) (j : Fin 128) : (shapeCast S1x128 (shapeCast S128 X shapeCasts_S1x128_S128) shapeCasts_S128_S1x128) (ix2 0 j) = X (ix2 0 j) := by
  pointwise

theorem v13_at (c : Dev nD) (j : Fin 128) : (V m c main_v13 : Vec Ideal S1x128 .f32) (ix2 0 j) = (m ((c.tc : Thread nD τ).loc main_arg8) : Vec Ideal S1x128 .f32) (ix2 0 j) := by
  have hv : (V m c main_v13 : Vec Ideal S1x128 .f32) = shapeCast S1x128 (shapeCast S128 (m ((c.tc : Thread nD τ).loc main_arg8) : Vec Ideal S1x128 .f32) shapeCasts_S1x128_S128) shapeCasts_S128_S1x128 := by
    entry_read; rfl
  exact (congrFun hv _).trans (v13_read _ j)

theorem e8 (c : Dev nD) (t : Fin cfg0.N) (j : Fin 128) : iblk m c 8 t (ix2 0 j) = (m ((c.tc : Thread nD τ).loc main_arg8) : Vec Ideal S1x128 .f32) (ix2 0 j) := by
  blk_simp [iblk]
  refine Eq.trans (congrArg (V m c main_v13) ?_) (v13_at m c j)
  blk_ext [idx t]

/-- Result 0 as an array of the arguments. -/
def arr9 (c : Dev nD) : Vec Ideal S128x1x512 .f32 := fun y => outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (y 0) (y 2)

theorem block9 (c : Dev nD) (t : Fin cfg0.N) (y : S1x1x512.Idx) :
    (outsAt0 m c t).1 y = arr9 m c (((cfg0.win 9).blk t).view.emb y) := by
  obtain ⟨j, rfl⟩ : ∃ j, y = ix3 0 0 j := ⟨y 2, by blk_ext⟩
  have en : ((cfg0.win 9).blk t).view.emb (ix3 0 0 j) = ix3 (seq t) 0 j := by
    blk_ext [idx t]
  rw [en]
  have ea : arr9 m c (ix3 (seq t) 0 j) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (seq t) j := rfl
  rw [ea]
  unfold outArr
  refine (point9 m c t _).trans ?_
  have er : row (iblk m c 0 t) (iblk m c 3 t) (iblk m c 5 t) = rowOf (m ((c.tc : Thread nD τ).loc main_arg0)) (m ((c.tc : Thread nD τ).loc main_arg3)) (m ((c.tc : Thread nD τ).loc main_arg5)) (seq t) := by
    simp only [row, rowOf, e0, e3, e5]
  have ed : decays (iblk m c 2 t) (iblk m c 6 t) (iblk m c 7 t) = decaysOf (m ((c.tc : Thread nD τ).loc main_arg2)) (m ((c.tc : Thread nD τ).loc main_arg6)) (m ((c.tc : Thread nD τ).loc main_arg7)) (seq t) := by
    funext h; simp only [decays, decaysOf, e2, e6, e7]
  have eg : gates (iblk m c 2 t) = gatesOf (m ((c.tc : Thread nD τ).loc main_arg2)) (seq t) := by
    funext h; simp only [gates, gatesOf, e2]
  rw [er, ed, eg]
  simp only [e1, e4, e8]

theorem final9 (c : Dev nD) : (dats m 0 c).arrAt 9 (cfgs 0).N = arr9 m c := by
  refine (dats m 0 c).arrAt_eq_of_covers 9 _ (by decide +kernel) fun t _ y => ?_
  blk_simp
  rw [after0_9]
  exact block9 m c t y

/-- Result 1 as an array of the arguments. -/
def arr10 (c : Dev nD) : Vec Ideal S128x4x128x128 .f32 := fun y => stateArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1) (y 2) (y 3)

theorem block10 (c : Dev nD) (t : Fin cfg0.N) (y : S1x4x128x128.Idx) :
    (outsAt0 m c t).2.1 y = arr10 m c (((cfg0.win 10).blk t).view.emb y) := by
  obtain ⟨h, d, n, rfl⟩ : ∃ h d n, y = ix4 0 h d n := ⟨y 1, y 2, y 3, by blk_ext⟩
  have en : ((cfg0.win 10).blk t).view.emb (ix4 0 h d n) = ix4 (seq t) h d n := by
    blk_ext [idx t]
  rw [en]
  have ea : arr10 m c (ix4 (seq t) h d n) = stateArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (seq t) h d n := rfl
  rw [ea]
  unfold stateArr
  refine (point10 m c t _ _ _).trans ?_
  have er : row (iblk m c 0 t) (iblk m c 3 t) (iblk m c 5 t) = rowOf (m ((c.tc : Thread nD τ).loc main_arg0)) (m ((c.tc : Thread nD τ).loc main_arg3)) (m ((c.tc : Thread nD τ).loc main_arg5)) (seq t) := by
    simp only [row, rowOf, e0, e3, e5]
  have ed : decays (iblk m c 2 t) (iblk m c 6 t) (iblk m c 7 t) = decaysOf (m ((c.tc : Thread nD τ).loc main_arg2)) (m ((c.tc : Thread nD τ).loc main_arg6)) (m ((c.tc : Thread nD τ).loc main_arg7)) (seq t) := by
    funext h; simp only [decays, decaysOf, e2, e6, e7]
  have eg : gates (iblk m c 2 t) = gatesOf (m ((c.tc : Thread nD τ).loc main_arg2)) (seq t) := by
    funext h; simp only [gates, gatesOf, e2]
  rw [er, ed, eg]
  simp only [e4]

theorem final10 (c : Dev nD) : (dats m 0 c).arrAt 10 (cfgs 0).N = arr10 m c := by
  refine (dats m 0 c).arrAt_eq_of_covers 10 _ (by decide +kernel) fun t _ y => ?_
  blk_simp
  rw [after0_10]
  exact block10 m c t y

/-- Result 2 as an array of the arguments. -/
def arr11 (c : Dev nD) : Vec Ideal S128x3x1536 .f32 := fun y => bufArr (m ((c.tc : Thread nD τ).loc main_arg0)) (m ((c.tc : Thread nD τ).loc main_arg3)) (y 0) (y 1) (y 2)

theorem block11 (c : Dev nD) (t : Fin cfg0.N) (y : S1x3x1536.Idx) :
    (outsAt0 m c t).2.2 y = arr11 m c (((cfg0.win 11).blk t).view.emb y) := by
  obtain ⟨r, j, rfl⟩ : ∃ r j, y = ix3 0 r j := ⟨y 1, y 2, by blk_ext⟩
  have en : ((cfg0.win 11).blk t).view.emb (ix3 0 r j) = ix3 (seq t) r j := by
    blk_ext [idx t]
  rw [point11, en]
  simp only [row, decays, gates, e0, e3]
  rfl

theorem final11 (c : Dev nD) : (dats m 0 c).arrAt 11 (cfgs 0).N = arr11 m c := by
  refine (dats m 0 c).arrAt_eq_of_covers 11 _ (by decide +kernel) fun t _ y => ?_
  blk_simp
  rw [after0_11]
  exact block11 m c t y

end Cert.KernelIdeal.Delta
-- ==== Proof.DeltaRef.lean ====
module

public import proofs.«01_k».proof.Proof.Gen.ReferenceIdeal.Run
public import proofs.«01_k».proof.Proof.Delta
public import Idealize.ShloMosaic.Lib.Claim

/-! # The gated delta rule, the reference's side

The reference's three results, cut into the steps they are written in, are the arrays of `Delta`. -/

@[expose] public section
set_option maxRecDepth 16384
noncomputable section
open Idealize.ShloMosaic Idealize.ShloMosaic.TcCoe Idealize.SL.Sem
namespace Cert.ReferenceIdeal.Delta
open Cert.ReferenceIdeal Cert.ReferenceIdeal.Gen Cert.Row Cert.Delta

/-- The buffer followed by the new row. -/
def rPad (g : FVec Ideal S128x1536 .f32) (sc : FVec Ideal S1x128x3x1536 .f32) : FVec Ideal S128x4x1536 .f32 :=
  concatenate S128x4x1536 1 [⟨S128x3x1536, (shapeCast _ sc shapeCasts_S1x128x3x1536_S128x3x1536)⟩, ⟨S128x1x1536, (shapeCast _ g shapeCasts_S128x1536_S128x1x1536)⟩] concatenates_S128x3x1536_S128x1x1536_S128x4x1536_d1
/-- The convolution. -/
def rConv (p : FVec Ideal S128x4x1536 .f32) (cw : FVec Ideal S1x4x1536 .f32) : FVec Ideal S128x1x1536 .f32 :=
  addf (addf (addf (addf (broadcastInDim S128x1x1536 ![] bcast_S_S128x1x1536 (constant S_ .f32 0x00000000#32)) (mulf (extractStridedSlice S128x1x1536 ![0, 0, 0] p slices_S128x4x1536_S128x1x1536_0_0_0) (broadcastInDim S128x1x1536 ![0, 1, 2] bcast_S1x1x1536_S128x1x1536_0_1_2 (broadcastInDim S1x1x1536 ![2] bcast_S1536_S1x1x1536_2 (shapeCast _ (extractStridedSlice S1x1x1536 ![0, 0, 0] cw slices_S1x4x1536_S1x1x1536_0_0_0) shapeCasts_S1x1x1536_S1536))))) (mulf (extractStridedSlice S128x1x1536 ![0, 1, 0] p slices_S128x4x1536_S128x1x1536_0_1_0) (broadcastInDim S128x1x1536 ![0, 1, 2] bcast_S1x1x1536_S128x1x1536_0_1_2 (broadcastInDim S1x1x1536 ![2] bcast_S1536_S1x1x1536_2 (shapeCast _ (extractStridedSlice S1x1x1536 ![0, 1, 0] cw slices_S1x4x1536_S1x1x1536_0_1_0) shapeCasts_S1x1x1536_S1536))))) (mulf (extractStridedSlice S128x1x1536 ![0, 2, 0] p slices_S128x4x1536_S128x1x1536_0_2_0) (broadcastInDim S128x1x1536 ![0, 1, 2] bcast_S1x1x1536_S128x1x1536_0_1_2 (broadcastInDim S1x1x1536 ![2] bcast_S1536_S1x1x1536_2 (shapeCast _ (extractStridedSlice S1x1x1536 ![0, 2, 0] cw slices_S1x4x1536_S1x1x1536_0_2_0) shapeCasts_S1x1x1536_S1536))))) (mulf (extractStridedSlice S128x1x1536 ![0, 3, 0] p slices_S128x4x1536_S128x1x1536_0_3_0) (broadcastInDim S128x1x1536 ![0, 1, 2] bcast_S1x1x1536_S128x1x1536_0_1_2 (broadcastInDim S1x1x1536 ![2] bcast_S1536_S1x1x1536_2 (shapeCast _ (extractStridedSlice S1x1x1536 ![0, 3, 0] cw slices_S1x4x1536_S1x1x1536_0_3_0) shapeCasts_S1x1x1536_S1536))))
/-- Through `silu`. -/
def rMixed (x : FVec Ideal S128x1x1536 .f32) : FVec Ideal S128x1x1536 .f32 :=
  mulf x (Host.divf (broadcastInDim S128x1x1536 ![] bcast_S_S128x1x1536 (constant S_ .f32 0x3F800000#32)) (addf (broadcastInDim S128x1x1536 ![] bcast_S_S128x1x1536 (constant S_ .f32 0x3F800000#32)) (Host.exp (Host.negf x))))
/-- The queries, head by head. -/
def rQ (a : FVec Ideal S128x1x1536 .f32) : FVec Ideal S128x1x4x128 .f32 :=
  shapeCast _ (extractStridedSlice S128x1x512 ![0, 0, 0] a slices_S128x1x1536_S128x1x512_0_0_0) shapeCasts_S128x1x512_S128x1x4x128
/-- The keys, head by head. -/
def rK (a : FVec Ideal S128x1x1536 .f32) : FVec Ideal S128x1x4x128 .f32 :=
  shapeCast _ (extractStridedSlice S128x1x512 ![0, 0, 512] a slices_S128x1x1536_S128x1x512_0_0_512) shapeCasts_S128x1x512_S128x1x4x128
/-- The step size before `softplus`. -/
def rShift (ab : FVec Ideal S128x128 .f32) (dt : FVec Ideal S1x4 .f32) : FVec Ideal S128x1x4 .f32 :=
  addf (broadcastInDim S128x1x4 ![0, 2] bcast_S128x4_S128x1x4_0_2 (extractStridedSlice S128x4 ![0, 0] ab slices_S128x128_S128x4_0_0)) (broadcastInDim S128x1x4 ![0, 1, 2] bcast_S1x1x4_S128x1x4_0_1_2 (broadcastInDim S1x1x4 ![2] bcast_S4_S1x1x4_2 (shapeCast _ dt shapeCasts_S1x4_S4)))
/-- The argument of the absolute value in `softplus`. -/
def rDiff (x : FVec Ideal S128x1x4 .f32) : FVec Ideal S128x1x4 .f32 :=
  subf x (broadcastInDim S128x1x4 ![] bcast_S_S128x1x4 (constant S_ .f32 0x00000000#32))
/-- The scaled unit queries. -/
def rQuery (q : FVec Ideal S128x1x4x128 .f32) : FVec Ideal S128x4x128 .f32 :=
  shapeCast _ (mulf (mulf q (broadcastInDim S128x1x4x128 ![0, 1, 2, 3] bcast_S128x1x4x1_S128x1x4x128_0_1_2_3 (Host.rsqrt (addf (broadcastInDim S128x1x4x1 ![0, 1, 2] bcast_S128x1x4_S128x1x4x1_0_1_2 (Host.reduceAdd (mulf q q) (constant S_ .f32 0x00000000#32) reducesTo_S128x1x4x128_S128x1x4_d3 h_S_)) (broadcastInDim S128x1x4x1 ![] bcast_S_S128x1x4x1 (constant S_ .f32 0x358637BD#32)))))) (broadcastInDim S128x1x4x128 ![] bcast_S_S128x1x4x128 (constant S_ .f32 0x3DB504F3#32))) shapeCasts_S128x1x4x128_S128x4x128
/-- The unit keys. -/
def rKey (k : FVec Ideal S128x1x4x128 .f32) : FVec Ideal S128x4x128 .f32 :=
  shapeCast _ (mulf k (broadcastInDim S128x1x4x128 ![0, 1, 2, 3] bcast_S128x1x4x1_S128x1x4x128_0_1_2_3 (Host.rsqrt (addf (broadcastInDim S128x1x4x1 ![0, 1, 2] bcast_S128x1x4_S128x1x4x1_0_1_2 (Host.reduceAdd (mulf k k) (constant S_ .f32 0x00000000#32) reducesTo_S128x1x4x128_S128x1x4_d3 h_S_)) (broadcastInDim S128x1x4x1 ![] bcast_S_S128x1x4x1 (constant S_ .f32 0x358637BD#32)))))) shapeCasts_S128x1x4x128_S128x4x128
/-- The logarithm of the decay. -/
def rLog (y : FVec Ideal S128x1x4 .f32) (x : FVec Ideal S128x1x4 .f32) (al : FVec Ideal S1x4 .f32) : FVec Ideal S128x4 .f32 :=
  shapeCast _ (mulf (broadcastInDim S128x1x4 ![0, 1, 2] bcast_S1x1x4_S128x1x4_0_1_2 (broadcastInDim S1x1x4 ![2] bcast_S4_S1x1x4_2 (Host.negf (Host.exp (shapeCast _ al shapeCasts_S1x4_S4))))) (select (cmpf .une y y) (addf x (broadcastInDim S128x1x4 ![] bcast_S_S128x1x4 (constant S_ .f32 0x00000000#32))) (addf (maximumf x (broadcastInDim S128x1x4 ![] bcast_S_S128x1x4 (constant S_ .f32 0x00000000#32))) (Host.log1p (Host.exp (Host.negf (Host.absf y))))))) shapeCasts_S128x1x4_S128x4
/-- The gates. -/
def rGate (ab : FVec Ideal S128x128 .f32) : FVec Ideal S128x4 .f32 :=
  shapeCast _ (Host.divf (broadcastInDim S128x1x4 ![] bcast_S_S128x1x4 (constant S_ .f32 0x3F800000#32)) (addf (broadcastInDim S128x1x4 ![] bcast_S_S128x1x4 (constant S_ .f32 0x3F800000#32)) (Host.exp (Host.negf (broadcastInDim S128x1x4 ![0, 2] bcast_S128x4_S128x1x4_0_2 (extractStridedSlice S128x4 ![0, 4] ab slices_S128x128_S128x4_0_4)))))) shapeCasts_S128x1x4_S128x4
/-- The states. -/
def rS (sg : FVec Ideal S1x128x4x128x128 .f32) : FVec Ideal S128x4x128x128 .f32 :=
  shapeCast _ sg shapeCasts_S1x128x4x128x128_S128x4x128x128
/-- The gated errors. -/
def rError (a : FVec Ideal S128x1x1536 .f32) (b : FVec Ideal S128x4 .f32) (k : FVec Ideal S128x4x128 .f32) (l : FVec Ideal S128x4 .f32) (s : FVec Ideal S128x4x128x128 .f32) : FVec Ideal S128x4x128 .f32 :=
  subf (mulf (shapeCast _ (shapeCast _ (extractStridedSlice S128x1x512 ![0, 0, 1024] a slices_S128x1x1536_S128x1x512_0_0_1024) shapeCasts_S128x1x512_S128x1x4x128) shapeCasts_S128x1x4x128_S128x4x128) (broadcastInDim S128x4x128 ![0, 1, 2] bcast_S128x4x1_S128x4x128_0_1_2 (broadcastInDim S128x4x1 ![0, 1] bcast_S128x4_S128x4x1_0_1 b))) (Host.dotGeneral dot_S128x4x128_S128x4x128x128_S128x4x128_2_2_n_3_01_01 none (mulf k (broadcastInDim S128x4x128 ![0, 1, 2] bcast_S128x4x1_S128x4x128_0_1_2 (broadcastInDim S128x4x1 ![0, 1] bcast_S128x4_S128x4x1_0_1 (mulf b (Host.exp l))))) s)
/-- What the queries read. -/
def rAnswer (q : FVec Ideal S128x4x128 .f32) (l : FVec Ideal S128x4 .f32) (s : FVec Ideal S128x4x128x128 .f32) (k : FVec Ideal S128x4x128 .f32) (e : FVec Ideal S128x4x128 .f32) : FVec Ideal S128x4x128 .f32 :=
  addf (Host.dotGeneral dot_S128x4x128_S128x4x128x128_S128x4x128_2_2_n_3_01_01 none (mulf q (broadcastInDim S128x4x128 ![0, 1, 2] bcast_S128x4x1_S128x4x128_0_1_2 (broadcastInDim S128x4x1 ![0, 1] bcast_S128x4_S128x4x1_0_1 (Host.exp l)))) s) (mulf (broadcastInDim S128x4x128 ![0, 1, 2] bcast_S128x4x1_S128x4x128_0_1_2 (broadcastInDim S128x4x1 ![0, 1] bcast_S128x4_S128x4x1_0_1 (Host.dotGeneral dot_S128x4x128_S128x4x128_S128x4_2_2_n_n_01_01 none q k))) e)
/-- The outputs. -/
def rOut (o : FVec Ideal S128x4x128 .f32) (z : FVec Ideal S128x512 .f32) (nw : FVec Ideal S1x128 .f32) : FVec Ideal S128x1x512 .f32 :=
  shapeCast _ (mulf (mulf (mulf o (broadcastInDim S128x4x128 ![0, 1, 2] bcast_S128x4x1_S128x4x128_0_1_2 (Host.rsqrt (addf (Host.divf (broadcastInDim S128x4x1 ![0, 1] bcast_S128x4_S128x4x1_0_1 (Host.reduceAdd (mulf o o) (constant S_ .f32 0x00000000#32) reducesTo_S128x4x128_S128x4_d2 h_S_)) (broadcastInDim S128x4x1 ![] bcast_S_S128x4x1 (constant S_ .f32 0x43000000#32))) (broadcastInDim S128x4x1 ![] bcast_S_S128x4x1 (constant S_ .f32 0x358637BD#32)))))) (broadcastInDim S128x4x128 ![0, 1, 2] bcast_S1x1x128_S128x4x128_0_1_2 (broadcastInDim S1x1x128 ![2] bcast_S128_S1x1x128_2 (shapeCast _ nw shapeCasts_S1x128_S128)))) (shapeCast _ (mulf z (Host.divf (broadcastInDim S128x512 ![] bcast_S_S128x512 (constant S_ .f32 0x3F800000#32)) (addf (broadcastInDim S128x512 ![] bcast_S_S128x512 (constant S_ .f32 0x3F800000#32)) (Host.exp (Host.negf z))))) shapeCasts_S128x512_S128x4x128)) shapeCasts_S128x4x128_S128x1x512
/-- The new states. -/
def rState (s : FVec Ideal S128x4x128x128 .f32) (l : FVec Ideal S128x4 .f32) (k : FVec Ideal S128x4x128 .f32) (e : FVec Ideal S128x4x128 .f32) : FVec Ideal S128x4x128x128 .f32 :=
  addf (mulf s (broadcastInDim S128x4x128x128 ![0, 1, 2, 3] bcast_S128x4x1x1_S128x4x128x128_0_1_2_3 (broadcastInDim S128x4x1x1 ![0, 1] bcast_S128x4_S128x4x1x1_0_1 (Host.exp l)))) (mulf (broadcastInDim S128x4x128x128 ![0, 1, 2, 3] bcast_S128x4x128x1_S128x4x128x128_0_1_2_3 (broadcastInDim S128x4x128x1 ![0, 1, 2] bcast_S128x4x128_S128x4x128x1_0_1_2 k)) (broadcastInDim S128x4x128x128 ![0, 1, 2, 3] bcast_S128x4x1x128_S128x4x128x128_0_1_2_3 (broadcastInDim S128x4x1x128 ![0, 1, 3] bcast_S128x4x128_S128x4x1x128_0_1_3 e)))
/-- The new buffers. -/
def rBuf (p : FVec Ideal S128x4x1536 .f32) : FVec Ideal S128x3x1536 .f32 :=
  extractStridedSlice S128x3x1536 ![0, 1, 0] p slices_S128x4x1536_S128x3x1536_0_1_0

theorem rPad_new (g sc) (i : Fin 128) (j : Fin 1536) : rPad g sc (ix3 i 3 j) = g (ix2 i j) := by
  pointwise [rPad]
theorem rPad_old (g sc) (i : Fin 128) (r : Fin 3) (j : Fin 1536) : rPad g sc (ix3 i ⟨r, by omega⟩ j) = sc (ix4 0 i r j) := by
  pointwise [rPad]
theorem rotate (a b c d : EReal) : a + b + c + d = d + a + b + c := by ac_rfl
theorem rConv_at (p cw) (i : Fin 128) (j : Fin 1536) :
    rConv p cw (ix3 i 0 j) = conv (fun j => p (ix3 i 3 j)) (fun r j => p (ix3 i ⟨r, by omega⟩ j)) (fun r j => cw (ix3 0 r j)) j := by
  pointwise [rConv, conv]
  exact rotate _ _ _ _
theorem rMixed_at (x) (i : Fin 128) (j : Fin 1536) : rMixed x (ix3 i 0 j) = silu (x (ix3 i 0 j)) := by
  pointwise [rMixed, silu]
theorem rQ_at (a) (i : Fin 128) (h : Fin 4) (d : Fin 128) : rQ a (ix4 i 0 h d) = a (ix3 i 0 ⟨128 * h + d, by omega⟩) := by
  pointwise [rQ]
  blk_ext
theorem rK_at (a) (i : Fin 128) (h : Fin 4) (d : Fin 128) : rK a (ix4 i 0 h d) = a (ix3 i 0 ⟨512 + 128 * h + d, by omega⟩) := by
  pointwise [rK]
  blk_ext
theorem rQuery_at (q) (i : Fin 128) (h : Fin 4) (d : Fin 128) : rQuery q (ix3 i h d) = unit (fun k => q (ix4 i 0 h k)) d * scale := by
  pointwise [rQuery, unit]
theorem rKey_at (q) (i : Fin 128) (h : Fin 4) (d : Fin 128) : rKey q (ix3 i h d) = unit (fun k => q (ix4 i 0 h k)) d := by
  pointwise [rKey, unit]
theorem rShift_at (ab dt) (i : Fin 128) (h : Fin 4) : rShift ab dt (ix3 i 0 h) = ab (ix2 i ⟨h, by omega⟩) + dt (ix2 0 h) := by
  pointwise [rShift]
theorem rDiff_at (x) (i : Fin 128) (h : Fin 4) : rDiff x (ix3 i 0 h) = x (ix3 i 0 h) := by
  pointwise [rDiff]
theorem rLog_at (y x al) (i : Fin 128) (h : Fin 4) :
    rLog y x al (ix2 i h) = -Ideal.exp (al (ix2 0 h)) * (max (x (ix3 i 0 h)) 0 + Ideal.log1p (Ideal.exp (-(FloatOps.absf (F := Ideal) (φ := .f32) (y (ix3 i 0 h)) : EReal)))) := by
  pointwise [rLog]
  rw [if_neg (fun h => h rfl)]
theorem rGate_at (ab) (i : Fin 128) (h : Fin 4) : rGate ab (ix2 i h) = gate (ab (ix2 i ⟨4 + h, by omega⟩)) := by
  pointwise [rGate, gate]
theorem rS_at (sg) (i : Fin 128) (h : Fin 4) (d n : Fin 128) : rS sg (ix4 i h d n) = sg (ix5 0 i h d n) := by
  pointwise [rS]
theorem rError_at (a b k l s) (i : Fin 128) (h : Fin 4) (n : Fin 128) :
    rError a b k l s (ix3 i h n) = error (fun d => k (ix3 i h d)) (fun n => a (ix3 i 0 ⟨1024 + 128 * h + n, by omega⟩))
      (fun d n => s (ix4 i h d n)) (Ideal.exp (l (ix2 i h))) (b (ix2 i h)) n := by
  have e : ∀ n : Fin 128, a (ix3 i 0 ⟨1024 + (h.val * 128 + n.val), by omega⟩) = a (ix3 i 0 ⟨1024 + 128 * h + n, by omega⟩) := fun n => by blk_ext
  pointwise [rError, error]
  rw [e]
theorem rAnswer_at (q l s k e) (i : Fin 128) (h : Fin 4) (n : Fin 128) :
    rAnswer q l s k e (ix3 i h n) = ∑ d, q (ix3 i h d) * Ideal.exp (l (ix2 i h)) * s (ix4 i h d n) + (∑ d, q (ix3 i h d) * k (ix3 i h d)) * e (ix3 i h n) := by
  pointwise [rAnswer]
theorem rOut_at (o z nw) (i : Fin 128) (h : Fin 4) (n : Fin 128) :
    rOut o z nw (ix3 i 0 ⟨h * 128 + n, by omega⟩) = finish (fun n => o (ix3 i h n)) (fun n => nw (ix2 0 n)) (fun n => z (ix2 i ⟨128 * h + n, by omega⟩)) n := by
  have e : (⟨h.val * 128 + n.val, by omega⟩ : Fin 512) = ⟨128 * h + n, by omega⟩ := Fin.ext (by simp only []; omega)
  pointwise [rOut, finish, silu]
  rw [e]
theorem rState_at (s l k e) (i : Fin 128) (h : Fin 4) (d n : Fin 128) :
    rState s l k e (ix4 i h d n) = s (ix4 i h d n) * Ideal.exp (l (ix2 i h)) + k (ix3 i h d) * e (ix3 i h n) := by
  pointwise [rState]
theorem rBuf_at (g sc) (i : Fin 128) (r : Fin 3) (j : Fin 1536) :
    rBuf (rPad g sc) (ix3 i r j) = shifted (fun j => g (ix2 i j)) (fun r j => sc (ix4 0 i r j)) r j := by
  have e : rBuf (rPad g sc) (ix3 i r j) = rPad g sc (ix3 i ⟨1 + r, by omega⟩ j) := by
    pointwise [rBuf]
  rw [e]
  fin_cases r
  · exact rPad_old g sc i 1 j
  · exact rPad_old g sc i 2 j
  · exact rPad_new g sc i j

theorem row_at (g sc cw) (i : Fin 128) (j : Fin 1536) : rMixed (rConv (rPad g sc) cw) (ix3 i 0 j) = rowOf g sc cw i j := by
  rw [rMixed_at, rConv_at]
  simp only [rPad_new, rPad_old]
  rfl

theorem decay_at (ab dt al) (i : Fin 128) (h : Fin 4) :
    Ideal.exp (rLog (rDiff (rShift ab dt)) (rShift ab dt) al (ix2 i h)) = decaysOf ab al dt i h := by
  rw [rLog_at, rDiff_at, rShift_at]
  rfl

theorem error_at (g ab sc sg cw al dt) (i : Fin 128) (h : Fin 4) (n : Fin 128) :
    rError (rMixed (rConv (rPad g sc) cw)) (rGate ab) (rKey (rK (rMixed (rConv (rPad g sc) cw)))) (rLog (rDiff (rShift ab dt)) (rShift ab dt) al) (rS sg) (ix3 i h n)
      = error (key (rowOf g sc cw i) h) (value (rowOf g sc cw i) h) (fun d n => sg (ix5 0 i h d n)) (decaysOf ab al dt i h) (gatesOf ab i h) n := by
  rw [rError_at]
  simp only [decay_at, rGate_at, rKey_at, rK_at, rS_at, row_at]
  rfl

theorem state_at (g ab sc sg cw al dt) (i : Fin 128) (h : Fin 4) (d n : Fin 128) :
    rState (rS sg) (rLog (rDiff (rShift ab dt)) (rShift ab dt) al) (rKey (rK (rMixed (rConv (rPad g sc) cw)))) (rError (rMixed (rConv (rPad g sc) cw)) (rGate ab) (rKey (rK (rMixed (rConv (rPad g sc) cw)))) (rLog (rDiff (rShift ab dt)) (rShift ab dt) al) (rS sg)) (ix4 i h d n) = stateArr g ab sc sg cw al dt i h d n := by
  rw [rState_at, error_at]
  simp only [decay_at, rKey_at, rK_at, rS_at, row_at]
  rfl

theorem out_at (g z ab sc sg cw al dt nw) (i : Fin 128) (j : Fin 512) :
    rOut (rAnswer (rQuery (rQ (rMixed (rConv (rPad g sc) cw)))) (rLog (rDiff (rShift ab dt)) (rShift ab dt) al) (rS sg) (rKey (rK (rMixed (rConv (rPad g sc) cw)))) (rError (rMixed (rConv (rPad g sc) cw)) (rGate ab) (rKey (rK (rMixed (rConv (rPad g sc) cw)))) (rLog (rDiff (rShift ab dt)) (rShift ab dt) al) (rS sg))) z nw (ix3 i 0 j) = outArr g z ab sc sg cw al dt nw i j := by
  have ej : j = (⟨(j.val / 128) * 128 + j.val % 128, by omega⟩ : Fin 512) := Fin.ext (by simp only []; omega)
  conv_lhs => rw [ej]
  refine (rOut_at _ z nw i ⟨j.val / 128, by omega⟩ ⟨j.val % 128, by omega⟩).trans ?_
  simp only [rAnswer_at, error_at, decay_at, rQuery_at, rQ_at, rKey_at, rK_at, rS_at, row_at]
  rfl

/-- The outputs, as the program composes them. -/
def resOut (g : FVec Ideal S128x1536 .f32) (z : FVec Ideal S128x512 .f32) (ab : FVec Ideal S128x128 .f32) (sc : FVec Ideal S1x128x3x1536 .f32) (sg : FVec Ideal S1x128x4x128x128 .f32) (cw : FVec Ideal S1x4x1536 .f32) (al dt : FVec Ideal S1x4 .f32) (nw : FVec Ideal S1x128 .f32) : FVec Ideal S128x1x512 .f32 :=
  rOut (rAnswer (rQuery (rQ (rMixed (rConv (rPad g sc) cw)))) (rLog (rDiff (rShift ab dt)) (rShift ab dt) al) (rS sg) (rKey (rK (rMixed (rConv (rPad g sc) cw)))) (rError (rMixed (rConv (rPad g sc) cw)) (rGate ab) (rKey (rK (rMixed (rConv (rPad g sc) cw)))) (rLog (rDiff (rShift ab dt)) (rShift ab dt) al) (rS sg))) z nw
/-- The new states, as the program composes them. -/
def resState (g : FVec Ideal S128x1536 .f32) (ab : FVec Ideal S128x128 .f32) (sc : FVec Ideal S1x128x3x1536 .f32) (sg : FVec Ideal S1x128x4x128x128 .f32) (cw : FVec Ideal S1x4x1536 .f32) (al dt : FVec Ideal S1x4 .f32) : FVec Ideal S128x4x128x128 .f32 :=
  rState (rS sg) (rLog (rDiff (rShift ab dt)) (rShift ab dt) al) (rKey (rK (rMixed (rConv (rPad g sc) cw)))) (rError (rMixed (rConv (rPad g sc) cw)) (rGate ab) (rKey (rK (rMixed (rConv (rPad g sc) cw)))) (rLog (rDiff (rShift ab dt)) (rShift ab dt) al) (rS sg))

theorem resOut_eq (g z ab sc sg cw al dt nw) : resOut g z ab sc sg cw al dt nw = fun y => outArr g z ab sc sg cw al dt nw (y 0) (y 2) := by
  funext y
  obtain ⟨i, j, rfl⟩ : ∃ i j, y = ix3 i 0 j := ⟨y 0, y 2, by blk_ext⟩
  exact out_at g z ab sc sg cw al dt nw i j

theorem resState_eq (g ab sc sg cw al dt) : resState g ab sc sg cw al dt = fun y => stateArr g ab sc sg cw al dt (y 0) (y 1) (y 2) (y 3) := by
  funext y
  obtain ⟨i, h, d, n, rfl⟩ : ∃ i h d n, y = ix4 i h d n := ⟨y 0, y 1, y 2, y 3, by blk_ext⟩
  exact state_at g ab sc sg cw al dt i h d n

theorem resBuf_eq (g sc) : rBuf (rPad g sc) = fun y => bufArr g sc (y 0) (y 1) (y 2) := by
  funext y
  obtain ⟨i, r, j, rfl⟩ : ∃ i r j, y = ix3 i r j := ⟨y 0, y 1, y 2, by blk_ext⟩
  exact rBuf_at g sc i r j

end Cert.ReferenceIdeal.Delta
-- ==== Proof.Alg1.lean ====
module

public import proofs.«01_k».proof.Defs
public import proofs.«01_k».proof.Proof.DeltaFinal
public import proofs.«01_k».proof.Proof.DeltaRef
public import Idealize.ShloMosaic.Lib.Claim

/-! # Claim 1: the recurrence kernel and its reference give the same three results -/

@[expose] public section
set_option maxRecDepth 16384
open Idealize.ShloMosaic Idealize.ShloMosaic.TcCoe Idealize.SL.Sem
namespace Cert.Proof

set_option maxHeartbeats 2000000 in
theorem algebraic1 : Cert.algebraic_KernelIdeal_ReferenceIdeal := by
  pair_intro
  · run_from Cert.KernelIdeal.Gen.unchanged m g & Cert.KernelIdeal.Gen.run_main m g
  · refine Idealize.ShloMosaic.θ_run_mono (Cert.ReferenceIdeal.Value.run m' g') fun r hr c => ?_
    obtain ⟨h0, h1, h2, ha⟩ := hr c
    obtain ⟨e0, e1, e2, e3, e4, e5, e6, e7, e8⟩ := hagree c
    refine ⟨h0.trans ?_, h1.trans ?_, h2.trans ?_, ha⟩
    · refine (Cert.ReferenceIdeal.Delta.resOut_eq (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8))).trans ?_
      rw [e0, e1, e2, e3, e4, e5, e6, e7, e8]
      exact (Cert.KernelIdeal.Delta.final9 m c).symm
    · refine (Cert.ReferenceIdeal.Delta.resState_eq (m' (c.tc.loc Cert.ReferenceIdeal.main_arg0)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7))).trans ?_
      rw [e0, e2, e3, e4, e5, e6, e7]
      exact (Cert.KernelIdeal.Delta.final10 m c).symm
    · refine (Cert.ReferenceIdeal.Delta.resBuf_eq (m' (c.tc.loc Cert.ReferenceIdeal.main_arg0)) (m' (c.tc.loc Cert.ReferenceIdeal.main_arg3))).trans ?_
      rw [e0, e3]
      exact (Cert.KernelIdeal.Delta.final11 m c).symm
end Cert.Proof
-- ==== Proof.Finite.lean ====
module

public import proofs.«01_k».proof.Proof.Row
public import proofs.«01_k».proof.Pre_finite_weights
public import proofs.«01_k».proof.Pre_finite_weights_sample
public import Idealize.ShloMosaic.Lib.ReduceAll
public import Idealize.ShloMosaic.Lib.Claim

/-! # Finite weights

With finite weights a normalised row is finite whatever the row is, so the low halves of the two-part products are zero. -/

@[expose] public section
set_option maxRecDepth 16384
noncomputable section
open Idealize.ShloMosaic Idealize.ShloMosaic.TcCoe Idealize.SL.Sem
namespace Cert.Row

/-- Neither infinity. -/
def IsNum (x : EReal) : Prop := x ≠ ⊤ ∧ x ≠ ⊥

theorem IsNum.coe (r : ℝ) : IsNum (r : EReal) := ⟨EReal.coe_ne_top r, EReal.coe_ne_bot r⟩
theorem IsNum.lift {x : EReal} (h : IsNum x) : ∃ r : ℝ, x = r := ⟨x.toReal, (EReal.coe_toReal h.1 h.2).symm⟩
theorem IsNum.mul {x y : EReal} (hx : IsNum x) (hy : IsNum y) : IsNum (x * y) := by
  obtain ⟨a, rfl⟩ := hx.lift
  obtain ⟨b, rfl⟩ := hy.lift
  exact EReal.coe_mul a b ▸ IsNum.coe (a * b)
theorem IsNum.sub_self {x : EReal} (h : IsNum x) : x - x = 0 := EReal.sub_self h.1 h.2

theorem width_eq : width = ((1024 : ℝ) : EReal) := by
  simp [width, Ideal.ofBits, Ideal.ieee]; norm_num
  rw [← EReal.coe_mul]; norm_num
theorem eps_pos : ∃ r : ℝ, 0 < r ∧ eps = (r : EReal) := by
  refine ⟨8796093 / 8796093022208, by norm_num, ?_⟩
  simp [eps, Ideal.ofBits, Ideal.ieee]; norm_num
  rw [← EReal.coe_mul]; norm_num

theorem sq_nonneg (x : EReal) : 0 ≤ x * x := by
  induction x using EReal.rec with
  | bot => simp
  | coe r => exact_mod_cast mul_self_nonneg r
  | top => simp

/-- A sum of squares is infinite as soon as one of the numbers is. -/
theorem sum_sq_top (x : Fin 1024 → EReal) (n : Fin 1024) (h : ¬ IsNum (x n)) : ∑ k, x k * x k = ⊤ := by
  have h1 : x n * x n = ⊤ := by
    rcases not_and_or.mp h with h | h
    · rw [not_not.mp h]; simp
    · rw [not_not.mp h]; simp
  exact top_unique (h1 ▸ Finset.single_le_sum (fun k _ => sq_nonneg (x k)) (Finset.mem_univ n))

/-- Otherwise it is a number that is not negative. -/
theorem sum_sq_real (x : Fin 1024 → EReal) (h : ∀ n, IsNum (x n)) : ∃ r : ℝ, 0 ≤ r ∧ ∑ k, x k * x k = (r : EReal) := by
  choose y hy using fun n => (h n).lift
  refine ⟨∑ k, y k * y k, Finset.sum_nonneg fun k _ => mul_self_nonneg _, ?_⟩
  simp only [hy]
  exact (map_sum (⟨⟨Real.toEReal, rfl⟩, EReal.coe_add⟩ : ℝ →+ EReal) (fun k => y k * y k) Finset.univ).symm

theorem scale_real (x : Fin 1024 → EReal) (n : Fin 1024) :
    IsNum (x n * Ideal.rsqrt (Ideal.div (∑ k, x k * x k) width + eps)) := by
  have hw : width ≠ 0 := by rw [width_eq]; exact_mod_cast (by norm_num : (1024 : ℝ) ≠ 0)
  obtain ⟨e, he, hee⟩ := eps_pos
  by_cases h : ∀ n, IsNum (x n)
  · obtain ⟨r, hr, hs⟩ := sum_sq_real x h
    refine (h n).mul ?_
    have h2 : Ideal.div (r : EReal) width + eps = ((r * 1024⁻¹ + e : ℝ) : EReal) := by
      unfold Ideal.div
      rw [if_neg hw, width_eq, hee, ← EReal.coe_inv]
      norm_cast
    have h3 : 0 < r * 1024⁻¹ + e := by positivity
    rw [hs, h2]
    show IsNum (if r * 1024⁻¹ + e < 0 then ⊥ else if r * 1024⁻¹ + e = 0 then ⊤ else (((Real.sqrt (r * 1024⁻¹ + e))⁻¹ : ℝ) : EReal))
    rw [if_neg (by linarith), if_neg h3.ne']
    exact IsNum.coe _
  · obtain ⟨k, hk⟩ := not_forall.mp h
    have h2 : Ideal.div (⊤ : EReal) width + eps = ⊤ := by
      unfold Ideal.div
      rw [if_neg hw, width_eq, hee, ← EReal.coe_inv, EReal.top_mul_coe_of_pos (by norm_num), EReal.top_add_coe]
    rw [sum_sq_top x k hk, h2]
    show IsNum (x n * 0)
    rw [mul_zero]
    exact IsNum.coe 0

/-- A normalised row with a finite weight is finite. -/
theorem rms_real (x w : Fin 1024 → EReal) (n : Fin 1024) (hw : IsNum (w n)) : IsNum (rms x w n) := (scale_real x n).mul hw

/-- The two-part product: high times high plus the two small products. With finite numbers the small parts are zero. -/
theorem split_mm {b : ℕ} (x : Fin 1024 → EReal) (w : Fin 1024 → Fin b → EReal) (j : Fin b) (hx : ∀ k, IsNum (x k)) (hw : ∀ k, IsNum (w k j)) :
    (∑ k, x k * w k j) + ((∑ k, (x k - x k) * w k j) + ∑ k, x k * (w k j - w k j)) = mm x w j := by
  simp only [(hx _).sub_self, (hw _).sub_self, zero_mul, mul_zero, Finset.sum_const_zero, add_zero]
  rfl

/-- The printed test `|x| < inf`. -/
theorem lt_num (x : EReal) (h : Ideal.cmp .olt (max x (-x)) (Ideal.ofBits .f32 0x7F800000#32) = 1#1) : IsNum x := by
  have ht : Ideal.ofBits .f32 0x7F800000#32 = (⊤ : EReal) := by simp [Ideal.ofBits, Ideal.ieee]
  rw [ht] at h
  refine ⟨?_, ?_⟩ <;> rintro rfl <;> simp [Ideal.cmp] at h

theorem andi_one (c d : BitVec 1) (h : IntOp.andi c d = 1#1) : c = 1#1 ∧ d = 1#1 := by revert h; revert c d; decide

/-- What the precondition of the prompt's call says. -/
theorem weights_num [Cert.Pre_finite_weights.Facts] (x : FVec Ideal ⟨3, ![8, 8192, 1024]⟩ .f32) (w : FVec Ideal ⟨2, ![1, 1024]⟩ .f32) (W : FVec Ideal ⟨3, ![1, 1024, 3592]⟩ .f32)
    (h : Cert.Pre_finite_weights.fn (F := Ideal) x w W = fun _ => 1#1) : (∀ k, IsNum (w k)) ∧ ∀ k, IsNum (W k) := by
  have h0 := congrFun h ix0
  dsimp only [Cert.Pre_finite_weights.fn] at h0
  obtain ⟨h1, h2⟩ := andi_one _ _ h0
  exact ⟨fun k => lt_num _ (Host.reduce_andi_all _ _ _ _ _ h1 k), fun k => lt_num _ (Host.reduce_andi_all _ _ _ _ _ h2 k)⟩

/-- What the precondition of the sample call says. -/
theorem weights_sample_num [Cert.Pre_finite_weights_sample.Facts] (x : FVec Ideal ⟨3, ![128, 1, 1024]⟩ .f32) (w : FVec Ideal ⟨2, ![1, 1024]⟩ .f32) (W : FVec Ideal ⟨3, ![1, 1024, 3592]⟩ .f32)
    (h : Cert.Pre_finite_weights_sample.fn (F := Ideal) x w W = fun _ => 1#1) : (∀ k, IsNum (w k)) ∧ ∀ k, IsNum (W k) := by
  have h0 := congrFun h ix0
  dsimp only [Cert.Pre_finite_weights_sample.fn] at h0
  obtain ⟨h1, h2⟩ := andi_one _ _ h0
  exact ⟨fun k => lt_num _ (Host.reduce_andi_all _ _ _ _ _ h1 k), fun k => lt_num _ (Host.reduce_andi_all _ _ _ _ _ h2 k)⟩

/-- The weights with 120 zero columns added, as the kernel multiplies by them. -/
def wide (W : Vec Ideal ⟨3, ![1, 1024, 3592]⟩ .f32) (k : Fin 1024) (n : Fin 3712) : EReal := if h : n.val < 3592 then W (ix3 0 k ⟨n, h⟩) else 0

theorem wide_num (W : Vec Ideal ⟨3, ![1, 1024, 3592]⟩ .f32) (h : ∀ k, IsNum (W k)) (k : Fin 1024) (n : Fin 3712) : IsNum (wide W k n) := by
  unfold wide
  split
  · exact h _
  · exact IsNum.coe 0

theorem mm_wide (x : Fin 1024 → EReal) (W : Vec Ideal ⟨3, ![1, 1024, 3592]⟩ .f32) (n : Fin 3712) (h : n.val < 3592) :
    mm x (wide W) n = mm x (fun k n => W (ix3 0 k n)) ⟨n, h⟩ := by
  unfold mm wide
  simp only [h, dif_pos]

theorem mm_wide_zero (x : Fin 1024 → EReal) (W : Vec Ideal ⟨3, ![1, 1024, 3592]⟩ .f32) (n : Fin 3712) (h : ¬ n.val < 3592) : mm x (wide W) n = 0 := by
  unfold mm wide
  simp only [h, dif_neg, not_false_eq_true, mul_zero, Finset.sum_const_zero]

end Cert.Row
-- ==== Proof.Proj.lean ====
module

public import proofs.«01_k».proof.Proof.Gen.Kernel2Ideal.Frame
public import proofs.«01_k».proof.Proof.Finite
public import Idealize.ShloMosaic.Lib.Claim

/-! # The mixer's input projection, prompt: the kernel's side

Each grid point normalises its rows once and multiplies them by the weights, 512 columns at a time. -/

@[expose] public section
set_option maxRecDepth 16384
noncomputable section
open Idealize.ShloMosaic Idealize.ShloMosaic.TcCoe Idealize.SL.Sem
open Idealize.ShloMosaic.Pipeline (Dat)
namespace Cert.Kernel2Ideal.Proj
open Cert.Kernel2Ideal Cert.Kernel2Ideal.Gen Cert.Row

theorem pay5_at (v0 v2) (i : Fin 512) (n : Fin 1024) :
    k0_pay5 (F := Ideal) v0 v2 (ix2 i n) = rms (fun k => v0 (ix2 i k)) (fun k => v2 (ix2 0 k)) n := by
  pointwise [k0_pay5, rms]
theorem pay8_at (v0 v2) (i : Fin 512) (n : Fin 1024) :
    k0_pay8 (F := Ideal) v0 v2 (ix2 i n) = rms (fun k => v0 (ix2 i k)) (fun k => v2 (ix2 0 k)) n := by
  pointwise [k0_pay8]
  simp only [pay5_at]
theorem pay9_at (v0 v2) (i : Fin 512) (n : Fin 1024) :
    k0_pay9 (F := Ideal) v0 v2 (ix2 i n) = rms (fun k => v0 (ix2 i k)) (fun k => v2 (ix2 0 k)) n - rms (fun k => v0 (ix2 i k)) (fun k => v2 (ix2 0 k)) n := by
  pointwise [k0_pay9]
  simp only [pay5_at, pay8_at]
theorem rows_at (x0 x1 x2 x3) (i : Fin 512) (n : Fin 1024) :
    k0_pay15 (F := Ideal) x0 x1 x2 x3 (ix2 i n) = rms (fun k => x0 (ix2 i k)) (fun k => x1 (ix2 0 k)) n := by
  have h0 : View.ld x0 r0_0 = x0 := by frame_out
  have h1 : View.ld x1 r0_1 = x1 := by frame_out
  unfold k0_pay15
  rw [h0, h1, pay8_at]

/-- The two-part product of the first 512 columns. -/
theorem pay11_at (u v : FVec Ideal S512x1024 .bf16) (a : FVec Ideal S1024x512 .bf16) (b d : Vec Ideal S1024x512 .bf16) (i : Fin 512) (j : Fin 512) :
    k0_pay11 (F := Ideal) u v a b d (ix2 i j)
      = (∑ k, u (ix2 i k) * a (ix2 k j)) + ((∑ k, v (ix2 i k) * b (ix2 k j)) + ∑ k, u (ix2 i k) * d (ix2 k j)) := by
  pointwise [k0_pay11]
theorem pay10_at (a : Vec Ideal S1024x512 .bf16) (k : Fin 1024) (j : Fin 512) : k0_pay10 (F := Ideal) a (ix2 k j) = a (ix2 k j) := by
  pointwise [k0_pay10]
theorem pay1_at (v : FVec Ideal S512x1024 .bf16) (a : Vec Ideal S1024x512 .bf16) (i : Fin 512) (j : Fin 512) :
    k0_pay1 (F := Ideal) v a (ix2 i j) = mm (fun k => v (ix2 i k)) (fun k n => a (ix2 k n)) j := by
  pointwise [k0_pay1, mm]
theorem pay2_at (v : FVec Ideal S512x1024 .bf16) (a : Vec Ideal S1024x512 .bf16) (i : Fin 512) (j : Fin 512) :
    k0_pay2 (F := Ideal) v a (ix2 i j) = mm (fun k => v (ix2 i k)) (fun k n => a (ix2 k n)) j := by
  pointwise [k0_pay2, mm]
theorem pay3_at (v : FVec Ideal S512x1024 .bf16) (a : Vec Ideal S1024x512 .bf16) (i : Fin 512) (j : Fin 512) :
    k0_pay3 (F := Ideal) v a (ix2 i j) = mm (fun k => v (ix2 i k)) (fun k n => a (ix2 k n)) j := by
  pointwise [k0_pay3, mm]
theorem pay14_at (v : FVec Ideal S512x1024 .bf16) (a : Vec Ideal S1024x512 .bf16) (i : Fin 512) (j : Fin 512) :
    k0_pay14 (F := Ideal) v a (ix2 i j) = mm (fun k => v (ix2 i k)) (fun k n => a (ix2 k n)) j := by
  pointwise [k0_pay14, mm]
theorem pay4_at (v : FVec Ideal S512x1024 .bf16) (a : Vec Ideal S1024x128 .bf16) (i : Fin 512) (j : Fin 128) :
    k0_pay4 (F := Ideal) v a (ix2 i j) = mm (fun k => v (ix2 i k)) (fun k n => a (ix2 k n)) j := by
  pointwise [k0_pay4, mm]

/- The keys and the values are stored by heads, the rows last. -/
theorem pay12_at (v : FVec Ideal S512x1024 .bf16) (a : Vec Ideal S1024x512 .bf16) (h : Fin 8) (d : Fin 64) (i : Fin 512) :
    k0_pay12 (F := Ideal) v a (ix4 0 h d i) = mm (fun k => v (ix2 i k)) (fun k n => a (ix2 k n)) ⟨h.val * 64 + d.val, by omega⟩ := by
  pointwise [k0_pay12, mm]
theorem pay13_at (v : FVec Ideal S512x1024 .bf16) (a : Vec Ideal S1024x512 .bf16) (h : Fin 8) (d : Fin 64) (i : Fin 512) :
    k0_pay13 (F := Ideal) v a (ix4 0 h d i) = mm (fun k => v (ix2 i k)) (fun k n => a (ix2 k n)) ⟨h.val * 64 + d.val, by omega⟩ := by
  pointwise [k0_pay13, mm]
theorem ld4 (x : Vec Ideal S1024x3712 .bf16) (k : Fin 1024) (n : Fin 512) : View.ld x r0_4 (ix2 k n) = x (ix2 k ⟨n, by omega⟩) := by
  pointwise; blk_ext
theorem ld7 (x : Vec Ideal S1024x3712 .bf16) (k : Fin 1024) (n : Fin 512) : View.ld x r0_7 (ix2 k n) = x (ix2 k ⟨512 + n, by omega⟩) := by
  pointwise; blk_ext
theorem ld9 (x : Vec Ideal S1024x3712 .bf16) (k : Fin 1024) (n : Fin 512) : View.ld x r0_9 (ix2 k n) = x (ix2 k ⟨1024 + n, by omega⟩) := by
  pointwise; blk_ext
theorem ld10 (x : Vec Ideal S1024x3712 .bf16) (k : Fin 1024) (n : Fin 512) : View.ld x r0_10 (ix2 k n) = x (ix2 k ⟨1536 + n, by omega⟩) := by
  pointwise; blk_ext
theorem ld12 (x : Vec Ideal S1024x3712 .bf16) (k : Fin 1024) (n : Fin 512) : View.ld x r0_12 (ix2 k n) = x (ix2 k ⟨2048 + n, by omega⟩) := by
  pointwise; blk_ext
theorem ld14 (x : Vec Ideal S1024x3712 .bf16) (k : Fin 1024) (n : Fin 512) : View.ld x r0_14 (ix2 k n) = x (ix2 k ⟨2560 + n, by omega⟩) := by
  pointwise; blk_ext
theorem ld16 (x : Vec Ideal S1024x3712 .bf16) (k : Fin 1024) (n : Fin 512) : View.ld x r0_16 (ix2 k n) = x (ix2 k ⟨3072 + n, by omega⟩) := by
  pointwise; blk_ext
theorem ld17 (x : Vec Ideal S1024x3712 .bf16) (k : Fin 1024) (n : Fin 128) : View.ld x r0_17 (ix2 k n) = x (ix2 k ⟨3584 + n, by omega⟩) := by
  pointwise; blk_ext

theorem cols14 (x0 : Vec Ideal S512x1024 .f32) (x1 : Vec Ideal S1x1024 .f32) (x2 : Vec Ideal S1024x3712 .bf16) (x3 : Vec Ideal S1024x512 .bf16) (i : Fin 512) (j : Fin 512) :
    k0_pay14 (F := Ideal) (k0_pay15 x0 x1 x2 x3) (View.ld x2 r0_10) (ix2 i j) = mm (rms (fun k => x0 (ix2 i k)) (fun k => x1 (ix2 0 k))) (fun k n => x2 (ix2 k n)) ⟨1536 + j, by omega⟩ := by
  rw [pay14_at]
  exact Finset.sum_congr rfl fun k _ => congrArg₂ (· * ·) (rows_at x0 x1 x2 x3 i k) (ld10 x2 k j)
theorem cols1 (x0 : Vec Ideal S512x1024 .f32) (x1 : Vec Ideal S1x1024 .f32) (x2 : Vec Ideal S1024x3712 .bf16) (x3 : Vec Ideal S1024x512 .bf16) (i : Fin 512) (j : Fin 512) :
    k0_pay1 (F := Ideal) (k0_pay15 x0 x1 x2 x3) (View.ld x2 r0_12) (ix2 i j) = mm (rms (fun k => x0 (ix2 i k)) (fun k => x1 (ix2 0 k))) (fun k n => x2 (ix2 k n)) ⟨2048 + j, by omega⟩ := by
  rw [pay1_at]
  exact Finset.sum_congr rfl fun k _ => congrArg₂ (· * ·) (rows_at x0 x1 x2 x3 i k) (ld12 x2 k j)
theorem cols2 (x0 : Vec Ideal S512x1024 .f32) (x1 : Vec Ideal S1x1024 .f32) (x2 : Vec Ideal S1024x3712 .bf16) (x3 : Vec Ideal S1024x512 .bf16) (i : Fin 512) (j : Fin 512) :
    k0_pay2 (F := Ideal) (k0_pay15 x0 x1 x2 x3) (View.ld x2 r0_14) (ix2 i j) = mm (rms (fun k => x0 (ix2 i k)) (fun k => x1 (ix2 0 k))) (fun k n => x2 (ix2 k n)) ⟨2560 + j, by omega⟩ := by
  rw [pay2_at]
  exact Finset.sum_congr rfl fun k _ => congrArg₂ (· * ·) (rows_at x0 x1 x2 x3 i k) (ld14 x2 k j)
theorem cols3 (x0 : Vec Ideal S512x1024 .f32) (x1 : Vec Ideal S1x1024 .f32) (x2 : Vec Ideal S1024x3712 .bf16) (x3 : Vec Ideal S1024x512 .bf16) (i : Fin 512) (j : Fin 512) :
    k0_pay3 (F := Ideal) (k0_pay15 x0 x1 x2 x3) (View.ld x2 r0_16) (ix2 i j) = mm (rms (fun k => x0 (ix2 i k)) (fun k => x1 (ix2 0 k))) (fun k n => x2 (ix2 k n)) ⟨3072 + j, by omega⟩ := by
  rw [pay3_at]
  exact Finset.sum_congr rfl fun k _ => congrArg₂ (· * ·) (rows_at x0 x1 x2 x3 i k) (ld16 x2 k j)
theorem cols4 (x0 : Vec Ideal S512x1024 .f32) (x1 : Vec Ideal S1x1024 .f32) (x2 : Vec Ideal S1024x3712 .bf16) (x3 : Vec Ideal S1024x512 .bf16) (i : Fin 512) (j : Fin 128) :
    k0_pay4 (F := Ideal) (k0_pay15 x0 x1 x2 x3) (View.ld x2 r0_17) (ix2 i j) = mm (rms (fun k => x0 (ix2 i k)) (fun k => x1 (ix2 0 k))) (fun k n => x2 (ix2 k n)) ⟨3584 + j, by omega⟩ := by
  rw [pay4_at]
  exact Finset.sum_congr rfl fun k _ => congrArg₂ (· * ·) (rows_at x0 x1 x2 x3 i k) (ld17 x2 k j)

theorem block4 (x0 : Vec Ideal S512x1024 .f32) (x1 : Vec Ideal S1x1024 .f32) (x2 : Vec Ideal S1024x3712 .bf16) (x3 : Vec Ideal S1024x512 .bf16) (i : Fin 512) (j : Fin 512) :
    out0_4 (F := Ideal) x0 x1 x2 x3 (ix2 i j)
      = (∑ k, (rms (fun k => x0 (ix2 i k)) (fun k => x1 (ix2 0 k))) k * x2 (ix2 k ⟨j, by omega⟩))
        + ((∑ k, ((rms (fun k => x0 (ix2 i k)) (fun k => x1 (ix2 0 k))) k - (rms (fun k => x0 (ix2 i k)) (fun k => x1 (ix2 0 k))) k) * x2 (ix2 k ⟨j, by omega⟩)) + ∑ k, (rms (fun k => x0 (ix2 i k)) (fun k => x1 (ix2 0 k))) k * x3 (ix2 k j)) := by
  have h0 : View.ld x0 r0_0 = x0 := by frame_out
  have h1 : View.ld x1 r0_1 = x1 := by frame_out
  have h3 : View.ld x3 r0_5 = x3 := by frame_out
  have e : out0_4 (F := Ideal) x0 x1 x2 x3 = k0_pay11 (k0_pay15 x0 x1 x2 x3) (k0_pay9 x0 x1) (k0_pay10 (View.ld x2 r0_4)) (View.ld x2 r0_4) x3 := by
    unfold out0_4
    frame_out
  rw [e, pay11_at]
  refine congrArg₂ (· + ·) (Finset.sum_congr rfl fun k _ => ?_) (congrArg₂ (· + ·) (Finset.sum_congr rfl fun k _ => ?_) (Finset.sum_congr rfl fun k _ => ?_))
  · exact congrArg₂ (· * ·) (rows_at x0 x1 x2 x3 i k) ((pay10_at _ k j).trans (ld4 x2 k j))
  · exact congrArg₂ (· * ·) (pay9_at x0 x1 i k) (ld4 x2 k j)
  · exact congrArg (· * _) (rows_at x0 x1 x2 x3 i k)
theorem block5 (x0 : Vec Ideal S512x1024 .f32) (x1 : Vec Ideal S1x1024 .f32) (x2 : Vec Ideal S1024x3712 .bf16) (x3 : Vec Ideal S1024x512 .bf16) (h : Fin 8) (d : Fin 64) (i : Fin 512) :
    out0_5 (F := Ideal) x0 x1 x2 x3 (ix4 0 h d i) = mm (rms (fun k => x0 (ix2 i k)) (fun k => x1 (ix2 0 k))) (fun k n => x2 (ix2 k n)) ⟨512 + (h.val * 64 + d.val), by omega⟩ := by
  unfold out0_5
  frame_out
  rw [pay12_at]
  exact Finset.sum_congr rfl fun k _ => congrArg₂ (· * ·) (rows_at x0 x1 x2 x3 i k) (ld7 x2 k ⟨h.val * 64 + d.val, by omega⟩)
theorem block6 (x0 : Vec Ideal S512x1024 .f32) (x1 : Vec Ideal S1x1024 .f32) (x2 : Vec Ideal S1024x3712 .bf16) (x3 : Vec Ideal S1024x512 .bf16) (h : Fin 8) (d : Fin 64) (i : Fin 512) :
    out0_6 (F := Ideal) x0 x1 x2 x3 (ix4 0 h d i) = mm (rms (fun k => x0 (ix2 i k)) (fun k => x1 (ix2 0 k))) (fun k n => x2 (ix2 k n)) ⟨1024 + (h.val * 64 + d.val), by omega⟩ := by
  unfold out0_6
  frame_out
  rw [pay13_at]
  exact Finset.sum_congr rfl fun k _ => congrArg₂ (· * ·) (rows_at x0 x1 x2 x3 i k) (ld9 x2 k ⟨h.val * 64 + d.val, by omega⟩)
theorem block8 (x0 : Vec Ideal S512x1024 .f32) (x1 : Vec Ideal S1x1024 .f32) (x2 : Vec Ideal S1024x3712 .bf16) (x3 : Vec Ideal S1024x512 .bf16) (i : Fin 512) (j : Fin 512) :
    out0_8 (F := Ideal) x0 x1 x2 x3 (ix2 i j) = mm (rms (fun k => x0 (ix2 i k)) (fun k => x1 (ix2 0 k))) (fun k n => x2 (ix2 k n)) ⟨3072 + j, by omega⟩ := by
  unfold out0_8
  frame_out
  exact cols3 x0 x1 x2 x3 i j
theorem block9 (x0 : Vec Ideal S512x1024 .f32) (x1 : Vec Ideal S1x1024 .f32) (x2 : Vec Ideal S1024x3712 .bf16) (x3 : Vec Ideal S1024x512 .bf16) (i : Fin 512) (j : Fin 128) :
    out0_9 (F := Ideal) x0 x1 x2 x3 (ix2 i j) = mm (rms (fun k => x0 (ix2 i k)) (fun k => x1 (ix2 0 k))) (fun k n => x2 (ix2 k n)) ⟨3584 + j, by omega⟩ := by
  unfold out0_9
  frame_out
  exact cols4 x0 x1 x2 x3 i j
theorem block7 (x0 : Vec Ideal S512x1024 .f32) (x1 : Vec Ideal S1x1024 .f32) (x2 : Vec Ideal S1024x3712 .bf16) (x3 : Vec Ideal S1024x512 .bf16) (i : Fin 512) (n : Fin 1536) :
    out0_7 (F := Ideal) x0 x1 x2 x3 (ix2 i n) = mm (rms (fun k => x0 (ix2 i k)) (fun k => x1 (ix2 0 k))) (fun k n => x2 (ix2 k n)) ⟨1536 + n, by omega⟩ := by
  unfold out0_7
  generalize hy : (ix2 i n : S512x1536.Idx) = y
  canon_tiles x g
  case piece0 =>
    obtain ⟨i', n', rfl⟩ : ∃ d n, x = ix2 d n := ⟨x 0, x 1, by blk_ext⟩
    obtain rfl : i = i' := Fin.ext (by subst hy; simpa using g0)
    have hn : n.val = 1024 + n'.val := by subst hy; simpa using g1
    rw [cols2]
    refine congrArg (mm _ _) (Fin.ext ?_)
    dsimp only
    omega
  case piece1 =>
    obtain ⟨i', n', rfl⟩ : ∃ d n, x = ix2 d n := ⟨x 0, x 1, by blk_ext⟩
    obtain rfl : i = i' := Fin.ext (by subst hy; simpa using g0)
    have hn : n.val = 512 + n'.val := by subst hy; simpa using g1
    rw [cols1]
    refine congrArg (mm _ _) (Fin.ext ?_)
    dsimp only
    omega
  case piece2 =>
    obtain ⟨i', n', rfl⟩ : ∃ d n, x = ix2 d n := ⟨x 0, x 1, by blk_ext⟩
    obtain rfl : i = i' := Fin.ext (by subst hy; simpa using g0)
    have hn : n.val = n'.val := by subst hy; simpa using g1
    rw [cols14]
    refine congrArg (mm _ _) (Fin.ext ?_)
    dsimp only
    omega

/-- The mean over 256 rows is taken by dividing their sum by this. -/
def c256 : EReal := Ideal.ofBits .f32 0x43800000#32
theorem pay6_at (v0 v2) (n : Fin 1024) :
    k0_pay6 (F := Ideal) v0 v2 (ix3 0 0 n) = Ideal.div (∑ q : Fin 256, rms (fun k => v0 (ix2 ⟨q.val, by omega⟩ k)) (fun k => v2 (ix2 0 k)) n) c256 := by
  pointwise [k0_pay6, c256]
  simp only [pay5_at]
theorem pay7_at (v0 v2) (n : Fin 1024) :
    k0_pay7 (F := Ideal) v0 v2 (ix3 0 0 n) = Ideal.div (∑ q : Fin 256, rms (fun k => v0 (ix2 ⟨256 + q.val, by omega⟩ k)) (fun k => v2 (ix2 0 k)) n) c256 := by
  pointwise [k0_pay7, c256]
  simp only [pay5_at]
theorem block10 (x0 : Vec Ideal S512x1024 .f32) (x1 : Vec Ideal S1x1024 .f32) (x2 : Vec Ideal S1024x3712 .bf16) (x3 : Vec Ideal S1024x512 .bf16) (p : Fin 2) (n : Fin 1024) :
    out0_10 (F := Ideal) x0 x1 x2 x3 (ix3 0 p n)
      = Ideal.div (∑ q : Fin 256, rms (fun k => x0 (ix2 ⟨p.val * 256 + q.val, by omega⟩ k)) (fun k => x1 (ix2 0 k)) n) c256 := by
  have h0 : View.ld x0 r0_0 = x0 := by frame_out
  have h1 : View.ld x1 r0_1 = x1 := by frame_out
  unfold out0_10
  rw [h0, h1]
  generalize hy : (ix3 0 p n : S1x2x1024.Idx) = y
  canon_tiles x g
  case piece0 =>
    obtain ⟨n', rfl⟩ : ∃ n, x = ix3 0 0 n := ⟨x 2, by blk_ext⟩
    obtain rfl : p = 1 := Fin.ext (by subst hy; simpa using g1)
    obtain rfl : n = n' := Fin.ext (by subst hy; simpa using g2)
    rw [pay7_at]
    rfl
  case piece1 =>
    obtain ⟨n', rfl⟩ : ∃ n, x = ix3 0 0 n := ⟨x 2, by blk_ext⟩
    obtain rfl : p = 0 := Fin.ext (by subst hy; simpa using g1)
    obtain rfl : n = n' := Fin.ext (by subst hy; simpa using g2)
    rw [pay6_at]
    simp

variable (m : (ℓ : Loc nD τ sig) → Buf (Elt Ideal) ℓ)

theorem idxIn : ∀ t : Fin cfg0.N, win0_0.index t = ![t.val, 0] ∧ win0_1.index t = ![0, 0] ∧ win0_2.index t = ![0, 0] ∧ win0_3.index t = ![0, 0] :=
  (by decide +kernel : ∀ t : Fin grid0.N, _)
theorem idx : ∀ t : Fin cfg0.N, win0_4.index t = ![t.val, 0] ∧ win0_5.index t = ![t.val / 16, 0, 0, t.val % 16] ∧ win0_6.index t = ![t.val / 16, 0, 0, t.val % 16]
    ∧ win0_7.index t = ![t.val, 0] ∧ win0_8.index t = ![t.val, 0] ∧ win0_9.index t = ![t.val, 0] ∧ win0_10.index t = ![t.val, 0, 0] :=
  (by decide +kernel : ∀ t : Fin grid0.N, _)
theorem tile (t : Fin cfg0.N) : t.val < 128 := t.isLt

/-- Row `r` of the eight prompts laid one after another. -/
def row (x : Vec Ideal S8x8192x1024 .f32) (r : Fin 65536) (k : Fin 1024) : EReal := x (ix3 ⟨r.val / 8192, by omega⟩ ⟨r.val % 8192, by omega⟩ k)
/-- Row `r`, normalised. -/
def unit (x : Vec Ideal S8x8192x1024 .f32) (w : Vec Ideal S1x1024 .f32) (r : Fin 65536) : Fin 1024 → EReal := rms (row x r) (fun k => w (ix2 0 k))
/-- Column `o + n` of the projection of row `r`. -/
def projAt (o b : ℕ) (h : o + b ≤ 3712) (x : Vec Ideal S8x8192x1024 .f32) (w : Vec Ideal S1x1024 .f32) (W : Vec Ideal S1x1024x3592 .f32) (r : Fin 65536) (n : Fin b) : EReal :=
  mm (unit x w r) (wide W) ⟨o + n.val, by omega⟩
/-- The `b` columns from `o` of the projection. -/
def proj (o b : ℕ) (h : o + b ≤ 3712) (x : Vec Ideal S8x8192x1024 .f32) (w : Vec Ideal S1x1024 .f32) (W : Vec Ideal S1x1024x3592 .f32) : Vec Ideal ⟨2, ![65536, b]⟩ .f32 :=
  fun j => projAt o b h x w W (j 0) (j 1)
def headsAt (o : ℕ) (ho : o + 512 ≤ 3712) (x : Vec Ideal S8x8192x1024 .f32) (w : Vec Ideal S1x1024 .f32) (W : Vec Ideal S1x1024x3592 .f32) (b : Fin 8) (h : Fin 8) (d : Fin 64) (t : Fin 8192) : EReal :=
  projAt o 512 ho x w W ⟨b.val * 8192 + t.val, by omega⟩ ⟨h.val * 64 + d.val, by omega⟩
/-- The 512 columns from `o` by heads of 64, the tokens last. -/
def heads (o : ℕ) (ho : o + 512 ≤ 3712) (x : Vec Ideal S8x8192x1024 .f32) (w : Vec Ideal S1x1024 .f32) (W : Vec Ideal S1x1024x3592 .f32) : Vec Ideal S8x8x64x8192 .f32 :=
  fun j => headsAt o ho x w W (j 0) (j 1) (j 2) (j 3)
def meanAt (x : Vec Ideal S8x8192x1024 .f32) (w : Vec Ideal S1x1024 .f32) (t : Fin 128) (p : Fin 2) (n : Fin 1024) : EReal :=
  Ideal.div (∑ q : Fin 256, unit x w ⟨t.val * 512 + p.val * 256 + q.val, by omega⟩ n) c256
/-- The means of the normalised rows over blocks of 256 tokens. -/
def mean (x : Vec Ideal S8x8192x1024 .f32) (w : Vec Ideal S1x1024 .f32) : Vec Ideal S128x2x1024 .f32 := fun j => meanAt x w (j 0) (j 1) (j 2)

/-- The padded weights as the program builds them. -/
abbrev padded (X : Vec Ideal S1x1024x3592 .f32) : Vec Ideal S1024x3712 .f32 :=
  pad S1024x3712 ![0, 0] ![0, 120] ![0, 0] (shapeCast S1024x3592 X shapeCasts_S1x1024x3592_S1024x3592) (sitofp (F := Ideal) .f32 (constantI S_ 32 0#32)) pads_S1024x3592_S1024x3712_000_01200 h_S_

theorem padded_at (X : Vec Ideal S1x1024x3592 .f32) (k : Fin 1024) (n : Fin 3712) : padded X (ix2 k n) = wide X k n := by
  have hz : (FloatOps.sitofp FTy.f32 0#32 : Ideal .f32) = 0 := by simp [FloatOps.sitofp]
  unfold padded wide
  by_cases h : n.val < 3592
  · rw [dif_pos h]
    obtain ⟨n, hn⟩ := n
    pointwise
    exact dif_pos h
  · rw [dif_neg h]
    obtain ⟨n, hn⟩ := n
    pointwise
    exact (dif_neg h).trans hz

theorem v2_at (c : Dev nD) (k : Fin 1024) (n : Fin 3712) :
    (V m c main_v2 : Vec Ideal S1024x3712 .bf16) (ix2 k n) = wide (m ((c.tc : Thread nD τ).loc main_arg2)) k n := by
  have hv : (V m c main_v2 : Vec Ideal S1024x3712 .bf16) = truncf (F := Ideal) .bf16 (padded (m ((c.tc : Thread nD τ).loc main_arg2))) bitsLt_bf16_f32 := by
    entry_read; rfl
  exact (congrFun hv _).trans (padded_at _ k n)

/-- The low halves of the first 512 columns. -/
abbrev low (P : Vec Ideal S1024x3712 .f32) : Vec Ideal S1024x512 .bf16 :=
  truncf (F := Ideal) .bf16 (subf (extractStridedSlice S1024x512 ![0, 0] P slices_S1024x3712_S1024x512_0_0)
    (extf .f32 (extractStridedSlice S1024x512 ![0, 0] (truncf (F := Ideal) .bf16 P bitsLt_bf16_f32) slices_S1024x3712_S1024x512_0_0) bitsLt_bf16_f32)) bitsLt_bf16_f32
theorem low_at (P : Vec Ideal S1024x3712 .f32) (k : Fin 1024) (n : Fin 512) : low P (ix2 k n) = P (ix2 k ⟨n, by omega⟩) - P (ix2 k ⟨n, by omega⟩) := by
  unfold low
  pointwise
  try blk_ext
theorem v7_at (c : Dev nD) (k : Fin 1024) (n : Fin 512) :
    (V m c main_v7 : Vec Ideal S1024x512 .bf16) (ix2 k n)
      = wide (m ((c.tc : Thread nD τ).loc main_arg2)) k ⟨n, by omega⟩ - wide (m ((c.tc : Thread nD τ).loc main_arg2)) k ⟨n, by omega⟩ := by
  have hv : (V m c main_v7 : Vec Ideal S1024x512 .bf16) = low (padded (m ((c.tc : Thread nD τ).loc main_arg2))) := by
    entry_read; rfl
  exact (congrFun hv _).trans ((low_at _ k n).trans (congrArg (fun a => a - a) (padded_at _ k _)))

theorem v8_read (X : Vec Ideal S8x8192x1024 .f32) (r : Fin 65536) (k : Fin 1024) : (shapeCast S65536x1024 X shapeCasts_S8x8192x1024_S65536x1024) (ix2 r k) = row X r k := by
  pointwise [row]
theorem v8_at (c : Dev nD) (r : Fin 65536) (k : Fin 1024) :
    (V m c main_v8 : Vec Ideal S65536x1024 .f32) (ix2 r k) = row (m ((c.tc : Thread nD τ).loc main_arg0)) r k := by
  have hv : (V m c main_v8 : Vec Ideal S65536x1024 .f32) = shapeCast S65536x1024 (m ((c.tc : Thread nD τ).loc main_arg0) : Vec Ideal S8x8192x1024 .f32) shapeCasts_S8x8192x1024_S65536x1024 := by
    entry_read; rfl
  exact (congrFun hv _).trans (v8_read _ r k)

theorem v10_read (X : Vec Ideal S1x1024 .f32) (k : Fin 1024) : (shapeCast S1x1024 (shapeCast S1024 X shapeCasts_S1x1024_S1024) shapeCasts_S1024_S1x1024) (ix2 0 k) = X (ix2 0 k) := by
  pointwise
theorem v10_at (c : Dev nD) (k : Fin 1024) :
    (V m c main_v10 : Vec Ideal S1x1024 .f32) (ix2 0 k) = (m ((c.tc : Thread nD τ).loc main_arg1) : Vec Ideal S1x1024 .f32) (ix2 0 k) := by
  have hv : (V m c main_v10 : Vec Ideal S1x1024 .f32) = shapeCast S1x1024 (shapeCast S1024 (m ((c.tc : Thread nD τ).loc main_arg1) : Vec Ideal S1x1024 .f32) shapeCasts_S1x1024_S1024) shapeCasts_S1024_S1x1024 := by
    entry_read; rfl
  exact (congrFun hv _).trans (v10_read _ k)

theorem e0 (c : Dev nD) (t : Fin cfg0.N) (i : Fin 512) (k : Fin 1024) : iblk m c 0 t (ix2 i k) = row (m ((c.tc : Thread nD τ).loc main_arg0)) ⟨t.val * 512 + i.val, by have := tile t; omega⟩ k := by
  have := tile t
  blk_simp [iblk]
  refine Eq.trans (congrArg (V m c main_v8) ?_) (v8_at m c ⟨t.val * 512 + i.val, by omega⟩ k)
  blk_ext [idxIn t]
theorem e1 (c : Dev nD) (t : Fin cfg0.N) (k : Fin 1024) : iblk m c 1 t (ix2 0 k) = (m ((c.tc : Thread nD τ).loc main_arg1) : Vec Ideal S1x1024 .f32) (ix2 0 k) := by
  blk_simp [iblk]
  refine Eq.trans (congrArg (V m c main_v10) ?_) (v10_at m c k)
  blk_ext [idxIn t]
theorem e2 (c : Dev nD) (t : Fin cfg0.N) (k : Fin 1024) (n : Fin 3712) : iblk m c 2 t (ix2 k n) = wide (m ((c.tc : Thread nD τ).loc main_arg2)) k n := by
  blk_simp [iblk]
  refine Eq.trans (congrArg (V m c main_v2) ?_) (v2_at m c k n)
  blk_ext [idxIn t]
theorem e3 (c : Dev nD) (t : Fin cfg0.N) (k : Fin 1024) (n : Fin 512) : iblk m c 3 t (ix2 k n)
    = wide (m ((c.tc : Thread nD τ).loc main_arg2)) k ⟨n, by omega⟩ - wide (m ((c.tc : Thread nD τ).loc main_arg2)) k ⟨n, by omega⟩ := by
  blk_simp [iblk]
  refine Eq.trans (congrArg (V m c main_v7) ?_) (v7_at m c k n)
  blk_ext [idxIn t]

/-- The weights of the normalisation and of the projection are finite. -/
def Weights (c : Dev nD) : Prop :=
  (∀ k, IsNum ((m ((c.tc : Thread nD τ).loc main_arg1) : Vec Ideal S1x1024 .f32) k)) ∧ ∀ k, IsNum ((m ((c.tc : Thread nD τ).loc main_arg2) : Vec Ideal S1x1024x3592 .f32) k)

theorem point4 (c : Dev nD) (hw : Weights m c) (t : Fin cfg0.N) (y : S512x512.Idx) :
    out0_4 (F := Ideal) (iblk m c 0 t) (iblk m c 1 t) (iblk m c 2 t) (iblk m c 3 t) y
      = proj 0 512 (by omega) (m ((c.tc : Thread nD τ).loc main_arg0)) (m ((c.tc : Thread nD τ).loc main_arg1)) (m ((c.tc : Thread nD τ).loc main_arg2)) (((cfg0.win 4).blk t).view.emb y) := by
  obtain ⟨i, n, rfl⟩ : ∃ i n, y = ix2 i n := ⟨y 0, y 1, eq_ix2 y⟩
  have := tile t
  have en : ((cfg0.win 4).blk t).view.emb (ix2 i n) = ix2 ⟨t.val * 512 + i.val, by omega⟩ n := by blk_ext [idx t]
  rw [block4, en]
  simp only [e0, e1, e2, e3]
  exact (split_mm _ (wide _) ⟨n.val, by omega⟩ (fun k => rms_real _ _ k (hw.1 _)) (fun k => wide_num _ hw.2 k _)).trans (congrArg (mm _ _) (Fin.ext (Nat.zero_add _).symm))
theorem final4 (c : Dev nD) (hw : Weights m c) : (dats m 0 c).arrAt 4 (cfgs 0).N = proj 0 512 (by omega) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  exact point4 m c hw t y

theorem point7 (c : Dev nD) (t : Fin cfg0.N) (y : S512x1536.Idx) :
    out0_7 (F := Ideal) (iblk m c 0 t) (iblk m c 1 t) (iblk m c 2 t) (iblk m c 3 t) y
      = proj 1536 1536 (by omega) (m ((c.tc : Thread nD τ).loc main_arg0)) (m ((c.tc : Thread nD τ).loc main_arg1)) (m ((c.tc : Thread nD τ).loc main_arg2)) (((cfg0.win 7).blk t).view.emb y) := by
  obtain ⟨i, n, rfl⟩ : ∃ i n, y = ix2 i n := ⟨y 0, y 1, eq_ix2 y⟩
  have := tile t
  have en : ((cfg0.win 7).blk t).view.emb (ix2 i n) = ix2 ⟨t.val * 512 + i.val, by omega⟩ n := by blk_ext [idx t]
  rw [block7, en]
  simp only [e0, e1, e2]
  rfl
theorem final7 (c : Dev nD) : (dats m 0 c).arrAt 7 (cfgs 0).N = proj 1536 1536 (by omega) (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  exact point7 m c t y

theorem point8 (c : Dev nD) (t : Fin cfg0.N) (y : S512x512.Idx) :
    out0_8 (F := Ideal) (iblk m c 0 t) (iblk m c 1 t) (iblk m c 2 t) (iblk m c 3 t) y
      = proj 3072 512 (by omega) (m ((c.tc : Thread nD τ).loc main_arg0)) (m ((c.tc : Thread nD τ).loc main_arg1)) (m ((c.tc : Thread nD τ).loc main_arg2)) (((cfg0.win 8).blk t).view.emb y) := by
  obtain ⟨i, n, rfl⟩ : ∃ i n, y = ix2 i n := ⟨y 0, y 1, eq_ix2 y⟩
  have := tile t
  have en : ((cfg0.win 8).blk t).view.emb (ix2 i n) = ix2 ⟨t.val * 512 + i.val, by omega⟩ n := by blk_ext [idx t]
  rw [block8, en]
  simp only [e0, e1, e2]
  rfl
theorem final8 (c : Dev nD) : (dats m 0 c).arrAt 8 (cfgs 0).N = proj 3072 512 (by omega) (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  blk_simp
  rw [after0_8]
  exact point8 m c t y

theorem point9 (c : Dev nD) (t : Fin cfg0.N) (y : S512x128.Idx) :
    out0_9 (F := Ideal) (iblk m c 0 t) (iblk m c 1 t) (iblk m c 2 t) (iblk m c 3 t) y
      = proj 3584 128 (by omega) (m ((c.tc : Thread nD τ).loc main_arg0)) (m ((c.tc : Thread nD τ).loc main_arg1)) (m ((c.tc : Thread nD τ).loc main_arg2)) (((cfg0.win 9).blk t).view.emb y) := by
  obtain ⟨i, n, rfl⟩ : ∃ i n, y = ix2 i n := ⟨y 0, y 1, eq_ix2 y⟩
  have := tile t
  have en : ((cfg0.win 9).blk t).view.emb (ix2 i n) = ix2 ⟨t.val * 512 + i.val, by omega⟩ n := by blk_ext [idx t]
  rw [block9, en]
  simp only [e0, e1, e2]
  rfl
theorem final9 (c : Dev nD) : (dats m 0 c).arrAt 9 (cfgs 0).N = proj 3584 128 (by omega) (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]
  exact point9 m c t y

theorem point5 (c : Dev nD) (t : Fin cfg0.N) (y : S1x8x64x512.Idx) :
    out0_5 (F := Ideal) (iblk m c 0 t) (iblk m c 1 t) (iblk m c 2 t) (iblk m c 3 t) y
      = heads 512 (by omega) (m ((c.tc : Thread nD τ).loc main_arg0)) (m ((c.tc : Thread nD τ).loc main_arg1)) (m ((c.tc : Thread nD τ).loc main_arg2)) (((cfg0.win 5).blk t).view.emb y) := by
  obtain ⟨h, d, i, rfl⟩ : ∃ h d i, y = ix4 0 h d i := ⟨y 1, y 2, y 3, by blk_ext⟩
  have := tile t
  have en : ((cfg0.win 5).blk t).view.emb (ix4 0 h d i) = ix4 ⟨t.val / 16, by omega⟩ h d ⟨t.val % 16 * 512 + i.val, by omega⟩ := by blk_ext [idx t]
  rw [block5, en]
  simp only [e0, e1, e2]
  refine congrArg (fun r => mm (unit _ _ r) _ _) (Fin.ext ?_)
  show t.val * 512 + i.val = t.val / 16 * 8192 + (t.val % 16 * 512 + i.val)
  omega
theorem final5 (c : Dev nD) : (dats m 0 c).arrAt 5 (cfgs 0).N = heads 512 (by omega) (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]
  exact point5 m c t y

theorem point6 (c : Dev nD) (t : Fin cfg0.N) (y : S1x8x64x512.Idx) :
    out0_6 (F := Ideal) (iblk m c 0 t) (iblk m c 1 t) (iblk m c 2 t) (iblk m c 3 t) y
      = heads 1024 (by omega) (m ((c.tc : Thread nD τ).loc main_arg0)) (m ((c.tc : Thread nD τ).loc main_arg1)) (m ((c.tc : Thread nD τ).loc main_arg2)) (((cfg0.win 6).blk t).view.emb y) := by
  obtain ⟨h, d, i, rfl⟩ : ∃ h d i, y = ix4 0 h d i := ⟨y 1, y 2, y 3, by blk_ext⟩
  have := tile t
  have en : ((cfg0.win 6).blk t).view.emb (ix4 0 h d i) = ix4 ⟨t.val / 16, by omega⟩ h d ⟨t.val % 16 * 512 + i.val, by omega⟩ := by blk_ext [idx t]
  rw [block6, en]
  simp only [e0, e1, e2]
  refine congrArg (fun r => mm (unit _ _ r) _ _) (Fin.ext ?_)
  show t.val * 512 + i.val = t.val / 16 * 8192 + (t.val % 16 * 512 + i.val)
  omega
theorem final6 (c : Dev nD) : (dats m 0 c).arrAt 6 (cfgs 0).N = heads 1024 (by omega) (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  exact point6 m c t y

theorem point10 (c : Dev nD) (t : Fin cfg0.N) (y : S1x2x1024.Idx) :
    out0_10 (F := Ideal) (iblk m c 0 t) (iblk m c 1 t) (iblk m c 2 t) (iblk m c 3 t) y
      = mean (m ((c.tc : Thread nD τ).loc main_arg0)) (m ((c.tc : Thread nD τ).loc main_arg1)) (((cfg0.win 10).blk t).view.emb y) := by
  obtain ⟨p, n, rfl⟩ : ∃ p n, y = ix3 0 p n := ⟨y 1, y 2, by blk_ext⟩
  have := tile t
  have en : ((cfg0.win 10).blk t).view.emb (ix3 0 p n) = ix3 ⟨t.val, by omega⟩ p n := by blk_ext [idx t]
  rw [block10, en]
  simp only [e0, e1]
  refine congrArg (Ideal.div · c256) (Finset.sum_congr rfl fun q _ => ?_)
  refine congrArg (fun r => unit _ _ r n) (Fin.ext ?_)
  show t.val * 512 + (p.val * 256 + q.val) = t.val * 512 + p.val * 256 + q.val
  omega
theorem final10 (c : Dev nD) : (dats m 0 c).arrAt 10 (cfgs 0).N = mean (m ((c.tc : Thread nD τ).loc main_arg0)) (m ((c.tc : Thread nD τ).loc main_arg1)) := by
  refine (dats m 0 c).arrAt_eq_of_covers 10 _ (by decide +kernel) fun t _ y => ?_
  blk_simp
  rw [after0_10]
  exact point10 m c t y

end Cert.Kernel2Ideal.Proj
-- ==== Proof.ProjRef.lean ====
module

public import proofs.«01_k».proof.Proof.Gen.Reference2Ideal.Run
public import proofs.«01_k».proof.Proof.Proj
public import Idealize.ShloMosaic.Lib.Claim

/-! # The mixer's input projection of the prompt, the reference's side -/

@[expose] public section
set_option maxRecDepth 16384
noncomputable section
open Idealize.ShloMosaic Idealize.ShloMosaic.TcCoe Idealize.SL.Sem
namespace Cert.Reference2Ideal.Proj
open Cert.Reference2Ideal Cert.Reference2Ideal.Gen Cert.Row
open Cert.Kernel2Ideal.Proj (row unit projAt proj headsAt heads meanAt mean c256)

/-- The normalised rows. -/
def rNorm (x : FVec Ideal S8x8192x1024 .f32) (w : FVec Ideal S1x1024 .f32) : FVec Ideal S8x8192x1024 .f32 :=
  mulf (F := Ideal) (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ w shapeCasts_S1x1024_S1024)))
/-- Their projection. -/
def rProj (x : FVec Ideal S8x8192x1024 .f32) (W : FVec Ideal S1x1024x3592 .f32) : FVec Ideal S8x8192x3592 .f32 :=
  Host.dotGeneral (F := Ideal) dot_S8x8192x1024_S1024x3592_S8x8192x3592_2_0_01_1_n_n none x (shapeCast _ W shapeCasts_S1x1024x3592_S1024x3592)

theorem rNorm_at (x w) (b : Fin 8) (t : Fin 8192) (n : Fin 1024) : rNorm x w (ix3 b t n) = rms (fun k => x (ix3 b t k)) (fun k => w (ix2 0 k)) n := by
  pointwise [rNorm, rms]
theorem rProj_at (x W) (b : Fin 8) (t : Fin 8192) (n : Fin 3592) : rProj x W (ix3 b t n) = mm (fun k => x (ix3 b t k)) (fun k n => W (ix3 0 k n)) n := by
  pointwise [rProj, mm]
/-- A row of a prompt is a row of the prompts laid one after another. -/
theorem row_at (x : FVec Ideal S8x8192x1024 .f32) (b : Fin 8) (t : Fin 8192) (k : Fin 1024) : row x ⟨b.val * 8192 + t.val, by omega⟩ k = x (ix3 b t k) := by
  unfold row
  refine congrArg x ?_
  have h0 : (b.val * 8192 + t.val) / 8192 = b.val := by omega
  have h1 : (b.val * 8192 + t.val) % 8192 = t.val := by omega
  simp only [h0, h1]
theorem norm_unit (x w) (b : Fin 8) (t : Fin 8192) (n : Fin 1024) : rNorm x w (ix3 b t n) = unit x w ⟨b.val * 8192 + t.val, by omega⟩ n := by
  rw [rNorm_at]
  unfold unit
  exact congrArg (rms · _ n) (funext fun k => (row_at x b t k).symm)
theorem norm_row (x w) (r : Fin 65536) (n : Fin 1024) : rNorm x w (ix3 ⟨r.val / 8192, by omega⟩ ⟨r.val % 8192, by omega⟩ n) = unit x w r n := by
  rw [rNorm_at]
  rfl
/-- A column of the reference's projection is a column of the kernel's. -/
theorem col (x w W) (r : Fin 65536) (n : Fin 3592) :
    rProj (rNorm x w) W (ix3 ⟨r.val / 8192, by omega⟩ ⟨r.val % 8192, by omega⟩ n) = mm (unit x w r) (wide W) ⟨n, by omega⟩ := by
  rw [rProj_at, mm_wide _ _ _ n.isLt]
  simp only [norm_row]
theorem colHead (x w W) (b : Fin 8) (t : Fin 8192) (n : Fin 3592) :
    rProj (rNorm x w) W (ix3 b t n) = mm (unit x w ⟨b.val * 8192 + t.val, by omega⟩) (wide W) ⟨n, by omega⟩ := by
  rw [rProj_at, mm_wide _ _ _ n.isLt]
  simp only [norm_unit]

/-- The 512 columns from 0, as a matrix. -/
def cut0 (y : FVec Ideal S8x8192x3592 .f32) : FVec Ideal S65536x512 .f32 :=
  shapeCast _ (extractStridedSlice S8x8192x512 ![0, 0, 0] y slices_S8x8192x3592_S8x8192x512_0_0_0) shapeCasts_S8x8192x512_S65536x512
theorem cut0_at (y : FVec Ideal S8x8192x3592 .f32) (r : Fin 65536) (n : Fin 512) :
    cut0 y (ix2 r n) = y (ix3 ⟨r.val / 8192, by omega⟩ ⟨r.val % 8192, by omega⟩ ⟨0 + n.val, by omega⟩) := by
  pointwise [cut0]
  try blk_ext
theorem eq0 (x w W) : cut0 (rProj (rNorm x w) W) = proj 0 512 (by omega) x w W := by
  funext j
  obtain ⟨r, n, rfl⟩ : ∃ r n, j = ix2 r n := ⟨j 0, j 1, eq_ix2 j⟩
  rw [cut0_at, col]
  rfl
/-- The 1536 columns from 1536, as a matrix. -/
def cut1536 (y : FVec Ideal S8x8192x3592 .f32) : FVec Ideal S65536x1536 .f32 :=
  shapeCast _ (extractStridedSlice S8x8192x1536 ![0, 0, 1536] y slices_S8x8192x3592_S8x8192x1536_0_0_1536) shapeCasts_S8x8192x1536_S65536x1536
theorem cut1536_at (y : FVec Ideal S8x8192x3592 .f32) (r : Fin 65536) (n : Fin 1536) :
    cut1536 y (ix2 r n) = y (ix3 ⟨r.val / 8192, by omega⟩ ⟨r.val % 8192, by omega⟩ ⟨1536 + n.val, by omega⟩) := by
  pointwise [cut1536]
  try blk_ext
theorem eq1536 (x w W) : cut1536 (rProj (rNorm x w) W) = proj 1536 1536 (by omega) x w W := by
  funext j
  obtain ⟨r, n, rfl⟩ : ∃ r n, j = ix2 r n := ⟨j 0, j 1, eq_ix2 j⟩
  rw [cut1536_at, col]
  rfl
/-- The 512 columns from 3072, as a matrix. -/
def cut3072 (y : FVec Ideal S8x8192x3592 .f32) : FVec Ideal S65536x512 .f32 :=
  shapeCast _ (extractStridedSlice S8x8192x512 ![0, 0, 3072] y slices_S8x8192x3592_S8x8192x512_0_0_3072) shapeCasts_S8x8192x512_S65536x512
theorem cut3072_at (y : FVec Ideal S8x8192x3592 .f32) (r : Fin 65536) (n : Fin 512) :
    cut3072 y (ix2 r n) = y (ix3 ⟨r.val / 8192, by omega⟩ ⟨r.val % 8192, by omega⟩ ⟨3072 + n.val, by omega⟩) := by
  pointwise [cut3072]
  try blk_ext
theorem eq3072 (x w W) : cut3072 (rProj (rNorm x w) W) = proj 3072 512 (by omega) x w W := by
  funext j
  obtain ⟨r, n, rfl⟩ : ∃ r n, j = ix2 r n := ⟨j 0, j 1, eq_ix2 j⟩
  rw [cut3072_at, col]
  rfl
/-- The 512 columns from 512, by heads, the tokens last. -/
def cut512 (y : FVec Ideal S8x8192x3592 .f32) : FVec Ideal S8x8x64x8192 .f32 :=
  transpose S8x8x64x8192 [0, 2, 3, 1] (shapeCast _ (extractStridedSlice S8x8192x512 ![0, 0, 512] y slices_S8x8192x3592_S8x8192x512_0_0_512) shapeCasts_S8x8192x512_S8x8192x8x64) transposes_S8x8192x8x64_S8x8x64x8192_0_2_3_1
theorem cut512_at (y : FVec Ideal S8x8192x3592 .f32) (b : Fin 8) (h : Fin 8) (d : Fin 64) (t : Fin 8192) :
    cut512 y (ix4 b h d t) = y (ix3 b t ⟨512 + (h.val * 64 + d.val), by omega⟩) := by
  pointwise [cut512]
  try blk_ext
theorem eq512 (x w W) : cut512 (rProj (rNorm x w) W) = heads 512 (by omega) x w W := by
  funext j
  obtain ⟨b, h, d, t, rfl⟩ : ∃ b h d t, j = ix4 b h d t := ⟨j 0, j 1, j 2, j 3, eq_ix4 j⟩
  rw [cut512_at, colHead]
  rfl
/-- The 512 columns from 1024, by heads, the tokens last. -/
def cut1024 (y : FVec Ideal S8x8192x3592 .f32) : FVec Ideal S8x8x64x8192 .f32 :=
  transpose S8x8x64x8192 [0, 2, 3, 1] (shapeCast _ (extractStridedSlice S8x8192x512 ![0, 0, 1024] y slices_S8x8192x3592_S8x8192x512_0_0_1024) shapeCasts_S8x8192x512_S8x8192x8x64) transposes_S8x8192x8x64_S8x8x64x8192_0_2_3_1
theorem cut1024_at (y : FVec Ideal S8x8192x3592 .f32) (b : Fin 8) (h : Fin 8) (d : Fin 64) (t : Fin 8192) :
    cut1024 y (ix4 b h d t) = y (ix3 b t ⟨1024 + (h.val * 64 + d.val), by omega⟩) := by
  pointwise [cut1024]
  try blk_ext
theorem eq1024 (x w W) : cut1024 (rProj (rNorm x w) W) = heads 1024 (by omega) x w W := by
  funext j
  obtain ⟨b, h, d, t, rfl⟩ : ∃ b h d t, j = ix4 b h d t := ⟨j 0, j 1, j 2, j 3, eq_ix4 j⟩
  rw [cut1024_at, colHead]
  rfl
/-- The last eight columns, with 120 zero columns added. -/
def rGates (y : FVec Ideal S8x8192x3592 .f32) : FVec Ideal S65536x128 .f32 :=
  shapeCast _ (pad S8x8192x128 ![0, 0, 0] ![0, 0, 120] ![0, 0, 0] (extractStridedSlice S8x8192x8 ![0, 0, 3584] y slices_S8x8192x3592_S8x8192x8_0_0_3584) (sitofp (F := Ideal) .f32 (constantI S_ 32 0#32)) pads_S8x8192x8_S8x8192x128_000_000_01200 h_S_) shapeCasts_S8x8192x128_S65536x128
theorem gates_lo (y) (r : Fin 65536) (n : Fin 128) (h : n.val < 8) : rGates y (ix2 r n) = y (ix3 ⟨r.val / 8192, by omega⟩ ⟨r.val % 8192, by omega⟩ ⟨3584 + n.val, by omega⟩) := by
  unfold rGates
  obtain ⟨n, hn⟩ := n
  pointwise
  exact dif_pos ⟨by omega, by omega, h⟩
theorem gates_hi (y) (r : Fin 65536) (n : Fin 128) (h : ¬ n.val < 8) : rGates y (ix2 r n) = 0 := by
  have hz : (FloatOps.sitofp FTy.f32 0#32 : Ideal .f32) = 0 := by simp [FloatOps.sitofp]
  unfold rGates
  obtain ⟨n, hn⟩ := n
  pointwise
  exact (dif_neg fun hh => h hh.2.2).trans hz
theorem eqGates (x w W) : rGates (rProj (rNorm x w) W) = proj 3584 128 (by omega) x w W := by
  funext j
  obtain ⟨r, n, rfl⟩ : ∃ r n, j = ix2 r n := ⟨j 0, j 1, eq_ix2 j⟩
  by_cases h : n.val < 8
  · rw [gates_lo _ _ _ h, col]
    rfl
  · rw [gates_hi _ _ _ h]
    exact (mm_wide_zero _ W ⟨3584 + n.val, by omega⟩ (by dsimp only; omega)).symm

/-- The means over blocks of 256 tokens. -/
def rMean (x : FVec Ideal S8x8192x1024 .f32) : FVec Ideal S128x2x1024 .f32 :=
  shapeCast _ (Host.divf (F := Ideal) (Host.reduceAdd (shapeCast _ x shapeCasts_S8x8192x1024_S8x32x256x1024) (constant S_ .f32 0x00000000#32) reducesTo_S8x32x256x1024_S8x32x1024_d2 h_S_) (broadcastInDim S8x32x1024 ![] bcast_S_S8x32x1024 (constant S_ .f32 0x43800000#32))) shapeCasts_S8x32x1024_S128x2x1024
theorem rMean_at (x) (t : Fin 128) (p : Fin 2) (n : Fin 1024) :
    rMean x (ix3 t p n) = Ideal.div (∑ q : Fin 256, x (ix3 ⟨(t.val * 512 + p.val * 256 + q.val) / 8192, by omega⟩ ⟨(t.val * 512 + p.val * 256 + q.val) % 8192, by omega⟩ n)) c256 := by
  pointwise [rMean, c256]
  refine congrArg (Ideal.div · _) (Finset.sum_congr rfl fun q _ => congrArg x ?_)
  blk_ext
theorem eqMean (x w) : rMean (rNorm x w) = mean x w := by
  funext j
  obtain ⟨t, p, n, rfl⟩ : ∃ t p n, j = ix3 t p n := ⟨j 0, j 1, j 2, eq_ix3 j⟩
  rw [rMean_at]
  refine congrArg (Ideal.div · c256) (Finset.sum_congr rfl fun q _ => ?_)
  exact norm_row x w ⟨t.val * 512 + p.val * 256 + q.val, by omega⟩ n
end Cert.Reference2Ideal.Proj
-- ==== Proof.Alg2.lean ====
module

public import proofs.«01_k».proof.Defs
public import proofs.«01_k».proof.Proof.Proj
public import proofs.«01_k».proof.Proof.ProjRef
public import Idealize.ShloMosaic.Lib.Claim

/-! # Claim 2: the mixer's input projection of the prompt, kernel and reference -/

@[expose] public section
set_option maxRecDepth 16384
open Idealize.ShloMosaic Idealize.ShloMosaic.TcCoe Idealize.SL.Sem
namespace Cert.Proof

set_option maxHeartbeats 4000000 in
theorem algebraic2 [Cert.Pre_finite_weights.Facts] : Cert.algebraic_Kernel2Ideal_Reference2Ideal_pre_finite_weights := by
  pair_intro
  · run_from Cert.Kernel2Ideal.Gen.run_main m g
    all_goals first
      | exact Cert.Kernel2Ideal.Gen.V_main_arg0 m c
      | exact Cert.Kernel2Ideal.Gen.V_main_arg1 m c
      | exact Cert.Kernel2Ideal.Gen.V_main_arg2 m c
  · refine Idealize.ShloMosaic.θ_run_mono (Cert.Reference2Ideal.Value.run m' g') fun r hr c => ?_
    obtain ⟨h0, h1, h2, h3, h4, h5, h6, ha⟩ := hr c
    obtain ⟨e0, e1, e2⟩ := hagree c
    have hw : Cert.Kernel2Ideal.Proj.Weights m c := Cert.Row.weights_num _ _ _ (hpre c)
    refine ⟨h0.trans ?_, h1.trans ?_, h2.trans ?_, h3.trans ?_, h4.trans ?_, h5.trans ?_, h6.trans ?_, ha⟩
    · refine (Cert.Reference2Ideal.Proj.eq0 (m' (c.tc.loc Cert.Reference2Ideal.main_arg0)) (m' (c.tc.loc Cert.Reference2Ideal.main_arg1)) (m' (c.tc.loc Cert.Reference2Ideal.main_arg2))).trans ?_
      rw [e0, e1, e2]
      exact (Cert.Kernel2Ideal.Proj.final4 m c hw).symm
    · refine (Cert.Reference2Ideal.Proj.eq512 (m' (c.tc.loc Cert.Reference2Ideal.main_arg0)) (m' (c.tc.loc Cert.Reference2Ideal.main_arg1)) (m' (c.tc.loc Cert.Reference2Ideal.main_arg2))).trans ?_
      rw [e0, e1, e2]
      exact (Cert.Kernel2Ideal.Proj.final5 m c).symm
    · refine (Cert.Reference2Ideal.Proj.eq1024 (m' (c.tc.loc Cert.Reference2Ideal.main_arg0)) (m' (c.tc.loc Cert.Reference2Ideal.main_arg1)) (m' (c.tc.loc Cert.Reference2Ideal.main_arg2))).trans ?_
      rw [e0, e1, e2]
      exact (Cert.Kernel2Ideal.Proj.final6 m c).symm
    · refine (Cert.Reference2Ideal.Proj.eq1536 (m' (c.tc.loc Cert.Reference2Ideal.main_arg0)) (m' (c.tc.loc Cert.Reference2Ideal.main_arg1)) (m' (c.tc.loc Cert.Reference2Ideal.main_arg2))).trans ?_
      rw [e0, e1, e2]
      exact (Cert.Kernel2Ideal.Proj.final7 m c).symm
    · refine (Cert.Reference2Ideal.Proj.eq3072 (m' (c.tc.loc Cert.Reference2Ideal.main_arg0)) (m' (c.tc.loc Cert.Reference2Ideal.main_arg1)) (m' (c.tc.loc Cert.Reference2Ideal.main_arg2))).trans ?_
      rw [e0, e1, e2]
      exact (Cert.Kernel2Ideal.Proj.final8 m c).symm
    · refine (Cert.Reference2Ideal.Proj.eqGates (m' (c.tc.loc Cert.Reference2Ideal.main_arg0)) (m' (c.tc.loc Cert.Reference2Ideal.main_arg1)) (m' (c.tc.loc Cert.Reference2Ideal.main_arg2))).trans ?_
      rw [e0, e1, e2]
      exact (Cert.Kernel2Ideal.Proj.final9 m c).symm
    · refine (Cert.Reference2Ideal.Proj.eqMean (m' (c.tc.loc Cert.Reference2Ideal.main_arg0)) (m' (c.tc.loc Cert.Reference2Ideal.main_arg1))).trans ?_
      rw [e0, e1]
      exact (Cert.Kernel2Ideal.Proj.final10 m c).symm
end Cert.Proof
-- ==== Proof.Kv.lean ====
module

public import proofs.«01_k».proof.Proof.Gen.Kernel3Ideal.Frame
public import proofs.«01_k».proof.Proof.Row
public import Idealize.ShloMosaic.Lib.Claim

/-! # The memory's keys and values, the kernel's side

Each grid point normalises 512 rows of the memory and multiplies them by the weights, 512 columns at a time: keys first, then values. -/

@[expose] public section
set_option maxRecDepth 16384
noncomputable section
open Idealize.ShloMosaic Idealize.ShloMosaic.TcCoe Idealize.SL.Sem
open Idealize.ShloMosaic.Pipeline (Dat)
namespace Cert.Kernel3Ideal.Kv
open Cert.Kernel3Ideal Cert.Kernel3Ideal.Gen Cert.Row

theorem pay2_at (v0 v2) (i : Fin 512) (n : Fin 1024) :
    k0_pay2 (F := Ideal) v0 v2 (ix2 i n) = rms (fun k => v0 (ix2 i k)) (fun k => v2 (ix2 0 k)) n := by
  pointwise [k0_pay2, rms]

theorem pay3_at (v0 v2 v17) (i j : Fin 512) :
    k0_pay3 (F := Ideal) v0 v2 v17 (ix2 i j) = mm (rms (fun k => v0 (ix2 i k)) (fun k => v2 (ix2 0 k))) (fun k n => v17 (ix2 k n)) j := by
  pointwise [k0_pay3, mm]
  simp only [pay2_at]

theorem pay4_at (v0 v2 v17) (i j : Fin 512) :
    k0_pay4 (F := Ideal) v0 v2 v17 (ix2 i j) = mm (rms (fun k => v0 (ix2 i k)) (fun k => v2 (ix2 0 k))) (fun k n => v17 (ix2 k n)) j := by
  pointwise [k0_pay4, mm]
  simp only [pay2_at]

theorem pay5_at (v0 v2 v17) (i j : Fin 512) :
    k0_pay5 (F := Ideal) v0 v2 v17 (ix2 i j) = mm (rms (fun k => v0 (ix2 i k)) (fun k => v2 (ix2 0 k))) (fun k n => v17 (ix2 k n)) j := by
  pointwise [k0_pay5, mm]
  simp only [pay2_at]

theorem pay1_at (v0 v2 v29) (i j : Fin 512) :
    k0_pay1 (F := Ideal) (k0_pay2 v0 v2) (k0_pay6 v29) (constant S512x512 .f32 0x00000000#32) (ix2 i j)
      = mm (rms (fun k => v0 (ix2 i k)) (fun k => v2 (ix2 0 k))) (fun k n => v29 (ix2 k n)) j := by
  pointwise [k0_pay1, k0_pay6, mm]
  simp only [pay2_at]

theorem ld2 (x : Vec Ideal S1024x2048 .bf16) (k : Fin 1024) (n : Fin 512) : View.ld x r0_2 (ix2 k n) = x (ix2 k ⟨n, by omega⟩) := by
  pointwise; blk_ext
theorem ld4 (x : Vec Ideal S1024x2048 .bf16) (k : Fin 1024) (n : Fin 512) : View.ld x r0_4 (ix2 k n) = x (ix2 k ⟨512 + n, by omega⟩) := by
  pointwise; blk_ext
theorem ld6 (x : Vec Ideal S1024x2048 .bf16) (k : Fin 1024) (n : Fin 512) : View.ld x r0_6 (ix2 k n) = x (ix2 k ⟨1024 + n, by omega⟩) := by
  pointwise; blk_ext
theorem ld7 (x : Vec Ideal S1024x2048 .bf16) (k : Fin 1024) (n : Fin 512) : View.ld x r0_7 (ix2 k n) = x (ix2 k ⟨1536 + n, by omega⟩) := by
  pointwise; blk_ext

theorem pay4_ld (v0 v2) (x : Vec Ideal S1024x2048 .bf16) (i j : Fin 512) :
    k0_pay4 (F := Ideal) v0 v2 (View.ld x r0_4) (ix2 i j) = mm (rms (fun k => v0 (ix2 i k)) (fun k => v2 (ix2 0 k))) (fun k n => x (ix2 k n)) ⟨512 + j, by omega⟩ := by
  rw [pay4_at]
  exact Finset.sum_congr rfl fun k _ => congrArg (_ * ·) (ld4 x k j)
theorem pay3_ld (v0 v2) (x : Vec Ideal S1024x2048 .bf16) (i j : Fin 512) :
    k0_pay3 (F := Ideal) v0 v2 (View.ld x r0_2) (ix2 i j) = mm (rms (fun k => v0 (ix2 i k)) (fun k => v2 (ix2 0 k))) (fun k n => x (ix2 k n)) ⟨j, by omega⟩ := by
  rw [pay3_at]
  exact Finset.sum_congr rfl fun k _ => congrArg (_ * ·) (ld2 x k j)
theorem pay5_ld (v0 v2) (x : Vec Ideal S1024x2048 .bf16) (i j : Fin 512) :
    k0_pay5 (F := Ideal) v0 v2 (View.ld x r0_6) (ix2 i j) = mm (rms (fun k => v0 (ix2 i k)) (fun k => v2 (ix2 0 k))) (fun k n => x (ix2 k n)) ⟨1024 + j, by omega⟩ := by
  rw [pay5_at]
  exact Finset.sum_congr rfl fun k _ => congrArg (_ * ·) (ld6 x k j)
theorem pay1_ld (v0 v2) (x : Vec Ideal S1024x2048 .bf16) (i j : Fin 512) :
    k0_pay1 (F := Ideal) (k0_pay2 v0 v2) (k0_pay6 (View.ld x r0_7)) (constant S512x512 .f32 0x00000000#32) (ix2 i j) = mm (rms (fun k => v0 (ix2 i k)) (fun k => v2 (ix2 0 k))) (fun k n => x (ix2 k n)) ⟨1536 + j, by omega⟩ := by
  rw [pay1_at]
  exact Finset.sum_congr rfl fun k _ => congrArg (_ * ·) (ld7 x k j)

/-- The keys of a tile. -/
theorem block3 (x0 : Vec Ideal S512x1024 .f32) (x1 : Vec Ideal S1x1024 .f32) (x2 : Vec Ideal S1024x2048 .bf16) (i : Fin 512) (n : Fin 1024) :
    out0_3 (F := Ideal) x0 x1 x2 (ix2 i n)
      = mm (rms (fun k => x0 (ix2 i k)) (fun k => x1 (ix2 0 k))) (fun k n => x2 (ix2 k n)) ⟨0 + n, by omega⟩ := by
  have h0 : View.ld x0 r0_0 = x0 := by frame_out
  have h1 : View.ld x1 r0_1 = x1 := by frame_out
  unfold out0_3
  rw [h0, h1]
  generalize hy : (ix2 i n : S512x1024.Idx) = y
  canon_tiles x g
  case piece0 =>
    obtain ⟨i', n', rfl⟩ : ∃ d n, x = ix2 d n := ⟨x 0, x 1, by blk_ext⟩
    obtain rfl : i = i' := Fin.ext (by subst hy; simpa using g0)
    have hn : n.val = 512 + n'.val := by subst hy; simpa using g1
    rw [pay4_ld]
    refine congrArg (mm _ _) (Fin.ext ?_)
    dsimp only
    omega
  case piece1 =>
    obtain ⟨i', n', rfl⟩ : ∃ d n, x = ix2 d n := ⟨x 0, x 1, by blk_ext⟩
    obtain rfl : i = i' := Fin.ext (by subst hy; simpa using g0)
    have hn : n.val = n'.val := by subst hy; simpa using g1
    rw [pay3_ld]
    refine congrArg (mm _ _) (Fin.ext ?_)
    dsimp only
    omega

/-- The values of a tile. -/
theorem block4 (x0 : Vec Ideal S512x1024 .f32) (x1 : Vec Ideal S1x1024 .f32) (x2 : Vec Ideal S1024x2048 .bf16) (i : Fin 512) (n : Fin 1024) :
    out0_4 (F := Ideal) x0 x1 x2 (ix2 i n)
      = mm (rms (fun k => x0 (ix2 i k)) (fun k => x1 (ix2 0 k))) (fun k n => x2 (ix2 k n)) ⟨1024 + n, by omega⟩ := by
  have h0 : View.ld x0 r0_0 = x0 := by frame_out
  have h1 : View.ld x1 r0_1 = x1 := by frame_out
  unfold out0_4
  rw [h0, h1]
  generalize hy : (ix2 i n : S512x1024.Idx) = y
  canon_tiles x g
  case piece0 =>
    obtain ⟨i', n', rfl⟩ : ∃ d n, x = ix2 d n := ⟨x 0, x 1, by blk_ext⟩
    obtain rfl : i = i' := Fin.ext (by subst hy; simpa using g0)
    have hn : n.val = 512 + n'.val := by subst hy; simpa using g1
    rw [pay1_ld]
    refine congrArg (mm _ _) (Fin.ext ?_)
    dsimp only
    omega
  case piece1 =>
    obtain ⟨i', n', rfl⟩ : ∃ d n, x = ix2 d n := ⟨x 0, x 1, by blk_ext⟩
    obtain rfl : i = i' := Fin.ext (by subst hy; simpa using g0)
    have hn : n.val = n'.val := by subst hy; simpa using g1
    rw [pay5_ld]
    refine congrArg (mm _ _) (Fin.ext ?_)
    dsimp only
    omega

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

/-- Keys or values as a function of the arguments: the columns from `o` of the normalised memory times the weights. -/
def arrAt (o : ℕ) (ho : o ≤ 1024) (x : Vec Ideal S8x256x1024 .f32) (w : Vec Ideal S1x1024 .f32) (W : Vec Ideal S1x1024x2048 .f32)
    (r : Fin 2048) (n : Fin 1024) : EReal :=
  mm (rms (fun k => x (ix3 ⟨r.val / 256, by omega⟩ ⟨r.val % 256, by omega⟩ k)) (fun k => w (ix2 0 k))) (fun k n => W (ix3 0 k n)) ⟨o + n.val, by omega⟩
/-- The whole array of keys or values. -/
def arr (o : ℕ) (ho : o ≤ 1024) (x : Vec Ideal S8x256x1024 .f32) (w : Vec Ideal S1x1024 .f32) (W : Vec Ideal S1x1024x2048 .f32) : Vec Ideal S2048x1024 .f32 :=
  fun j => arrAt o ho x w W (j 0) (j 1)

theorem v1_read (X : Vec Ideal S1x1024x2048 .f32) (k : Fin 1024) (n : Fin 2048) : (truncf (F := Ideal) .bf16 (shapeCast S1024x2048 X shapeCasts_S1x1024x2048_S1024x2048) bitsLt_bf16_f32) (ix2 k n) = X (ix3 0 k n) := by
  pointwise

theorem v1_at (c : Dev nD) (k : Fin 1024) (n : Fin 2048) :
    (V m c main_v1 : Vec Ideal S1024x2048 .bf16) (ix2 k n) = (m ((c.tc : Thread nD τ).loc main_arg2) : Vec Ideal S1x1024x2048 .f32) (ix3 0 k n) := by
  have hv : (V m c main_v1 : Vec Ideal S1024x2048 .bf16) = truncf (F := Ideal) .bf16 (shapeCast S1024x2048 (m ((c.tc : Thread nD τ).loc main_arg2) : Vec Ideal S1x1024x2048 .f32) shapeCasts_S1x1024x2048_S1024x2048) bitsLt_bf16_f32 := by
    entry_read; rfl
  exact (congrFun hv _).trans (v1_read _ k n)

theorem v2_read (X : Vec Ideal S8x256x1024 .f32) (r : Fin 2048) (k : Fin 1024) : (shapeCast S2048x1024 X shapeCasts_S8x256x1024_S2048x1024) (ix2 r k)
    = X (ix3 ⟨r.val / 256, by omega⟩ ⟨r.val % 256, by omega⟩ k) := by
  pointwise

theorem v2_at (c : Dev nD) (r : Fin 2048) (k : Fin 1024) :
    (V m c main_v2 : Vec Ideal S2048x1024 .f32) (ix2 r k) = (m ((c.tc : Thread nD τ).loc main_arg0) : Vec Ideal S8x256x1024 .f32) (ix3 ⟨r.val / 256, by omega⟩ ⟨r.val % 256, by omega⟩ k) := by
  have hv : (V m c main_v2 : Vec Ideal S2048x1024 .f32) = shapeCast S2048x1024 (m ((c.tc : Thread nD τ).loc main_arg0) : Vec Ideal S8x256x1024 .f32) shapeCasts_S8x256x1024_S2048x1024 := by
    entry_read; rfl
  exact (congrFun hv _).trans (v2_read _ r k)

theorem v4_read (X : Vec Ideal S1x1024 .f32) (k : Fin 1024) : (shapeCast S1x1024 (shapeCast S1024 X shapeCasts_S1x1024_S1024) shapeCasts_S1024_S1x1024) (ix2 0 k) = X (ix2 0 k) := by
  pointwise

theorem v4_at (c : Dev nD) (k : Fin 1024) :
    (V m c main_v4 : Vec Ideal S1x1024 .f32) (ix2 0 k) = (m ((c.tc : Thread nD τ).loc main_arg1) : Vec Ideal S1x1024 .f32) (ix2 0 k) := by
  have hv : (V m c main_v4 : Vec Ideal S1x1024 .f32) = shapeCast S1x1024 (shapeCast S1024 (m ((c.tc : Thread nD τ).loc main_arg1) : Vec Ideal S1x1024 .f32) shapeCasts_S1x1024_S1024) shapeCasts_S1024_S1x1024 := by
    entry_read; rfl
  exact (congrFun hv _).trans (v4_read _ k)

theorem tile (t : Fin cfg0.N) : t.val < 4 := t.isLt

theorem e0 (c : Dev nD) (t : Fin cfg0.N) (i : Fin 512) (k : Fin 1024) : iblk m c 0 t (ix2 i k) = (m ((c.tc : Thread nD τ).loc main_arg0) : Vec Ideal S8x256x1024 .f32)
    (ix3 ⟨(t.val * 512 + i.val) / 256, by have := tile t; omega⟩ ⟨(t.val * 512 + i.val) % 256, by omega⟩ k) := by
  have := tile t
  blk_simp [iblk]
  refine Eq.trans (congrArg (V m c main_v2) ?_) (v2_at m c ⟨t.val * 512 + i.val, by omega⟩ k)
  blk_ext [idx t]
theorem e1 (c : Dev nD) (t : Fin cfg0.N) (k : Fin 1024) : iblk m c 1 t (ix2 0 k) = (m ((c.tc : Thread nD τ).loc main_arg1) : Vec Ideal S1x1024 .f32) (ix2 0 k) := by
  blk_simp [iblk]
  refine Eq.trans (congrArg (V m c main_v4) ?_) (v4_at m c k)
  blk_ext [idx t]
theorem e2 (c : Dev nD) (t : Fin cfg0.N) (k : Fin 1024) (n : Fin 2048) : iblk m c 2 t (ix2 k n) = (m ((c.tc : Thread nD τ).loc main_arg2) : Vec Ideal S1x1024x2048 .f32) (ix3 0 k n) := by
  blk_simp [iblk]
  refine Eq.trans (congrArg (V m c main_v1) ?_) (v1_at m c k n)
  blk_ext [idx t]

theorem point3 (c : Dev nD) (t : Fin cfg0.N) (y : S512x1024.Idx) :
    out0_3 (F := Ideal) (iblk m c 0 t) (iblk m c 1 t) (iblk m c 2 t) y
      = arr 0 (by omega) (m ((c.tc : Thread nD τ).loc main_arg0)) (m ((c.tc : Thread nD τ).loc main_arg1)) (m ((c.tc : Thread nD τ).loc main_arg2)) (((cfg0.win 3).blk t).view.emb y) := by
  obtain ⟨i, n, rfl⟩ : ∃ i n, y = ix2 i n := ⟨y 0, y 1, eq_ix2 y⟩
  have := tile t
  have en : ((cfg0.win 3).blk t).view.emb (ix2 i n) = ix2 ⟨t.val * 512 + i.val, by omega⟩ n := by blk_ext [idx t]
  rw [block3, en]
  simp only [e0, e1, e2]
  rfl

theorem point4 (c : Dev nD) (t : Fin cfg0.N) (y : S512x1024.Idx) :
    out0_4 (F := Ideal) (iblk m c 0 t) (iblk m c 1 t) (iblk m c 2 t) y
      = arr 1024 (by omega) (m ((c.tc : Thread nD τ).loc main_arg0)) (m ((c.tc : Thread nD τ).loc main_arg1)) (m ((c.tc : Thread nD τ).loc main_arg2)) (((cfg0.win 4).blk t).view.emb y) := by
  obtain ⟨i, n, rfl⟩ : ∃ i n, y = ix2 i n := ⟨y 0, y 1, eq_ix2 y⟩
  have := tile t
  have en : ((cfg0.win 4).blk t).view.emb (ix2 i n) = ix2 ⟨t.val * 512 + i.val, by omega⟩ n := by blk_ext [idx t]
  rw [block4, en]
  simp only [e0, e1, e2]
  rfl

theorem final3 (c : Dev nD) : (dats m 0 c).arrAt 3 (cfgs 0).N = arr 0 (by omega) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  exact point3 m c t y
theorem final4 (c : Dev nD) : (dats m 0 c).arrAt 4 (cfgs 0).N = arr 1024 (by omega) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  exact point4 m c t y
end Cert.Kernel3Ideal.Kv
-- ==== Proof.KvRef.lean ====
module

public import proofs.«01_k».proof.Proof.Gen.Reference3Ideal.Run
public import proofs.«01_k».proof.Proof.Kv
public import Idealize.ShloMosaic.Lib.Claim

/-! # The memory's keys and values, the reference's side -/

@[expose] public section
set_option maxRecDepth 16384
noncomputable section
open Idealize.ShloMosaic Idealize.ShloMosaic.TcCoe Idealize.SL.Sem
namespace Cert.Reference3Ideal.Kv
open Cert.Reference3Ideal Cert.Reference3Ideal.Gen Cert.Row

/-- The normalised memory. -/
def rNorm (x : FVec Ideal S8x256x1024 .f32) (w : FVec Ideal S1x1024 .f32) : FVec Ideal S8x256x1024 .f32 :=
  mulf (F := Ideal) (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ w shapeCasts_S1x1024_S1024)))
/-- Its keys and values. -/
def rKv (x : FVec Ideal S8x256x1024 .f32) (W : FVec Ideal S1x1024x2048 .f32) : FVec Ideal S8x256x2048 .f32 :=
  Host.dotGeneral (F := Ideal) dot_S8x256x1024_S1024x2048_S8x256x2048_2_0_01_1_n_n none x (shapeCast _ W shapeCasts_S1x1024x2048_S1024x2048)
/-- The keys, as a matrix. -/
def rK (y : FVec Ideal S8x256x2048 .f32) : FVec Ideal S2048x1024 .f32 :=
  shapeCast _ (extractStridedSlice S8x256x1024 ![0, 0, 0] y slices_S8x256x2048_S8x256x1024_0_0_0) shapeCasts_S8x256x1024_S2048x1024
/-- The values, as a matrix. -/
def rV (y : FVec Ideal S8x256x2048 .f32) : FVec Ideal S2048x1024 .f32 :=
  shapeCast _ (extractStridedSlice S8x256x1024 ![0, 0, 1024] y slices_S8x256x2048_S8x256x1024_0_0_1024) shapeCasts_S8x256x1024_S2048x1024

theorem rNorm_at (x w) (b : Fin 8) (t : Fin 256) (n : Fin 1024) :
    rNorm x w (ix3 b t n) = rms (fun k => x (ix3 b t k)) (fun k => w (ix2 0 k)) n := by
  pointwise [rNorm, rms]
theorem rKv_at (x W) (b : Fin 8) (t : Fin 256) (n : Fin 2048) :
    rKv x W (ix3 b t n) = mm (fun k => x (ix3 b t k)) (fun k n => W (ix3 0 k n)) n := by
  pointwise [rKv, mm]
theorem rK_at (y) (r : Fin 2048) (n : Fin 1024) :
    rK y (ix2 r n) = y (ix3 ⟨r.val / 256, by omega⟩ ⟨r.val % 256, by omega⟩ ⟨0 + n.val, by omega⟩) := by
  pointwise [rK]
  try blk_ext
theorem rV_at (y) (r : Fin 2048) (n : Fin 1024) :
    rV y (ix2 r n) = y (ix3 ⟨r.val / 256, by omega⟩ ⟨r.val % 256, by omega⟩ ⟨1024 + n.val, by omega⟩) := by
  pointwise [rV]
  try blk_ext

theorem keys_eq (x w W) : rK (rKv (rNorm x w) W) = Cert.Kernel3Ideal.Kv.arr 0 (by omega) x w W := by
  funext j
  obtain ⟨r, n, rfl⟩ : ∃ r n, j = ix2 r n := ⟨j 0, j 1, eq_ix2 j⟩
  rw [rK_at, rKv_at]
  simp only [rNorm_at]
  rfl
theorem values_eq (x w W) : rV (rKv (rNorm x w) W) = Cert.Kernel3Ideal.Kv.arr 1024 (by omega) x w W := by
  funext j
  obtain ⟨r, n, rfl⟩ : ∃ r n, j = ix2 r n := ⟨j 0, j 1, eq_ix2 j⟩
  rw [rV_at, rKv_at]
  simp only [rNorm_at]
  rfl
end Cert.Reference3Ideal.Kv
-- ==== Proof.Alg3.lean ====
module

public import proofs.«01_k».proof.Defs
public import proofs.«01_k».proof.Proof.Kv
public import proofs.«01_k».proof.Proof.KvRef
public import Idealize.ShloMosaic.Lib.Claim

/-! # Claim 3: the memory's keys and values, kernel and reference -/

@[expose] public section
set_option maxRecDepth 16384
open Idealize.ShloMosaic Idealize.ShloMosaic.TcCoe Idealize.SL.Sem
namespace Cert.Proof

set_option maxHeartbeats 2000000 in
theorem algebraic3 : Cert.algebraic_Kernel3Ideal_Reference3Ideal := by
  pair_intro
  · run_from Cert.Kernel3Ideal.Gen.run_main m g
  · refine Idealize.ShloMosaic.θ_run_mono (Cert.Reference3Ideal.Value.run m' g') fun r hr c => ?_
    obtain ⟨h0, h1, ha⟩ := hr c
    obtain ⟨e0, e1, e2⟩ := hagree c
    refine ⟨h0.trans ?_, h1.trans ?_, ha⟩
    · refine (Cert.Reference3Ideal.Kv.keys_eq (m' (c.tc.loc Cert.Reference3Ideal.main_arg0)) (m' (c.tc.loc Cert.Reference3Ideal.main_arg1)) (m' (c.tc.loc Cert.Reference3Ideal.main_arg2))).trans ?_
      rw [e0, e1, e2]
      exact (Cert.Kernel3Ideal.Kv.final3 m c).symm
    · refine (Cert.Reference3Ideal.Kv.values_eq (m' (c.tc.loc Cert.Reference3Ideal.main_arg0)) (m' (c.tc.loc Cert.Reference3Ideal.main_arg1)) (m' (c.tc.loc Cert.Reference3Ideal.main_arg2))).trans ?_
      rw [e0, e1, e2]
      exact (Cert.Kernel3Ideal.Kv.final4 m c).symm
end Cert.Proof
-- ==== Proof.ProjSample.lean ====
module

public import proofs.«01_k».proof.Proof.Gen.Kernel4Ideal.Frame
public import proofs.«01_k».proof.Proof.Finite
public import Idealize.ShloMosaic.Lib.Claim

/-! # The mixer's input projection, sample batch: the kernel's side

Each grid point normalises its rows once and multiplies them by the weights, 512 columns at a time. -/

@[expose] public section
set_option maxRecDepth 16384
noncomputable section
open Idealize.ShloMosaic Idealize.ShloMosaic.TcCoe Idealize.SL.Sem
open Idealize.ShloMosaic.Pipeline (Dat)
namespace Cert.Kernel4Ideal.Proj
open Cert.Kernel4Ideal Cert.Kernel4Ideal.Gen Cert.Row

theorem pay1_at (v0 v2) (i : Fin 128) (n : Fin 1024) :
    k0_pay1 (F := Ideal) v0 v2 (ix2 i n) = rms (fun k => v0 (ix2 i k)) (fun k => v2 (ix2 0 k)) n := by
  pointwise [k0_pay1, rms]
theorem pay2_at (v0 v2) (i : Fin 128) (n : Fin 1024) :
    k0_pay2 (F := Ideal) v0 v2 (ix2 i n) = rms (fun k => v0 (ix2 i k)) (fun k => v2 (ix2 0 k)) n := by
  pointwise [k0_pay2]
  simp only [pay1_at]
theorem rows_at (x0 x1 x2 x3) (i : Fin 128) (n : Fin 1024) :
    k0_pay11 (F := Ideal) x0 x1 x2 x3 (ix2 i n) = rms (fun k => x0 (ix2 i k)) (fun k => x1 (ix2 0 k)) n := by
  have h0 : View.ld x0 r0_0 = x0 := by frame_out
  have h1 : View.ld x1 r0_1 = x1 := by frame_out
  unfold k0_pay11
  rw [h0, h1, pay2_at]

/-- The two-part product of the first 512 columns. -/
theorem pay3_at (v0 v2) (a b d : Vec Ideal S1024x512 .bf16) (i : Fin 128) (j : Fin 512) :
    k0_pay3 (F := Ideal) v0 v2 a b d (ix2 i j)
      = (∑ k, rms (fun k => v0 (ix2 i k)) (fun k => v2 (ix2 0 k)) k * a (ix2 k j))
        + ((∑ k, (rms (fun k => v0 (ix2 i k)) (fun k => v2 (ix2 0 k)) k - rms (fun k => v0 (ix2 i k)) (fun k => v2 (ix2 0 k)) k) * b (ix2 k j))
          + ∑ k, rms (fun k => v0 (ix2 i k)) (fun k => v2 (ix2 0 k)) k * d (ix2 k j)) := by
  pointwise [k0_pay3]
  simp only [pay1_at, pay2_at]
theorem pay4_at (v0 v2) (a : Vec Ideal S1024x512 .bf16) (i : Fin 128) (j : Fin 512) :
    k0_pay4 (F := Ideal) v0 v2 a (ix2 i j) = mm (rms (fun k => v0 (ix2 i k)) (fun k => v2 (ix2 0 k))) (fun k n => a (ix2 k n)) j := by
  pointwise [k0_pay4, mm]
  simp only [pay2_at]
theorem pay5_at (v : FVec Ideal S128x1024 .bf16) (a : Vec Ideal S1024x512 .bf16) (i : Fin 128) (j : Fin 512) :
    k0_pay5 (F := Ideal) v a (ix2 i j) = mm (fun k => v (ix2 i k)) (fun k n => a (ix2 k n)) j := by
  pointwise [k0_pay5, mm]
theorem pay6_at (v : FVec Ideal S128x1024 .bf16) (a : Vec Ideal S1024x512 .bf16) (i : Fin 128) (j : Fin 512) :
    k0_pay6 (F := Ideal) v a (ix2 i j) = mm (fun k => v (ix2 i k)) (fun k n => a (ix2 k n)) j := by
  pointwise [k0_pay6, mm]
theorem pay7_at (v : FVec Ideal S128x1024 .bf16) (a : Vec Ideal S1024x512 .bf16) (i : Fin 128) (j : Fin 512) :
    k0_pay7 (F := Ideal) v a (ix2 i j) = mm (fun k => v (ix2 i k)) (fun k n => a (ix2 k n)) j := by
  pointwise [k0_pay7, mm]
theorem pay8_at (v : FVec Ideal S128x1024 .bf16) (a : Vec Ideal S1024x512 .bf16) (i : Fin 128) (j : Fin 512) :
    k0_pay8 (F := Ideal) v a (ix2 i j) = mm (fun k => v (ix2 i k)) (fun k n => a (ix2 k n)) j := by
  pointwise [k0_pay8, mm]
theorem pay9_at (v : FVec Ideal S128x1024 .bf16) (a : Vec Ideal S1024x512 .bf16) (i : Fin 128) (j : Fin 512) :
    k0_pay9 (F := Ideal) v a (ix2 i j) = mm (fun k => v (ix2 i k)) (fun k n => a (ix2 k n)) j := by
  pointwise [k0_pay9, mm]
theorem pay10_at (v : FVec Ideal S128x1024 .bf16) (a : Vec Ideal S1024x128 .bf16) (i : Fin 128) (j : Fin 128) :
    k0_pay10 (F := Ideal) v a (ix2 i j) = mm (fun k => v (ix2 i k)) (fun k n => a (ix2 k n)) j := by
  pointwise [k0_pay10, mm]

theorem ld2 (x : Vec Ideal S1024x3712 .bf16) (k : Fin 1024) (n : Fin 512) : View.ld x r0_2 (ix2 k n) = x (ix2 k ⟨n, by omega⟩) := by
  pointwise; blk_ext
theorem ld5 (x : Vec Ideal S1024x3712 .bf16) (k : Fin 1024) (n : Fin 512) : View.ld x r0_5 (ix2 k n) = x (ix2 k ⟨512 + n, by omega⟩) := by
  pointwise; blk_ext
theorem ld6 (x : Vec Ideal S1024x3712 .bf16) (k : Fin 1024) (n : Fin 512) : View.ld x r0_6 (ix2 k n) = x (ix2 k ⟨1024 + n, by omega⟩) := by
  pointwise; blk_ext
theorem ld7 (x : Vec Ideal S1024x3712 .bf16) (k : Fin 1024) (n : Fin 512) : View.ld x r0_7 (ix2 k n) = x (ix2 k ⟨1536 + n, by omega⟩) := by
  pointwise; blk_ext
theorem ld9 (x : Vec Ideal S1024x3712 .bf16) (k : Fin 1024) (n : Fin 512) : View.ld x r0_9 (ix2 k n) = x (ix2 k ⟨2048 + n, by omega⟩) := by
  pointwise; blk_ext
theorem ld11 (x : Vec Ideal S1024x3712 .bf16) (k : Fin 1024) (n : Fin 512) : View.ld x r0_11 (ix2 k n) = x (ix2 k ⟨2560 + n, by omega⟩) := by
  pointwise; blk_ext
theorem ld13 (x : Vec Ideal S1024x3712 .bf16) (k : Fin 1024) (n : Fin 512) : View.ld x r0_13 (ix2 k n) = x (ix2 k ⟨3072 + n, by omega⟩) := by
  pointwise; blk_ext
theorem ld14 (x : Vec Ideal S1024x3712 .bf16) (k : Fin 1024) (n : Fin 128) : View.ld x r0_14 (ix2 k n) = x (ix2 k ⟨3584 + n, by omega⟩) := by
  pointwise; blk_ext

theorem cols5 (x0 : Vec Ideal S128x1024 .f32) (x1 : Vec Ideal S1x1024 .f32) (x2 : Vec Ideal S1024x3712 .bf16) (x3 : Vec Ideal S1024x512 .bf16) (i : Fin 128) (j : Fin 512) :
    k0_pay5 (F := Ideal) (k0_pay11 x0 x1 x2 x3) (View.ld x2 r0_6) (ix2 i j) = mm (rms (fun k => x0 (ix2 i k)) (fun k => x1 (ix2 0 k))) (fun k n => x2 (ix2 k n)) ⟨1024 + j, by omega⟩ := by
  rw [pay5_at]
  exact Finset.sum_congr rfl fun k _ => congrArg₂ (· * ·) (rows_at x0 x1 x2 x3 i k) (ld6 x2 k j)
theorem cols6 (x0 : Vec Ideal S128x1024 .f32) (x1 : Vec Ideal S1x1024 .f32) (x2 : Vec Ideal S1024x3712 .bf16) (x3 : Vec Ideal S1024x512 .bf16) (i : Fin 128) (j : Fin 512) :
    k0_pay6 (F := Ideal) (k0_pay11 x0 x1 x2 x3) (View.ld x2 r0_7) (ix2 i j) = mm (rms (fun k => x0 (ix2 i k)) (fun k => x1 (ix2 0 k))) (fun k n => x2 (ix2 k n)) ⟨1536 + j, by omega⟩ := by
  rw [pay6_at]
  exact Finset.sum_congr rfl fun k _ => congrArg₂ (· * ·) (rows_at x0 x1 x2 x3 i k) (ld7 x2 k j)
theorem cols7 (x0 : Vec Ideal S128x1024 .f32) (x1 : Vec Ideal S1x1024 .f32) (x2 : Vec Ideal S1024x3712 .bf16) (x3 : Vec Ideal S1024x512 .bf16) (i : Fin 128) (j : Fin 512) :
    k0_pay7 (F := Ideal) (k0_pay11 x0 x1 x2 x3) (View.ld x2 r0_9) (ix2 i j) = mm (rms (fun k => x0 (ix2 i k)) (fun k => x1 (ix2 0 k))) (fun k n => x2 (ix2 k n)) ⟨2048 + j, by omega⟩ := by
  rw [pay7_at]
  exact Finset.sum_congr rfl fun k _ => congrArg₂ (· * ·) (rows_at x0 x1 x2 x3 i k) (ld9 x2 k j)
theorem cols8 (x0 : Vec Ideal S128x1024 .f32) (x1 : Vec Ideal S1x1024 .f32) (x2 : Vec Ideal S1024x3712 .bf16) (x3 : Vec Ideal S1024x512 .bf16) (i : Fin 128) (j : Fin 512) :
    k0_pay8 (F := Ideal) (k0_pay11 x0 x1 x2 x3) (View.ld x2 r0_11) (ix2 i j) = mm (rms (fun k => x0 (ix2 i k)) (fun k => x1 (ix2 0 k))) (fun k n => x2 (ix2 k n)) ⟨2560 + j, by omega⟩ := by
  rw [pay8_at]
  exact Finset.sum_congr rfl fun k _ => congrArg₂ (· * ·) (rows_at x0 x1 x2 x3 i k) (ld11 x2 k j)
theorem cols9 (x0 : Vec Ideal S128x1024 .f32) (x1 : Vec Ideal S1x1024 .f32) (x2 : Vec Ideal S1024x3712 .bf16) (x3 : Vec Ideal S1024x512 .bf16) (i : Fin 128) (j : Fin 512) :
    k0_pay9 (F := Ideal) (k0_pay11 x0 x1 x2 x3) (View.ld x2 r0_13) (ix2 i j) = mm (rms (fun k => x0 (ix2 i k)) (fun k => x1 (ix2 0 k))) (fun k n => x2 (ix2 k n)) ⟨3072 + j, by omega⟩ := by
  rw [pay9_at]
  exact Finset.sum_congr rfl fun k _ => congrArg₂ (· * ·) (rows_at x0 x1 x2 x3 i k) (ld13 x2 k j)
theorem cols10 (x0 : Vec Ideal S128x1024 .f32) (x1 : Vec Ideal S1x1024 .f32) (x2 : Vec Ideal S1024x3712 .bf16) (x3 : Vec Ideal S1024x512 .bf16) (i : Fin 128) (j : Fin 128) :
    k0_pay10 (F := Ideal) (k0_pay11 x0 x1 x2 x3) (View.ld x2 r0_14) (ix2 i j) = mm (rms (fun k => x0 (ix2 i k)) (fun k => x1 (ix2 0 k))) (fun k n => x2 (ix2 k n)) ⟨3584 + j, by omega⟩ := by
  rw [pay10_at]
  exact Finset.sum_congr rfl fun k _ => congrArg₂ (· * ·) (rows_at x0 x1 x2 x3 i k) (ld14 x2 k j)

theorem block4 (x0 : Vec Ideal S128x1024 .f32) (x1 : Vec Ideal S1x1024 .f32) (x2 : Vec Ideal S1024x3712 .bf16) (x3 : Vec Ideal S1024x512 .bf16) (i : Fin 128) (j : Fin 512) :
    out0_4 (F := Ideal) x0 x1 x2 x3 (ix2 i j)
      = (∑ k, (rms (fun k => x0 (ix2 i k)) (fun k => x1 (ix2 0 k))) k * x2 (ix2 k ⟨j, by omega⟩))
        + ((∑ k, ((rms (fun k => x0 (ix2 i k)) (fun k => x1 (ix2 0 k))) k - (rms (fun k => x0 (ix2 i k)) (fun k => x1 (ix2 0 k))) k) * x2 (ix2 k ⟨j, by omega⟩)) + ∑ k, (rms (fun k => x0 (ix2 i k)) (fun k => x1 (ix2 0 k))) k * x3 (ix2 k j)) := by
  unfold out0_4
  frame_out
  rw [pay3_at]
  exact congrArg₂ (· + ·) (Finset.sum_congr rfl fun k _ => congrArg (_ * ·) (ld2 x2 k j))
    (congrArg (· + _) (Finset.sum_congr rfl fun k _ => congrArg (_ * ·) (ld2 x2 k j)))
theorem block5 (x0 : Vec Ideal S128x1024 .f32) (x1 : Vec Ideal S1x1024 .f32) (x2 : Vec Ideal S1024x3712 .bf16) (x3 : Vec Ideal S1024x512 .bf16) (i : Fin 128) (j : Fin 512) :
    out0_5 (F := Ideal) x0 x1 x2 x3 (ix2 i j) = mm (rms (fun k => x0 (ix2 i k)) (fun k => x1 (ix2 0 k))) (fun k n => x2 (ix2 k n)) ⟨512 + j, by omega⟩ := by
  unfold out0_5
  frame_out
  rw [pay4_at]
  exact Finset.sum_congr rfl fun k _ => congrArg (_ * ·) (ld5 x2 k j)
theorem block6 (x0 : Vec Ideal S128x1024 .f32) (x1 : Vec Ideal S1x1024 .f32) (x2 : Vec Ideal S1024x3712 .bf16) (x3 : Vec Ideal S1024x512 .bf16) (i : Fin 128) (j : Fin 512) :
    out0_6 (F := Ideal) x0 x1 x2 x3 (ix2 i j) = mm (rms (fun k => x0 (ix2 i k)) (fun k => x1 (ix2 0 k))) (fun k n => x2 (ix2 k n)) ⟨1024 + j, by omega⟩ := by
  unfold out0_6
  frame_out
  exact cols5 x0 x1 x2 x3 i j
theorem block8 (x0 : Vec Ideal S128x1024 .f32) (x1 : Vec Ideal S1x1024 .f32) (x2 : Vec Ideal S1024x3712 .bf16) (x3 : Vec Ideal S1024x512 .bf16) (i : Fin 128) (j : Fin 512) :
    out0_8 (F := Ideal) x0 x1 x2 x3 (ix2 i j) = mm (rms (fun k => x0 (ix2 i k)) (fun k => x1 (ix2 0 k))) (fun k n => x2 (ix2 k n)) ⟨3072 + j, by omega⟩ := by
  unfold out0_8
  frame_out
  exact cols9 x0 x1 x2 x3 i j
theorem block9 (x0 : Vec Ideal S128x1024 .f32) (x1 : Vec Ideal S1x1024 .f32) (x2 : Vec Ideal S1024x3712 .bf16) (x3 : Vec Ideal S1024x512 .bf16) (i : Fin 128) (j : Fin 128) :
    out0_9 (F := Ideal) x0 x1 x2 x3 (ix2 i j) = mm (rms (fun k => x0 (ix2 i k)) (fun k => x1 (ix2 0 k))) (fun k n => x2 (ix2 k n)) ⟨3584 + j, by omega⟩ := by
  unfold out0_9
  frame_out
  exact cols10 x0 x1 x2 x3 i j
theorem block7 (x0 : Vec Ideal S128x1024 .f32) (x1 : Vec Ideal S1x1024 .f32) (x2 : Vec Ideal S1024x3712 .bf16) (x3 : Vec Ideal S1024x512 .bf16) (i : Fin 128) (n : Fin 1536) :
    out0_7 (F := Ideal) x0 x1 x2 x3 (ix2 i n) = mm (rms (fun k => x0 (ix2 i k)) (fun k => x1 (ix2 0 k))) (fun k n => x2 (ix2 k n)) ⟨1536 + n, by omega⟩ := by
  unfold out0_7
  generalize hy : (ix2 i n : S128x1536.Idx) = y
  canon_tiles x g
  case piece0 =>
    obtain ⟨i', n', rfl⟩ : ∃ d n, x = ix2 d n := ⟨x 0, x 1, by blk_ext⟩
    obtain rfl : i = i' := Fin.ext (by subst hy; simpa using g0)
    have hn : n.val = 1024 + n'.val := by subst hy; simpa using g1
    rw [cols8]
    refine congrArg (mm _ _) (Fin.ext ?_)
    dsimp only
    omega
  case piece1 =>
    obtain ⟨i', n', rfl⟩ : ∃ d n, x = ix2 d n := ⟨x 0, x 1, by blk_ext⟩
    obtain rfl : i = i' := Fin.ext (by subst hy; simpa using g0)
    have hn : n.val = 512 + n'.val := by subst hy; simpa using g1
    rw [cols7]
    refine congrArg (mm _ _) (Fin.ext ?_)
    dsimp only
    omega
  case piece2 =>
    obtain ⟨i', n', rfl⟩ : ∃ d n, x = ix2 d n := ⟨x 0, x 1, by blk_ext⟩
    obtain rfl : i = i' := Fin.ext (by subst hy; simpa using g0)
    have hn : n.val = n'.val := by subst hy; simpa using g1
    rw [cols6]
    refine congrArg (mm _ _) (Fin.ext ?_)
    dsimp only
    omega

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

/-- Column `o + n` of the projection of row `r`. -/
def projAt (o b : ℕ) (h : o + b ≤ 3712) (x : Vec Ideal S128x1x1024 .f32) (w : Vec Ideal S1x1024 .f32) (W : Vec Ideal S1x1024x3592 .f32) (r : Fin 128) (n : Fin b) : EReal :=
  mm (rms (fun k => x (ix3 r 0 k)) (fun k => w (ix2 0 k))) (wide W) ⟨o + n.val, by omega⟩
/-- The `b` columns from `o` of the projection. -/
def proj (o b : ℕ) (h : o + b ≤ 3712) (x : Vec Ideal S128x1x1024 .f32) (w : Vec Ideal S1x1024 .f32) (W : Vec Ideal S1x1024x3592 .f32) : Vec Ideal ⟨2, ![128, b]⟩ .f32 :=
  fun j => projAt o b h x w W (j 0) (j 1)

/-- The padded weights as the program builds them. -/
abbrev padded (X : Vec Ideal S1x1024x3592 .f32) : Vec Ideal S1024x3712 .f32 :=
  pad S1024x3712 ![0, 0] ![0, 120] ![0, 0] (shapeCast S1024x3592 X shapeCasts_S1x1024x3592_S1024x3592) (sitofp (F := Ideal) .f32 (constantI S_ 32 0#32)) pads_S1024x3592_S1024x3712_000_01200 h_S_

theorem padded_at (X : Vec Ideal S1x1024x3592 .f32) (k : Fin 1024) (n : Fin 3712) : padded X (ix2 k n) = wide X k n := by
  have hz : (FloatOps.sitofp FTy.f32 0#32 : Ideal .f32) = 0 := by simp [FloatOps.sitofp]
  unfold padded wide
  by_cases h : n.val < 3592
  · rw [dif_pos h]
    obtain ⟨n, hn⟩ := n
    pointwise
    exact dif_pos h
  · rw [dif_neg h]
    obtain ⟨n, hn⟩ := n
    pointwise
    exact (dif_neg h).trans hz

theorem v2_at (c : Dev nD) (k : Fin 1024) (n : Fin 3712) :
    (V m c main_v2 : Vec Ideal S1024x3712 .bf16) (ix2 k n) = wide (m ((c.tc : Thread nD τ).loc main_arg2)) k n := by
  have hv : (V m c main_v2 : Vec Ideal S1024x3712 .bf16) = truncf (F := Ideal) .bf16 (padded (m ((c.tc : Thread nD τ).loc main_arg2))) bitsLt_bf16_f32 := by
    entry_read; rfl
  exact (congrFun hv _).trans (padded_at _ k n)

/-- The low halves of the first 512 columns. -/
abbrev low (P : Vec Ideal S1024x3712 .f32) : Vec Ideal S1024x512 .bf16 :=
  truncf (F := Ideal) .bf16 (subf (extractStridedSlice S1024x512 ![0, 0] P slices_S1024x3712_S1024x512_0_0)
    (extf .f32 (extractStridedSlice S1024x512 ![0, 0] (truncf (F := Ideal) .bf16 P bitsLt_bf16_f32) slices_S1024x3712_S1024x512_0_0) bitsLt_bf16_f32)) bitsLt_bf16_f32
theorem low_at (P : Vec Ideal S1024x3712 .f32) (k : Fin 1024) (n : Fin 512) : low P (ix2 k n) = P (ix2 k ⟨n, by omega⟩) - P (ix2 k ⟨n, by omega⟩) := by
  unfold low
  pointwise
  try blk_ext
theorem v7_at (c : Dev nD) (k : Fin 1024) (n : Fin 512) :
    (V m c main_v7 : Vec Ideal S1024x512 .bf16) (ix2 k n)
      = wide (m ((c.tc : Thread nD τ).loc main_arg2)) k ⟨n, by omega⟩ - wide (m ((c.tc : Thread nD τ).loc main_arg2)) k ⟨n, by omega⟩ := by
  have hv : (V m c main_v7 : Vec Ideal S1024x512 .bf16) = low (padded (m ((c.tc : Thread nD τ).loc main_arg2))) := by
    entry_read; rfl
  exact (congrFun hv _).trans ((low_at _ k n).trans (congrArg (fun a => a - a) (padded_at _ k _)))

theorem v8_read (X : Vec Ideal S128x1x1024 .f32) (r : Fin 128) (k : Fin 1024) : (shapeCast S128x1024 X shapeCasts_S128x1x1024_S128x1024) (ix2 r k) = X (ix3 r 0 k) := by
  pointwise
theorem v8_at (c : Dev nD) (r : Fin 128) (k : Fin 1024) :
    (V m c main_v8 : Vec Ideal S128x1024 .f32) (ix2 r k) = (m ((c.tc : Thread nD τ).loc main_arg0) : Vec Ideal S128x1x1024 .f32) (ix3 r 0 k) := by
  have hv : (V m c main_v8 : Vec Ideal S128x1024 .f32) = shapeCast S128x1024 (m ((c.tc : Thread nD τ).loc main_arg0) : Vec Ideal S128x1x1024 .f32) shapeCasts_S128x1x1024_S128x1024 := by
    entry_read; rfl
  exact (congrFun hv _).trans (v8_read _ r k)

theorem v10_read (X : Vec Ideal S1x1024 .f32) (k : Fin 1024) : (shapeCast S1x1024 (shapeCast S1024 X shapeCasts_S1x1024_S1024) shapeCasts_S1024_S1x1024) (ix2 0 k) = X (ix2 0 k) := by
  pointwise
theorem v10_at (c : Dev nD) (k : Fin 1024) :
    (V m c main_v10 : Vec Ideal S1x1024 .f32) (ix2 0 k) = (m ((c.tc : Thread nD τ).loc main_arg1) : Vec Ideal S1x1024 .f32) (ix2 0 k) := by
  have hv : (V m c main_v10 : Vec Ideal S1x1024 .f32) = shapeCast S1x1024 (shapeCast S1024 (m ((c.tc : Thread nD τ).loc main_arg1) : Vec Ideal S1x1024 .f32) shapeCasts_S1x1024_S1024) shapeCasts_S1024_S1x1024 := by
    entry_read; rfl
  exact (congrFun hv _).trans (v10_read _ k)

theorem e0 (c : Dev nD) (t : Fin cfg0.N) (i : Fin 128) (k : Fin 1024) : iblk m c 0 t (ix2 i k) = (m ((c.tc : Thread nD τ).loc main_arg0) : Vec Ideal S128x1x1024 .f32) (ix3 i 0 k) := by
  blk_simp [iblk]
  refine Eq.trans (congrArg (V m c main_v8) ?_) (v8_at m c i k)
  blk_ext [idx t]
theorem e1 (c : Dev nD) (t : Fin cfg0.N) (k : Fin 1024) : iblk m c 1 t (ix2 0 k) = (m ((c.tc : Thread nD τ).loc main_arg1) : Vec Ideal S1x1024 .f32) (ix2 0 k) := by
  blk_simp [iblk]
  refine Eq.trans (congrArg (V m c main_v10) ?_) (v10_at m c k)
  blk_ext [idx t]
theorem e2 (c : Dev nD) (t : Fin cfg0.N) (k : Fin 1024) (n : Fin 3712) : iblk m c 2 t (ix2 k n) = wide (m ((c.tc : Thread nD τ).loc main_arg2)) k n := by
  blk_simp [iblk]
  refine Eq.trans (congrArg (V m c main_v2) ?_) (v2_at m c k n)
  blk_ext [idx t]
theorem e3 (c : Dev nD) (t : Fin cfg0.N) (k : Fin 1024) (n : Fin 512) : iblk m c 3 t (ix2 k n)
    = wide (m ((c.tc : Thread nD τ).loc main_arg2)) k ⟨n, by omega⟩ - wide (m ((c.tc : Thread nD τ).loc main_arg2)) k ⟨n, by omega⟩ := by
  blk_simp [iblk]
  refine Eq.trans (congrArg (V m c main_v7) ?_) (v7_at m c k n)
  blk_ext [idx t]

/-- The weights of the normalisation and of the projection are finite. -/
def Weights (c : Dev nD) : Prop :=
  (∀ k, IsNum ((m ((c.tc : Thread nD τ).loc main_arg1) : Vec Ideal S1x1024 .f32) k)) ∧ ∀ k, IsNum ((m ((c.tc : Thread nD τ).loc main_arg2) : Vec Ideal S1x1024x3592 .f32) k)

theorem point4 (c : Dev nD) (hw : Weights m c) (t : Fin cfg0.N) (y : S128x512.Idx) :
    out0_4 (F := Ideal) (iblk m c 0 t) (iblk m c 1 t) (iblk m c 2 t) (iblk m c 3 t) y
      = proj 0 512 (by omega) (m ((c.tc : Thread nD τ).loc main_arg0)) (m ((c.tc : Thread nD τ).loc main_arg1)) (m ((c.tc : Thread nD τ).loc main_arg2)) (((cfg0.win 4).blk t).view.emb y) := by
  obtain ⟨i, n, rfl⟩ : ∃ i n, y = ix2 i n := ⟨y 0, y 1, eq_ix2 y⟩
  have en : ((cfg0.win 4).blk t).view.emb (ix2 i n) = ix2 i n := by blk_ext [idx t]
  rw [block4, en]
  simp only [e0, e1, e2, e3]
  exact (split_mm _ (wide _) ⟨n.val, by omega⟩ (fun k => rms_real _ _ k (hw.1 _)) (fun k => wide_num _ hw.2 k _)).trans (congrArg (mm _ _) (Fin.ext (Nat.zero_add _).symm))
theorem final4 (c : Dev nD) (hw : Weights m c) : (dats m 0 c).arrAt 4 (cfgs 0).N = proj 0 512 (by omega) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  exact point4 m c hw t y

theorem point5 (c : Dev nD) (t : Fin cfg0.N) (y : S128x512.Idx) :
    out0_5 (F := Ideal) (iblk m c 0 t) (iblk m c 1 t) (iblk m c 2 t) (iblk m c 3 t) y
      = proj 512 512 (by omega) (m ((c.tc : Thread nD τ).loc main_arg0)) (m ((c.tc : Thread nD τ).loc main_arg1)) (m ((c.tc : Thread nD τ).loc main_arg2)) (((cfg0.win 5).blk t).view.emb y) := by
  obtain ⟨i, n, rfl⟩ : ∃ i n, y = ix2 i n := ⟨y 0, y 1, eq_ix2 y⟩
  have en : ((cfg0.win 5).blk t).view.emb (ix2 i n) = ix2 i n := by blk_ext [idx t]
  rw [block5, en]
  simp only [e0, e1, e2]
  rfl
theorem final5 (c : Dev nD) : (dats m 0 c).arrAt 5 (cfgs 0).N = proj 512 512 (by omega) (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]
  exact point5 m c t y

theorem point6 (c : Dev nD) (t : Fin cfg0.N) (y : S128x512.Idx) :
    out0_6 (F := Ideal) (iblk m c 0 t) (iblk m c 1 t) (iblk m c 2 t) (iblk m c 3 t) y
      = proj 1024 512 (by omega) (m ((c.tc : Thread nD τ).loc main_arg0)) (m ((c.tc : Thread nD τ).loc main_arg1)) (m ((c.tc : Thread nD τ).loc main_arg2)) (((cfg0.win 6).blk t).view.emb y) := by
  obtain ⟨i, n, rfl⟩ : ∃ i n, y = ix2 i n := ⟨y 0, y 1, eq_ix2 y⟩
  have en : ((cfg0.win 6).blk t).view.emb (ix2 i n) = ix2 i n := by blk_ext [idx t]
  rw [block6, en]
  simp only [e0, e1, e2]
  rfl
theorem final6 (c : Dev nD) : (dats m 0 c).arrAt 6 (cfgs 0).N = proj 1024 512 (by omega) (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6]
  exact point6 m c t y

theorem point7 (c : Dev nD) (t : Fin cfg0.N) (y : S128x1536.Idx) :
    out0_7 (F := Ideal) (iblk m c 0 t) (iblk m c 1 t) (iblk m c 2 t) (iblk m c 3 t) y
      = proj 1536 1536 (by omega) (m ((c.tc : Thread nD τ).loc main_arg0)) (m ((c.tc : Thread nD τ).loc main_arg1)) (m ((c.tc : Thread nD τ).loc main_arg2)) (((cfg0.win 7).blk t).view.emb y) := by
  obtain ⟨i, n, rfl⟩ : ∃ i n, y = ix2 i n := ⟨y 0, y 1, eq_ix2 y⟩
  have en : ((cfg0.win 7).blk t).view.emb (ix2 i n) = ix2 i n := by blk_ext [idx t]
  rw [block7, en]
  simp only [e0, e1, e2]
  rfl
theorem final7 (c : Dev nD) : (dats m 0 c).arrAt 7 (cfgs 0).N = proj 1536 1536 (by omega) (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  blk_simp
  rw [after0_7]
  exact point7 m c t y

theorem point8 (c : Dev nD) (t : Fin cfg0.N) (y : S128x512.Idx) :
    out0_8 (F := Ideal) (iblk m c 0 t) (iblk m c 1 t) (iblk m c 2 t) (iblk m c 3 t) y
      = proj 3072 512 (by omega) (m ((c.tc : Thread nD τ).loc main_arg0)) (m ((c.tc : Thread nD τ).loc main_arg1)) (m ((c.tc : Thread nD τ).loc main_arg2)) (((cfg0.win 8).blk t).view.emb y) := by
  obtain ⟨i, n, rfl⟩ : ∃ i n, y = ix2 i n := ⟨y 0, y 1, eq_ix2 y⟩
  have en : ((cfg0.win 8).blk t).view.emb (ix2 i n) = ix2 i n := by blk_ext [idx t]
  rw [block8, en]
  simp only [e0, e1, e2]
  rfl
theorem final8 (c : Dev nD) : (dats m 0 c).arrAt 8 (cfgs 0).N = proj 3072 512 (by omega) (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  blk_simp
  rw [after0_8]
  exact point8 m c t y

theorem point9 (c : Dev nD) (t : Fin cfg0.N) (y : S128x128.Idx) :
    out0_9 (F := Ideal) (iblk m c 0 t) (iblk m c 1 t) (iblk m c 2 t) (iblk m c 3 t) y
      = proj 3584 128 (by omega) (m ((c.tc : Thread nD τ).loc main_arg0)) (m ((c.tc : Thread nD τ).loc main_arg1)) (m ((c.tc : Thread nD τ).loc main_arg2)) (((cfg0.win 9).blk t).view.emb y) := by
  obtain ⟨i, n, rfl⟩ : ∃ i n, y = ix2 i n := ⟨y 0, y 1, eq_ix2 y⟩
  have en : ((cfg0.win 9).blk t).view.emb (ix2 i n) = ix2 i n := by blk_ext [idx t]
  rw [block9, en]
  simp only [e0, e1, e2]
  rfl
theorem final9 (c : Dev nD) : (dats m 0 c).arrAt 9 (cfgs 0).N = proj 3584 128 (by omega) (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]
  exact point9 m c t y

end Cert.Kernel4Ideal.Proj
-- ==== Proof.ProjSampleRef.lean ====
module

public import proofs.«01_k».proof.Proof.Gen.Reference4Ideal.Run
public import proofs.«01_k».proof.Proof.ProjSample
public import Idealize.ShloMosaic.Lib.Claim

/-! # The mixer's input projection of the sample batch, the reference's side -/

@[expose] public section
set_option maxRecDepth 16384
noncomputable section
open Idealize.ShloMosaic Idealize.ShloMosaic.TcCoe Idealize.SL.Sem
namespace Cert.Reference4Ideal.Proj
open Cert.Reference4Ideal Cert.Reference4Ideal.Gen Cert.Row

/-- The normalised rows. -/
def rNorm (x : FVec Ideal S128x1x1024 .f32) (w : FVec Ideal S1x1024 .f32) : FVec Ideal S128x1x1024 .f32 :=
  mulf (F := Ideal) (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ w shapeCasts_S1x1024_S1024)))
/-- Their projection. -/
def rProj (x : FVec Ideal S128x1x1024 .f32) (W : FVec Ideal S1x1024x3592 .f32) : FVec Ideal S128x3592 .f32 :=
  Host.dotGeneral (F := Ideal) dot_S128x1024_S1024x3592_S128x3592_1_0_0_1_n_n none (shapeCast _ x shapeCasts_S128x1x1024_S128x1024) (shapeCast _ W shapeCasts_S1x1024x3592_S1024x3592)
/-- The last eight columns, with 120 zero columns added. -/
def rGates (y : FVec Ideal S128x3592 .f32) : FVec Ideal S128x128 .f32 :=
  pad S128x128 ![0, 0] ![0, 120] ![0, 0] (extractStridedSlice S128x8 ![0, 3584] y slices_S128x3592_S128x8_0_3584) (sitofp (F := Ideal) .f32 (constantI S_ 32 0#32)) pads_S128x8_S128x128_000_01200 h_S_

theorem rNorm_at (x w) (r : Fin 128) (n : Fin 1024) : rNorm x w (ix3 r 0 n) = rms (fun k => x (ix3 r 0 k)) (fun k => w (ix2 0 k)) n := by
  pointwise [rNorm, rms]
theorem rProj_at (x W) (r : Fin 128) (n : Fin 3592) : rProj x W (ix2 r n) = mm (fun k => x (ix3 r 0 k)) (fun k n => W (ix3 0 k n)) n := by
  pointwise [rProj, mm]
/-- A column of the reference's projection is a column of the kernel's. -/
theorem col (x w W) (r : Fin 128) (n : Fin 3592) :
    rProj (rNorm x w) W (ix2 r n) = mm (rms (fun k => x (ix3 r 0 k)) (fun k => w (ix2 0 k))) (wide W) ⟨n, by omega⟩ := by
  rw [rProj_at, mm_wide _ _ _ n.isLt]
  simp only [rNorm_at]

theorem slice0_at (y : FVec Ideal S128x3592 .f32) (r : Fin 128) (n : Fin 512) :
    extractStridedSlice S128x512 ![0, 0] y slices_S128x3592_S128x512_0_0 (ix2 r n) = y (ix2 r ⟨0 + n.val, by omega⟩) := by
  pointwise
  try blk_ext
theorem eq0 (x w W) : extractStridedSlice S128x512 ![0, 0] (rProj (rNorm x w) W) slices_S128x3592_S128x512_0_0 = Cert.Kernel4Ideal.Proj.proj 0 512 (by omega) x w W := by
  funext j
  obtain ⟨r, n, rfl⟩ : ∃ r n, j = ix2 r n := ⟨j 0, j 1, eq_ix2 j⟩
  rw [slice0_at, col]
  rfl
theorem slice512_at (y : FVec Ideal S128x3592 .f32) (r : Fin 128) (n : Fin 512) :
    extractStridedSlice S128x512 ![0, 512] y slices_S128x3592_S128x512_0_512 (ix2 r n) = y (ix2 r ⟨512 + n.val, by omega⟩) := by
  pointwise
  try blk_ext
theorem eq512 (x w W) : extractStridedSlice S128x512 ![0, 512] (rProj (rNorm x w) W) slices_S128x3592_S128x512_0_512 = Cert.Kernel4Ideal.Proj.proj 512 512 (by omega) x w W := by
  funext j
  obtain ⟨r, n, rfl⟩ : ∃ r n, j = ix2 r n := ⟨j 0, j 1, eq_ix2 j⟩
  rw [slice512_at, col]
  rfl
theorem slice1024_at (y : FVec Ideal S128x3592 .f32) (r : Fin 128) (n : Fin 512) :
    extractStridedSlice S128x512 ![0, 1024] y slices_S128x3592_S128x512_0_1024 (ix2 r n) = y (ix2 r ⟨1024 + n.val, by omega⟩) := by
  pointwise
  try blk_ext
theorem eq1024 (x w W) : extractStridedSlice S128x512 ![0, 1024] (rProj (rNorm x w) W) slices_S128x3592_S128x512_0_1024 = Cert.Kernel4Ideal.Proj.proj 1024 512 (by omega) x w W := by
  funext j
  obtain ⟨r, n, rfl⟩ : ∃ r n, j = ix2 r n := ⟨j 0, j 1, eq_ix2 j⟩
  rw [slice1024_at, col]
  rfl
theorem slice1536_at (y : FVec Ideal S128x3592 .f32) (r : Fin 128) (n : Fin 1536) :
    extractStridedSlice S128x1536 ![0, 1536] y slices_S128x3592_S128x1536_0_1536 (ix2 r n) = y (ix2 r ⟨1536 + n.val, by omega⟩) := by
  pointwise
  try blk_ext
theorem eq1536 (x w W) : extractStridedSlice S128x1536 ![0, 1536] (rProj (rNorm x w) W) slices_S128x3592_S128x1536_0_1536 = Cert.Kernel4Ideal.Proj.proj 1536 1536 (by omega) x w W := by
  funext j
  obtain ⟨r, n, rfl⟩ : ∃ r n, j = ix2 r n := ⟨j 0, j 1, eq_ix2 j⟩
  rw [slice1536_at, col]
  rfl
theorem slice3072_at (y : FVec Ideal S128x3592 .f32) (r : Fin 128) (n : Fin 512) :
    extractStridedSlice S128x512 ![0, 3072] y slices_S128x3592_S128x512_0_3072 (ix2 r n) = y (ix2 r ⟨3072 + n.val, by omega⟩) := by
  pointwise
  try blk_ext
theorem eq3072 (x w W) : extractStridedSlice S128x512 ![0, 3072] (rProj (rNorm x w) W) slices_S128x3592_S128x512_0_3072 = Cert.Kernel4Ideal.Proj.proj 3072 512 (by omega) x w W := by
  funext j
  obtain ⟨r, n, rfl⟩ : ∃ r n, j = ix2 r n := ⟨j 0, j 1, eq_ix2 j⟩
  rw [slice3072_at, col]
  rfl

theorem gates_lo (y) (r : Fin 128) (n : Fin 128) (h : n.val < 8) : rGates y (ix2 r n) = y (ix2 r ⟨3584 + n.val, by omega⟩) := by
  unfold rGates
  obtain ⟨n, hn⟩ := n
  pointwise
  exact dif_pos h
theorem gates_hi (y) (r : Fin 128) (n : Fin 128) (h : ¬ n.val < 8) : rGates y (ix2 r n) = 0 := by
  have hz : (FloatOps.sitofp FTy.f32 0#32 : Ideal .f32) = 0 := by simp [FloatOps.sitofp]
  unfold rGates
  obtain ⟨n, hn⟩ := n
  pointwise
  exact (dif_neg h).trans hz
theorem eqGates (x w W) : rGates (rProj (rNorm x w) W) = Cert.Kernel4Ideal.Proj.proj 3584 128 (by omega) x w W := by
  funext j
  obtain ⟨r, n, rfl⟩ : ∃ r n, j = ix2 r n := ⟨j 0, j 1, eq_ix2 j⟩
  by_cases h : n.val < 8
  · rw [gates_lo _ _ _ h, col]
    rfl
  · rw [gates_hi _ _ _ h]
    exact (mm_wide_zero _ W ⟨3584 + n.val, by omega⟩ (by dsimp only; omega)).symm
end Cert.Reference4Ideal.Proj
-- ==== Proof.Alg4.lean ====
module

public import proofs.«01_k».proof.Defs
public import proofs.«01_k».proof.Proof.ProjSample
public import proofs.«01_k».proof.Proof.ProjSampleRef
public import Idealize.ShloMosaic.Lib.Claim

/-! # Claim 4: the mixer's input projection of the sample batch, kernel and reference -/

@[expose] public section
set_option maxRecDepth 16384
open Idealize.ShloMosaic Idealize.ShloMosaic.TcCoe Idealize.SL.Sem
namespace Cert.Proof

set_option maxHeartbeats 4000000 in
theorem algebraic4 [Cert.Pre_finite_weights_sample.Facts] : Cert.algebraic_Kernel4Ideal_Reference4Ideal_pre_finite_weights_sample := by
  pair_intro
  · run_from Cert.Kernel4Ideal.Gen.run_main m g
    all_goals first
      | exact Cert.Kernel4Ideal.Gen.V_main_arg0 m c
      | exact Cert.Kernel4Ideal.Gen.V_main_arg1 m c
      | exact Cert.Kernel4Ideal.Gen.V_main_arg2 m c
  · refine Idealize.ShloMosaic.θ_run_mono (Cert.Reference4Ideal.Value.run m' g') fun r hr c => ?_
    obtain ⟨h0, h1, h2, h3, h4, h5, ha⟩ := hr c
    obtain ⟨e0, e1, e2⟩ := hagree c
    have hw : Cert.Kernel4Ideal.Proj.Weights m c := Cert.Row.weights_sample_num _ _ _ (hpre c)
    refine ⟨h0.trans ?_, h1.trans ?_, h2.trans ?_, h3.trans ?_, h4.trans ?_, h5.trans ?_, ha⟩
    · refine (Cert.Reference4Ideal.Proj.eq0 (m' (c.tc.loc Cert.Reference4Ideal.main_arg0)) (m' (c.tc.loc Cert.Reference4Ideal.main_arg1)) (m' (c.tc.loc Cert.Reference4Ideal.main_arg2))).trans ?_
      rw [e0, e1, e2]
      exact (Cert.Kernel4Ideal.Proj.final4 m c hw).symm
    · refine (Cert.Reference4Ideal.Proj.eq512 (m' (c.tc.loc Cert.Reference4Ideal.main_arg0)) (m' (c.tc.loc Cert.Reference4Ideal.main_arg1)) (m' (c.tc.loc Cert.Reference4Ideal.main_arg2))).trans ?_
      rw [e0, e1, e2]
      exact (Cert.Kernel4Ideal.Proj.final5 m c).symm
    · refine (Cert.Reference4Ideal.Proj.eq1024 (m' (c.tc.loc Cert.Reference4Ideal.main_arg0)) (m' (c.tc.loc Cert.Reference4Ideal.main_arg1)) (m' (c.tc.loc Cert.Reference4Ideal.main_arg2))).trans ?_
      rw [e0, e1, e2]
      exact (Cert.Kernel4Ideal.Proj.final6 m c).symm
    · refine (Cert.Reference4Ideal.Proj.eq1536 (m' (c.tc.loc Cert.Reference4Ideal.main_arg0)) (m' (c.tc.loc Cert.Reference4Ideal.main_arg1)) (m' (c.tc.loc Cert.Reference4Ideal.main_arg2))).trans ?_
      rw [e0, e1, e2]
      exact (Cert.Kernel4Ideal.Proj.final7 m c).symm
    · refine (Cert.Reference4Ideal.Proj.eq3072 (m' (c.tc.loc Cert.Reference4Ideal.main_arg0)) (m' (c.tc.loc Cert.Reference4Ideal.main_arg1)) (m' (c.tc.loc Cert.Reference4Ideal.main_arg2))).trans ?_
      rw [e0, e1, e2]
      exact (Cert.Kernel4Ideal.Proj.final8 m c).symm
    · refine (Cert.Reference4Ideal.Proj.eqGates (m' (c.tc.loc Cert.Reference4Ideal.main_arg0)) (m' (c.tc.loc Cert.Reference4Ideal.main_arg1)) (m' (c.tc.loc Cert.Reference4Ideal.main_arg2))).trans ?_
      rw [e0, e1, e2]
      exact (Cert.Kernel4Ideal.Proj.final9 m c).symm
end Cert.Proof
-- ==== Proof.Tail.lean ====
module

public import proofs.«01_k».proof.Proof.Gen.Kernel5Ideal.Frame
public import proofs.«01_k».proof.Proof.Row
public import Idealize.ShloMosaic.Lib.Claim

/-! # The layer's tail, the kernel's side

The tiled kernel keeps a tile of 512 rows, walks the hidden units in eleven chunks of 256 and adds the chunks up. Here its
stored tile, and then its whole result array, is read as the row function `Row.tail`. -/

@[expose] public section
set_option maxRecDepth 16384
noncomputable section
open Idealize.ShloMosaic Idealize.ShloMosaic.TcCoe Idealize.SL.Sem
open Idealize.ShloMosaic.Pipeline (Dat)
namespace Cert.Kernel5Ideal.Tail
open Cert.Kernel5Ideal Cert.Kernel5Ideal.Gen Cert.Row

/-- One chunk of 256 hidden units of the feed-forward step, at row `i` and column `n` of a tile. -/
def chunk (x : Vec Ideal S512x1024 .bf16) (g u : Vec Ideal S1024x256 .bf16) (d : Vec Ideal S256x1024 .bf16) (i : Fin 512) (n : Fin 1024) : EReal :=
  ∑ f : Fin 256, silu (∑ k, x (ix2 i k) * g (ix2 k f)) * (∑ k, x (ix2 i k) * u (ix2 k f)) * d (ix2 f n)

theorem pay2_at (v0 v1 v3) (i : Fin 512) (n : Fin 1024) :
   k0_pay2 (F := Ideal) v0 v1 v3 (ix2 i n) = added (fun k => v0 (ix2 i k)) (fun k => v1 (ix2 i k)) (fun k n => v3 (ix2 k n)) n := by
  pointwise [k0_pay2, added, mm]

theorem pay3_at (v0 v1 v3 v7) (i : Fin 512) (n : Fin 1024) :
   k0_pay3 (F := Ideal) v0 v1 v3 v7 (ix2 i n) = rms (added (fun k => v0 (ix2 i k)) (fun k => v1 (ix2 i k)) (fun k n => v3 (ix2 k n))) (fun k => v7 (ix2 0 k)) n := by
  pointwise [k0_pay3, rms]
  simp only [pay2_at]

theorem pay1_at (v6 v21 v222 v223 v226 v239 v244) (i : Fin 512) (n : Fin 1024) :
    k0_pay1 (F := Ideal) v6 v21 v222 v223 v226 v239 v244 (ix2 i n)
      = rms (fun n => v6 (ix2 i n) + (v222 (ix2 i n) + chunk v21 v223 v226 v239 i n)) (fun k => v244 (ix2 0 k)) n := by
  pointwise [k0_pay1, rms, chunk, silu]
  simp only [zero_sub]

theorem pay5_at (v0 v1 v3 v7 v26) (i : Fin 512) (f : Fin 256) :
    k0_pay5 (F := Ideal) v0 v1 v3 v7 v26 (ix2 i f) = ∑ k, k0_pay3 (F := Ideal) v0 v1 v3 v7 (ix2 i k) * v26 (ix2 k f) := by
  pointwise [k0_pay5]

theorem pay6_at (v0 v1 v3 v7 v23) (i : Fin 512) (f : Fin 256) :
    k0_pay6 (F := Ideal) v0 v1 v3 v7 v23 (ix2 i f) = silu (∑ k, k0_pay3 (F := Ideal) v0 v1 v3 v7 (ix2 i k) * v23 (ix2 k f)) := by
  pointwise [k0_pay6, silu]
  simp only [zero_sub]

/-- The running sum after ten chunks. -/
theorem acc_at (v0 v1 v3 v7) (g0 g1 g2 g3 g4 g5 g6 g7 g8 g9 u0 u1 u2 u3 u4 u5 u6 u7 u8 u9 : Vec Ideal S1024x256 .bf16)
    (d0 d1 d2 d3 d4 d5 d6 d7 d8 d9 : Vec Ideal S256x1024 .bf16) (v21) (h : v21 = k0_pay3 (F := Ideal) v0 v1 v3 v7) (i : Fin 512) (n : Fin 1024) :
    k0_pay20 v21 (k0_pay18 v21 (k0_pay15 v21 (k0_pay11 v21 (k0_pay7 v21 (k0_pay4 (F := Ideal)) (k0_pay5 v0 v1 v3 v7 u0) (k0_pay6 v0 v1 v3 v7 g0)
      d0 g1 u1 d1) (k0_pay8 v21 g2) (k0_pay9 v21 u2) (k0_pay10 v21 g2) d2 g3 u3 d3) (k0_pay12 v21 g4) (k0_pay13 v21 u4) (k0_pay14 v21 g4)
      d4 g5 u5 d5) (k0_pay16 v21 g6) (k0_pay17 u6) (constant S512x256 .f32 0x00000000#32) d6 g7 u7 d7) (k0_pay19 v21 g8) u8 d8 g9 u9 d9 (ix2 i n)
    = 0 + chunk v21 g0 u0 d0 i n + chunk v21 g1 u1 d1 i n + chunk v21 g2 u2 d2 i n + chunk v21 g3 u3 d3 i n + chunk v21 g4 u4 d4 i n
      + chunk v21 g5 u5 d5 i n + chunk v21 g6 u6 d6 i n + chunk v21 g7 u7 d7 i n + chunk v21 g8 u8 d8 i n + chunk v21 g9 u9 d9 i n := by
  pointwise [k0_pay4, k0_pay7, k0_pay8, k0_pay9, k0_pay10, k0_pay11, k0_pay12, k0_pay13, k0_pay14, k0_pay15, k0_pay16, k0_pay17, k0_pay18,
    k0_pay19, k0_pay20, chunk, silu]
  simp only [pay5_at, pay6_at, silu, ← h, zero_sub]

/-- A chunk whose blocks are the columns and rows from `o` of the whole weights is the sum over its 256 hidden units. -/
theorem chunk_of (x : Vec Ideal S512x1024 .bf16) (x4 : Vec Ideal S1024x5632 .bf16) (x5 : Vec Ideal S2816x1024 .bf16) (i : Fin 512) (n : Fin 1024)
    (g u : Vec Ideal S1024x256 .bf16) (d : Vec Ideal S256x1024 .bf16) (o : ℕ) (ho : o + 256 ≤ 2816)
    (hg : ∀ k (f : Fin 256), g (ix2 k f) = x4 (ix2 k ⟨o + f, by omega⟩)) (hu : ∀ k (f : Fin 256), u (ix2 k f) = x4 (ix2 k ⟨2816 + (o + f), by omega⟩))
    (hd : ∀ (f : Fin 256) n, d (ix2 f n) = x5 (ix2 ⟨o + f, by omega⟩ n)) :
    chunk x g u d i n
      = ∑ f : Fin 256, act (fun k => x (ix2 i k)) (fun k n => x4 (ix2 k n)) ⟨o + f, by omega⟩ * x5 (ix2 ⟨o + f, by omega⟩ n) := by
  unfold chunk act mm
  simp only [hg, hu, hd]

theorem chunk0 (x : Vec Ideal S512x1024 .bf16) (x4 : Vec Ideal S1024x5632 .bf16) (x5 : Vec Ideal S2816x1024 .bf16) (i : Fin 512) (n : Fin 1024) :
    chunk x (View.ld x4 r0_3) (View.ld x4 r0_4) (View.ld x5 r0_5) i n
      = ∑ f : Fin 256, act (fun k => x (ix2 i k)) (fun k n => x4 (ix2 k n)) ⟨0 + f, by omega⟩ * x5 (ix2 ⟨0 + f, by omega⟩ n) :=
  chunk_of x x4 x5 i n _ _ _ 0 (by omega) (fun k f => by pointwise; blk_ext) (fun k f => by pointwise; blk_ext) (fun f n => by pointwise; blk_ext)

theorem chunk1 (x : Vec Ideal S512x1024 .bf16) (x4 : Vec Ideal S1024x5632 .bf16) (x5 : Vec Ideal S2816x1024 .bf16) (i : Fin 512) (n : Fin 1024) :
    chunk x (View.ld x4 r0_6) (View.ld x4 r0_7) (View.ld x5 r0_8) i n
      = ∑ f : Fin 256, act (fun k => x (ix2 i k)) (fun k n => x4 (ix2 k n)) ⟨256 + f, by omega⟩ * x5 (ix2 ⟨256 + f, by omega⟩ n) :=
  chunk_of x x4 x5 i n _ _ _ 256 (by omega) (fun k f => by pointwise; blk_ext) (fun k f => by pointwise; blk_ext) (fun f n => by pointwise; blk_ext)

theorem chunk2 (x : Vec Ideal S512x1024 .bf16) (x4 : Vec Ideal S1024x5632 .bf16) (x5 : Vec Ideal S2816x1024 .bf16) (i : Fin 512) (n : Fin 1024) :
    chunk x (View.ld x4 r0_9) (View.ld x4 r0_10) (View.ld x5 r0_11) i n
      = ∑ f : Fin 256, act (fun k => x (ix2 i k)) (fun k n => x4 (ix2 k n)) ⟨512 + f, by omega⟩ * x5 (ix2 ⟨512 + f, by omega⟩ n) :=
  chunk_of x x4 x5 i n _ _ _ 512 (by omega) (fun k f => by pointwise; blk_ext) (fun k f => by pointwise; blk_ext) (fun f n => by pointwise; blk_ext)

theorem chunk3 (x : Vec Ideal S512x1024 .bf16) (x4 : Vec Ideal S1024x5632 .bf16) (x5 : Vec Ideal S2816x1024 .bf16) (i : Fin 512) (n : Fin 1024) :
    chunk x (View.ld x4 r0_12) (View.ld x4 r0_13) (View.ld x5 r0_14) i n
      = ∑ f : Fin 256, act (fun k => x (ix2 i k)) (fun k n => x4 (ix2 k n)) ⟨768 + f, by omega⟩ * x5 (ix2 ⟨768 + f, by omega⟩ n) :=
  chunk_of x x4 x5 i n _ _ _ 768 (by omega) (fun k f => by pointwise; blk_ext) (fun k f => by pointwise; blk_ext) (fun f n => by pointwise; blk_ext)

theorem chunk4 (x : Vec Ideal S512x1024 .bf16) (x4 : Vec Ideal S1024x5632 .bf16) (x5 : Vec Ideal S2816x1024 .bf16) (i : Fin 512) (n : Fin 1024) :
    chunk x (View.ld x4 r0_15) (View.ld x4 r0_16) (View.ld x5 r0_17) i n
      = ∑ f : Fin 256, act (fun k => x (ix2 i k)) (fun k n => x4 (ix2 k n)) ⟨1024 + f, by omega⟩ * x5 (ix2 ⟨1024 + f, by omega⟩ n) :=
  chunk_of x x4 x5 i n _ _ _ 1024 (by omega) (fun k f => by pointwise; blk_ext) (fun k f => by pointwise; blk_ext) (fun f n => by pointwise; blk_ext)

theorem chunk5 (x : Vec Ideal S512x1024 .bf16) (x4 : Vec Ideal S1024x5632 .bf16) (x5 : Vec Ideal S2816x1024 .bf16) (i : Fin 512) (n : Fin 1024) :
    chunk x (View.ld x4 r0_18) (View.ld x4 r0_19) (View.ld x5 r0_20) i n
      = ∑ f : Fin 256, act (fun k => x (ix2 i k)) (fun k n => x4 (ix2 k n)) ⟨1280 + f, by omega⟩ * x5 (ix2 ⟨1280 + f, by omega⟩ n) :=
  chunk_of x x4 x5 i n _ _ _ 1280 (by omega) (fun k f => by pointwise; blk_ext) (fun k f => by pointwise; blk_ext) (fun f n => by pointwise; blk_ext)

theorem chunk6 (x : Vec Ideal S512x1024 .bf16) (x4 : Vec Ideal S1024x5632 .bf16) (x5 : Vec Ideal S2816x1024 .bf16) (i : Fin 512) (n : Fin 1024) :
    chunk x (View.ld x4 r0_21) (View.ld x4 r0_22) (View.ld x5 r0_23) i n
      = ∑ f : Fin 256, act (fun k => x (ix2 i k)) (fun k n => x4 (ix2 k n)) ⟨1536 + f, by omega⟩ * x5 (ix2 ⟨1536 + f, by omega⟩ n) :=
  chunk_of x x4 x5 i n _ _ _ 1536 (by omega) (fun k f => by pointwise; blk_ext) (fun k f => by pointwise; blk_ext) (fun f n => by pointwise; blk_ext)

theorem chunk7 (x : Vec Ideal S512x1024 .bf16) (x4 : Vec Ideal S1024x5632 .bf16) (x5 : Vec Ideal S2816x1024 .bf16) (i : Fin 512) (n : Fin 1024) :
    chunk x (View.ld x4 r0_24) (View.ld x4 r0_25) (View.ld x5 r0_26) i n
      = ∑ f : Fin 256, act (fun k => x (ix2 i k)) (fun k n => x4 (ix2 k n)) ⟨1792 + f, by omega⟩ * x5 (ix2 ⟨1792 + f, by omega⟩ n) :=
  chunk_of x x4 x5 i n _ _ _ 1792 (by omega) (fun k f => by pointwise; blk_ext) (fun k f => by pointwise; blk_ext) (fun f n => by pointwise; blk_ext)

theorem chunk8 (x : Vec Ideal S512x1024 .bf16) (x4 : Vec Ideal S1024x5632 .bf16) (x5 : Vec Ideal S2816x1024 .bf16) (i : Fin 512) (n : Fin 1024) :
    chunk x (View.ld x4 r0_27) (View.ld x4 r0_28) (View.ld x5 r0_29) i n
      = ∑ f : Fin 256, act (fun k => x (ix2 i k)) (fun k n => x4 (ix2 k n)) ⟨2048 + f, by omega⟩ * x5 (ix2 ⟨2048 + f, by omega⟩ n) :=
  chunk_of x x4 x5 i n _ _ _ 2048 (by omega) (fun k f => by pointwise; blk_ext) (fun k f => by pointwise; blk_ext) (fun f n => by pointwise; blk_ext)

theorem chunk9 (x : Vec Ideal S512x1024 .bf16) (x4 : Vec Ideal S1024x5632 .bf16) (x5 : Vec Ideal S2816x1024 .bf16) (i : Fin 512) (n : Fin 1024) :
    chunk x (View.ld x4 r0_30) (View.ld x4 r0_31) (View.ld x5 r0_32) i n
      = ∑ f : Fin 256, act (fun k => x (ix2 i k)) (fun k n => x4 (ix2 k n)) ⟨2304 + f, by omega⟩ * x5 (ix2 ⟨2304 + f, by omega⟩ n) :=
  chunk_of x x4 x5 i n _ _ _ 2304 (by omega) (fun k f => by pointwise; blk_ext) (fun k f => by pointwise; blk_ext) (fun f n => by pointwise; blk_ext)

theorem chunk10 (x : Vec Ideal S512x1024 .bf16) (x4 : Vec Ideal S1024x5632 .bf16) (x5 : Vec Ideal S2816x1024 .bf16) (i : Fin 512) (n : Fin 1024) :
    chunk x (View.ld x4 r0_33) (View.ld x4 r0_34) (View.ld x5 r0_35) i n
      = ∑ f : Fin 256, act (fun k => x (ix2 i k)) (fun k n => x4 (ix2 k n)) ⟨2560 + f, by omega⟩ * x5 (ix2 ⟨2560 + f, by omega⟩ n) :=
  chunk_of x x4 x5 i n _ _ _ 2560 (by omega) (fun k f => by pointwise; blk_ext) (fun k f => by pointwise; blk_ext) (fun f n => by pointwise; blk_ext)

/-- What a grid point computes from its blocks, at row `i` and column `n` of the tile. -/
theorem block_at (x0 x1 : Vec Ideal S512x1024 .f32) (x2 : Vec Ideal S1024x1024 .bf16) (x3 : Vec Ideal S1x1024 .f32) (x4 : Vec Ideal S1024x5632 .bf16)
    (x5 : Vec Ideal S2816x1024 .bf16) (x6 : Vec Ideal S1x1024 .f32) (i : Fin 512) (n : Fin 1024) :
    out0_7 (F := Ideal) x0 x1 x2 x3 x4 x5 x6 (ix2 i n)
      = tail (fun k => x0 (ix2 i k)) (fun k => x1 (ix2 i k)) (fun k n => x2 (ix2 k n)) (fun k => x3 (ix2 0 k)) (fun k n => x4 (ix2 k n))
          (fun k n => x5 (ix2 k n)) (fun k => x6 (ix2 0 k)) n := by
  have h0 : View.ld x0 r0_0 = x0 := by frame_out
  have h1 : View.ld x1 r0_0 = x1 := by frame_out
  have h2 : View.ld x2 r0_1 = x2 := by frame_out
  have h3 : View.ld x3 r0_2 = x3 := by frame_out
  have h6 : View.ld x6 r0_2 = x6 := by frame_out
  have h21 : k0_pay21 (F := Ideal) x0 x1 x2 x3 x4 x5 x6 = k0_pay3 x0 x1 x2 x3 := by unfold k0_pay21; rw [h0, h1, h2, h3]
  unfold out0_7
  frame_out
  rw [pay1_at]
  simp only [acc_at _ _ _ _ _ _ _ _ _ _ _ _ _ _ _ _ _ _ _ _ _ _ _ _ _ _ _ _ _ _ _ _ _ _ _ h21, chunk0, chunk1, chunk2, chunk3, chunk4, chunk5, chunk6, chunk7, chunk8, chunk9, chunk10]
  simp only [h21, pay2_at, pay3_at]
  unfold tail
  refine congrArg (fun a => rms a _ n) (funext fun n => congrArg _ ?_)
  rw [mm, sum_chunks]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

/-- The result array as a function of the arguments. -/
def arr (h o : Vec Ideal S65536x1024 .f32) (wxo : Vec Ideal S1x1024x1024 .f32) (wn : Vec Ideal S1x1024 .f32) (wgu : Vec Ideal S1x1024x5632 .f32)
    (wd : Vec Ideal S1x2816x1024 .f32) (wf : Vec Ideal S1024 .f32) : Vec Ideal S65536x1024 .f32 := fun j =>
  tail (fun k => h (ix2 (j 0) k)) (fun k => o (ix2 (j 0) k)) (fun k n => wxo (ix3 0 k n)) (fun k => wn (ix2 0 k)) (fun k n => wgu (ix3 0 k n))
    (fun k n => wd (ix3 0 k n)) (fun k => wf (ix1 k)) (j 1)

theorem v1_read (X : Vec Ideal S1x1024x1024 .f32) (k : Fin 1024) (n : Fin 1024) : (truncf (F := Ideal) .bf16 (shapeCast S1024x1024 X shapeCasts_S1x1024x1024_S1024x1024) bitsLt_bf16_f32) (ix2 k n) = X (ix3 0 k n) := by
  pointwise

theorem v1_at (c : Dev nD) (k : Fin 1024) (n : Fin 1024) :
    (V m c main_v1 : Vec Ideal S1024x1024 .bf16) (ix2 k n) = (m ((c.tc : Thread nD τ).loc main_arg2) : Vec Ideal S1x1024x1024 .f32) (ix3 0 k n) := by
  have hv : (V m c main_v1 : Vec Ideal S1024x1024 .bf16) = truncf (F := Ideal) .bf16 (shapeCast S1024x1024 (m ((c.tc : Thread nD τ).loc main_arg2) : Vec Ideal S1x1024x1024 .f32) shapeCasts_S1x1024x1024_S1024x1024) bitsLt_bf16_f32 := by
    entry_read; rfl
  exact (congrFun hv _).trans (v1_read _ k n)

theorem v7_read (X : Vec Ideal S1x1024 .f32) (k : Fin 1024) : (shapeCast S1x1024 (shapeCast S1024 X shapeCasts_S1x1024_S1024) shapeCasts_S1024_S1x1024) (ix2 0 k) = X (ix2 0 k) := by
  pointwise

theorem v7_at (c : Dev nD) (k : Fin 1024) :
    (V m c main_v7 : Vec Ideal S1x1024 .f32) (ix2 0 k) = (m ((c.tc : Thread nD τ).loc main_arg3) : Vec Ideal S1x1024 .f32) (ix2 0 k) := by
  have hv : (V m c main_v7 : Vec Ideal S1x1024 .f32) = shapeCast S1x1024 (shapeCast S1024 (m ((c.tc : Thread nD τ).loc main_arg3) : Vec Ideal S1x1024 .f32) shapeCasts_S1x1024_S1024) shapeCasts_S1024_S1x1024 := by
    entry_read; rfl
  exact (congrFun hv _).trans (v7_read _ k)

theorem v4_read (X : Vec Ideal S1x1024x5632 .f32) (k : Fin 1024) (n : Fin 5632) : (truncf (F := Ideal) .bf16 (shapeCast S1024x5632 X shapeCasts_S1x1024x5632_S1024x5632) bitsLt_bf16_f32) (ix2 k n) = X (ix3 0 k n) := by
  pointwise

theorem v4_at (c : Dev nD) (k : Fin 1024) (n : Fin 5632) :
    (V m c main_v4 : Vec Ideal S1024x5632 .bf16) (ix2 k n) = (m ((c.tc : Thread nD τ).loc main_arg4) : Vec Ideal S1x1024x5632 .f32) (ix3 0 k n) := by
  have hv : (V m c main_v4 : Vec Ideal S1024x5632 .bf16) = truncf (F := Ideal) .bf16 (shapeCast S1024x5632 (m ((c.tc : Thread nD τ).loc main_arg4) : Vec Ideal S1x1024x5632 .f32) shapeCasts_S1x1024x5632_S1024x5632) bitsLt_bf16_f32 := by
    entry_read; rfl
  exact (congrFun hv _).trans (v4_read _ k n)

theorem v6_read (X : Vec Ideal S1x2816x1024 .f32) (k : Fin 2816) (n : Fin 1024) : (truncf (F := Ideal) .bf16 (shapeCast S2816x1024 X shapeCasts_S1x2816x1024_S2816x1024) bitsLt_bf16_f32) (ix2 k n) = X (ix3 0 k n) := by
  pointwise

theorem v6_at (c : Dev nD) (k : Fin 2816) (n : Fin 1024) :
    (V m c main_v6 : Vec Ideal S2816x1024 .bf16) (ix2 k n) = (m ((c.tc : Thread nD τ).loc main_arg5) : Vec Ideal S1x2816x1024 .f32) (ix3 0 k n) := by
  have hv : (V m c main_v6 : Vec Ideal S2816x1024 .bf16) = truncf (F := Ideal) .bf16 (shapeCast S2816x1024 (m ((c.tc : Thread nD τ).loc main_arg5) : Vec Ideal S1x2816x1024 .f32) shapeCasts_S1x2816x1024_S2816x1024) bitsLt_bf16_f32 := by
    entry_read; rfl
  exact (congrFun hv _).trans (v6_read _ k n)

theorem v8_read (X : Vec Ideal S1024 .f32) (k : Fin 1024) : (shapeCast S1x1024 X shapeCasts_S1024_S1x1024) (ix2 0 k) = X (ix1 k) := by
  pointwise

theorem v8_at (c : Dev nD) (k : Fin 1024) :
    (V m c main_v8 : Vec Ideal S1x1024 .f32) (ix2 0 k) = (m ((c.tc : Thread nD τ).loc main_arg6) : Vec Ideal S1024 .f32) (ix1 k) := by
  have hv : (V m c main_v8 : Vec Ideal S1x1024 .f32) = shapeCast S1x1024 (m ((c.tc : Thread nD τ).loc main_arg6) : Vec Ideal S1024 .f32) shapeCasts_S1024_S1x1024 := by
    entry_read; rfl
  exact (congrFun hv _).trans (v8_read _ k)

theorem point (c : Dev nD) (t : Fin cfg0.N) (y : S512x1024.Idx) :
    out0_7 (F := Ideal) (iblk m c 0 t) (iblk m c 1 t) (iblk m c 2 t) (iblk m c 3 t) (iblk m c 4 t) (iblk m c 5 t) (iblk m c 6 t) y
      = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 7).blk t).view.emb y) := by
  obtain ⟨i, n, rfl⟩ : ∃ i n, y = ix2 i n := ⟨y 0, y 1, eq_ix2 y⟩
  rw [block_at]
  have e0 : ∀ k, iblk m c 0 t (ix2 i k) = (m ((c.tc : Thread nD τ).loc main_arg0)) (ix2 (((cfg0.win 7).blk t).view.emb (ix2 i n) 0) k) := fun k => by
    blk_point [iblk, V, idx t]
  have e1 : ∀ k, iblk m c 1 t (ix2 i k) = (m ((c.tc : Thread nD τ).loc main_arg1)) (ix2 (((cfg0.win 7).blk t).view.emb (ix2 i n) 0) k) := fun k => by
    blk_point [iblk, V, idx t]
  have e2 : ∀ k n, iblk m c 2 t (ix2 k n) = (m ((c.tc : Thread nD τ).loc main_arg2)) (ix3 0 k n) := fun k n => by
    blk_simp [iblk]
    refine Eq.trans (congrArg (V m c main_v1) ?_) (v1_at m c k n)
    blk_ext [idx t]
  have e3 : ∀ k, iblk m c 3 t (ix2 0 k) = (m ((c.tc : Thread nD τ).loc main_arg3)) (ix2 0 k) := fun k => by
    blk_simp [iblk]
    refine Eq.trans (congrArg (V m c main_v7) ?_) (v7_at m c k)
    blk_ext [idx t]
  have e4 : ∀ k n, iblk m c 4 t (ix2 k n) = (m ((c.tc : Thread nD τ).loc main_arg4)) (ix3 0 k n) := fun k n => by
    blk_simp [iblk]
    refine Eq.trans (congrArg (V m c main_v4) ?_) (v4_at m c k n)
    blk_ext [idx t]
  have e5 : ∀ k n, iblk m c 5 t (ix2 k n) = (m ((c.tc : Thread nD τ).loc main_arg5)) (ix3 0 k n) := fun k n => by
    blk_simp [iblk]
    refine Eq.trans (congrArg (V m c main_v6) ?_) (v6_at m c k n)
    blk_ext [idx t]
  have e6 : ∀ k, iblk m c 6 t (ix2 0 k) = (m ((c.tc : Thread nD τ).loc main_arg6)) (ix1 k) := fun k => by
    blk_simp [iblk]
    refine Eq.trans (congrArg (V m c main_v8) ?_) (v8_at m c k)
    blk_ext [idx t]
  have en : ((cfg0.win 7).blk t).view.emb (ix2 i n) 1 = n := by
    apply Fin.ext; blk_simp [idx t]
  unfold arr
  simp only [e0, e1, e2, e3, e4, e5, e6]
  rw [en]

theorem final (c : Dev nD) : (dats m 0 c).arrAt 7 (cfgs 0).N = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t _ y => ?_
  blk_simp
  rw [after0_7]
  exact point m c t y
end Cert.Kernel5Ideal.Tail
-- ==== Proof.TailRef.lean ====
module

public import proofs.«01_k».proof.Proof.Gen.Reference5Ideal.Run
public import proofs.«01_k».proof.Proof.Row
public import Idealize.ShloMosaic.Lib.Claim

/-! # The layer's tail, the reference's side

The reference's result, cut into the steps it is written in, is the row function `Row.tail` of each row. -/

@[expose] public section
set_option maxRecDepth 16384
noncomputable section
open Idealize.ShloMosaic Idealize.ShloMosaic.TcCoe Idealize.SL.Sem
namespace Cert.Reference5Ideal.Tail
open Cert.Reference5Ideal Cert.Reference5Ideal.Gen Cert.Row

/-- The residual with the attention's output projection. -/
def rAdd (h o : FVec Ideal S65536x1024 .f32) (w : FVec Ideal S1x1024x1024 .f32) : FVec Ideal S65536x1024 .f32 :=
  addf (F := Ideal) h (Host.dotGeneral dot_S65536x1024_S1024x1024_S65536x1024_1_0_0_1_n_n none o (shapeCast _ w shapeCasts_S1x1024x1024_S1024x1024))
/-- A normalisation. -/
def rNorm (x : FVec Ideal S65536x1024 .f32) (w : FVec Ideal S1024 .f32) : FVec Ideal S65536x1024 .f32 :=
  mulf (F := Ideal) (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 w))
/-- Gate and up projections. -/
def rGu (x : FVec Ideal S65536x1024 .f32) (w : FVec Ideal S1x1024x5632 .f32) : FVec Ideal S65536x5632 .f32 :=
  Host.dotGeneral (F := Ideal) dot_S65536x1024_S1024x5632_S65536x5632_1_0_0_1_n_n none x (shapeCast _ w shapeCasts_S1x1024x5632_S1024x5632)
/-- The gated units. -/
def rAct (g : FVec Ideal S65536x5632 .f32) : FVec Ideal S65536x2816 .f32 :=
  mulf (F := Ideal) (mulf (extractStridedSlice S65536x2816 ![0, 0] g slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] g slices_S65536x5632_S65536x2816_0_0)))))) (extractStridedSlice S65536x2816 ![0, 2816] g slices_S65536x5632_S65536x2816_0_2816)
/-- The feed-forward step's output added to the residual. -/
def rDown (h : FVec Ideal S65536x1024 .f32) (a : FVec Ideal S65536x2816 .f32) (w : FVec Ideal S1x2816x1024 .f32) : FVec Ideal S65536x1024 .f32 :=
  addf (F := Ideal) h (Host.dotGeneral dot_S65536x2816_S2816x1024_S65536x1024_1_0_0_1_n_n none a (shapeCast _ w shapeCasts_S1x2816x1024_S2816x1024))

theorem rAdd_at (h o w) (r : Fin 65536) (n : Fin 1024) :
    rAdd h o w (ix2 r n) = added (fun k => h (ix2 r k)) (fun k => o (ix2 r k)) (fun k n => w (ix3 0 k n)) n := by
  pointwise [rAdd, added, mm]
theorem rNorm_at (x w) (r : Fin 65536) (n : Fin 1024) : rNorm x w (ix2 r n) = rms (fun k => x (ix2 r k)) (fun k => w (ix1 k)) n := by
  pointwise [rNorm, rms]
theorem rGu_at (x w) (r : Fin 65536) (n : Fin 5632) : rGu x w (ix2 r n) = mm (fun k => x (ix2 r k)) (fun k n => w (ix3 0 k n)) n := by
  pointwise [rGu, mm]
theorem rAct_at (g) (r : Fin 65536) (f : Fin 2816) :
    rAct g (ix2 r f) = silu (g (ix2 r ⟨f, by omega⟩)) * g (ix2 r ⟨2816 + f, by omega⟩) := by
  pointwise [rAct, silu]
  try blk_ext
theorem rDown_at (h a w) (r : Fin 65536) (n : Fin 1024) :
    rDown h a w (ix2 r n) = h (ix2 r n) + mm (fun k => a (ix2 r k)) (fun k n => w (ix3 0 k n)) n := by
  pointwise [rDown, mm]

variable (m : (ℓ : Loc nD τ sig) → Buf (Elt Ideal) ℓ)

theorem res_eq (c : Dev nD) : (Cert.Reference5Ideal.Value.res_out0 (F := Ideal) m c : FVec Ideal S65536x1024 .f32) =
    rNorm (rDown (rAdd (m ((c.tc : Thread nD τ).loc main_arg0)) (m ((c.tc : Thread nD τ).loc main_arg1)) (m ((c.tc : Thread nD τ).loc main_arg2)))
      (rAct (rGu (rNorm (rAdd (m ((c.tc : Thread nD τ).loc main_arg0)) (m ((c.tc : Thread nD τ).loc main_arg1)) (m ((c.tc : Thread nD τ).loc main_arg2)))
        (shapeCast _ (m ((c.tc : Thread nD τ).loc main_arg3) : FVec Ideal S1x1024 .f32) shapeCasts_S1x1024_S1024)) (m ((c.tc : Thread nD τ).loc main_arg4))))
      (m ((c.tc : Thread nD τ).loc main_arg5))) (m ((c.tc : Thread nD τ).loc main_arg6)) := rfl

theorem norm_read (w : FVec Ideal S1x1024 .f32) (k : Fin 1024) : shapeCast S1024 w shapeCasts_S1x1024_S1024 (ix1 k) = w (ix2 0 k) := by
  pointwise

/-- The reference's result, row by row. -/
theorem steps_at (h o wxo wn wgu wd wf) (r : Fin 65536) (n : Fin 1024) :
    rNorm (rDown (rAdd h o wxo) (rAct (rGu (rNorm (rAdd h o wxo) (shapeCast _ (wn : FVec Ideal S1x1024 .f32) shapeCasts_S1x1024_S1024)) wgu)) wd) wf (ix2 r n)
      = tail (fun k => h (ix2 r k)) (fun k => o (ix2 r k)) (fun k n => wxo (ix3 0 k n)) (fun k => wn (ix2 0 k)) (fun k n => wgu (ix3 0 k n))
        (fun k n => wd (ix3 0 k n)) (fun k => wf (ix1 k)) n := by
  simp only [rNorm_at, rDown_at, rAct_at, rGu_at, rAdd_at, norm_read]
  rfl

/-- The reference's result over arguments named by the other program. -/
theorem result (c : Dev nD) (h o : FVec Ideal S65536x1024 .f32) (wxo : FVec Ideal S1x1024x1024 .f32) (wn : FVec Ideal S1x1024 .f32)
    (wgu : FVec Ideal S1x1024x5632 .f32) (wd : FVec Ideal S1x2816x1024 .f32) (wf : FVec Ideal S1024 .f32)
    (e0 : m ((c.tc : Thread nD τ).loc main_arg0) = h) (e1 : m ((c.tc : Thread nD τ).loc main_arg1) = o) (e2 : m ((c.tc : Thread nD τ).loc main_arg2) = wxo)
    (e3 : m ((c.tc : Thread nD τ).loc main_arg3) = wn) (e4 : m ((c.tc : Thread nD τ).loc main_arg4) = wgu) (e5 : m ((c.tc : Thread nD τ).loc main_arg5) = wd)
    (e6 : m ((c.tc : Thread nD τ).loc main_arg6) = wf) :
    (Cert.Reference5Ideal.Value.res_out0 (F := Ideal) m c : FVec Ideal S65536x1024 .f32) = fun j =>
      tail (fun k => h (ix2 (j 0) k)) (fun k => o (ix2 (j 0) k)) (fun k n => wxo (ix3 0 k n)) (fun k => wn (ix2 0 k)) (fun k n => wgu (ix3 0 k n))
        (fun k n => wd (ix3 0 k n)) (fun k => wf (ix1 k)) (j 1) := by
  subst e0 e1 e2 e3 e4 e5 e6
  rw [res_eq]
  funext j
  obtain ⟨r, n, rfl⟩ : ∃ r n, j = ix2 r n := ⟨j 0, j 1, eq_ix2 j⟩
  exact steps_at _ _ _ _ _ _ _ r n
end Cert.Reference5Ideal.Tail
-- ==== Proof.Alg5.lean ====
module

public import proofs.«01_k».proof.Defs
public import proofs.«01_k».proof.Proof.Tail
public import proofs.«01_k».proof.Proof.TailRef
public import Idealize.ShloMosaic.Lib.Claim

/-! # Claim 5: the tail kernel and its reference give the same result -/

@[expose] public section
set_option maxRecDepth 16384
open Idealize.ShloMosaic Idealize.ShloMosaic.TcCoe Idealize.SL.Sem
namespace Cert.Proof

theorem algebraic5 : Cert.algebraic_Kernel5Ideal_Reference5Ideal := by
  pair_intro
  · run_from Cert.Kernel5Ideal.Gen.run_main m g
  · have h := fun c => Cert.Reference5Ideal.Tail.result m' c _ _ _ _ _ _ _ (hagree c).1 (hagree c).2.1 (hagree c).2.2.1 (hagree c).2.2.2.1 (hagree c).2.2.2.2.1
      (hagree c).2.2.2.2.2.1 (hagree c).2.2.2.2.2.2
    run_from Cert.Reference5Ideal.Value.run m' g'
    exact (h c).trans (Cert.Kernel5Ideal.Tail.final m c).symm
end Cert.Proof
-- ==== Proof.TailSample.lean ====
module

public import proofs.«01_k».proof.Proof.Gen.Kernel6Ideal.Frame
public import proofs.«01_k».proof.Proof.Row
public import Idealize.ShloMosaic.Lib.Claim

/-! # The layer's tail, the kernel's side

The tiled kernel keeps a tile of 128 rows, walks the hidden units in eleven chunks of 256 and adds the chunks up. Here its
stored tile, and then its whole result array, is read as the row function `Row.tail`. -/

@[expose] public section
set_option maxRecDepth 16384
noncomputable section
open Idealize.ShloMosaic Idealize.ShloMosaic.TcCoe Idealize.SL.Sem
open Idealize.ShloMosaic.Pipeline (Dat)
namespace Cert.Kernel6Ideal.Tail
open Cert.Kernel6Ideal Cert.Kernel6Ideal.Gen Cert.Row

/-- One chunk of 256 hidden units of the feed-forward step, at row `i` and column `n` of a tile. -/
def chunk (x : Vec Ideal S128x1024 .bf16) (g u : Vec Ideal S1024x256 .bf16) (d : Vec Ideal S256x1024 .bf16) (i : Fin 128) (n : Fin 1024) : EReal :=
  ∑ f : Fin 256, silu (∑ k, x (ix2 i k) * g (ix2 k f)) * (∑ k, x (ix2 i k) * u (ix2 k f)) * d (ix2 f n)

theorem pay2_at (v0 v1 v3) (i : Fin 128) (n : Fin 1024) :
   k0_pay2 (F := Ideal) v0 v1 v3 (ix2 i n) = added (fun k => v0 (ix2 i k)) (fun k => v1 (ix2 i k)) (fun k n => v3 (ix2 k n)) n := by
  pointwise [k0_pay2, added, mm]

theorem pay3_at (v0 v1 v3 v7) (i : Fin 128) (n : Fin 1024) :
   k0_pay3 (F := Ideal) v0 v1 v3 v7 (ix2 i n) = rms (added (fun k => v0 (ix2 i k)) (fun k => v1 (ix2 i k)) (fun k n => v3 (ix2 k n))) (fun k => v7 (ix2 0 k)) n := by
  pointwise [k0_pay3, rms]
  simp only [pay2_at]

theorem pay1_at (v6 v21 v222 v223 v226 v239 v244) (i : Fin 128) (n : Fin 1024) :
    k0_pay1 (F := Ideal) v6 v21 v222 v223 v226 v239 v244 (ix2 i n)
      = rms (fun n => v6 (ix2 i n) + (v222 (ix2 i n) + chunk v21 v223 v226 v239 i n)) (fun k => v244 (ix2 0 k)) n := by
  pointwise [k0_pay1, rms, chunk, silu]
  simp only [zero_sub]

theorem pay5_at (v0 v1 v3 v7 v26) (i : Fin 128) (f : Fin 256) :
    k0_pay5 (F := Ideal) v0 v1 v3 v7 v26 (ix2 i f) = ∑ k, k0_pay3 (F := Ideal) v0 v1 v3 v7 (ix2 i k) * v26 (ix2 k f) := by
  pointwise [k0_pay5]

theorem pay6_at (v0 v1 v3 v7 v23) (i : Fin 128) (f : Fin 256) :
    k0_pay6 (F := Ideal) v0 v1 v3 v7 v23 (ix2 i f) = silu (∑ k, k0_pay3 (F := Ideal) v0 v1 v3 v7 (ix2 i k) * v23 (ix2 k f)) := by
  pointwise [k0_pay6, silu]
  simp only [zero_sub]

/-- The running sum after ten chunks. -/
theorem acc_at (v0 v1 v3 v7) (g0 g1 g2 g3 g4 g5 g6 g7 g8 g9 u0 u1 u2 u3 u4 u5 u6 u7 u8 u9 : Vec Ideal S1024x256 .bf16)
    (d0 d1 d2 d3 d4 d5 d6 d7 d8 d9 : Vec Ideal S256x1024 .bf16) (v21) (h : v21 = k0_pay3 (F := Ideal) v0 v1 v3 v7) (i : Fin 128) (n : Fin 1024) :
    k0_pay20 v21 (k0_pay18 v21 (k0_pay15 v21 (k0_pay11 v21 (k0_pay7 v21 (k0_pay4 (F := Ideal)) (k0_pay5 v0 v1 v3 v7 u0) (k0_pay6 v0 v1 v3 v7 g0)
      d0 g1 u1 d1) (k0_pay8 v21 g2) (k0_pay9 v21 u2) (k0_pay10 v21 g2) d2 g3 u3 d3) (k0_pay12 v21 g4) (k0_pay13 v21 u4) (k0_pay14 v21 g4)
      d4 g5 u5 d5) (k0_pay16 v21 g6) (k0_pay17 u6) (constant S128x256 .f32 0x00000000#32) d6 g7 u7 d7) (k0_pay19 v21 g8) u8 d8 g9 u9 d9 (ix2 i n)
    = 0 + chunk v21 g0 u0 d0 i n + chunk v21 g1 u1 d1 i n + chunk v21 g2 u2 d2 i n + chunk v21 g3 u3 d3 i n + chunk v21 g4 u4 d4 i n
      + chunk v21 g5 u5 d5 i n + chunk v21 g6 u6 d6 i n + chunk v21 g7 u7 d7 i n + chunk v21 g8 u8 d8 i n + chunk v21 g9 u9 d9 i n := by
  pointwise [k0_pay4, k0_pay7, k0_pay8, k0_pay9, k0_pay10, k0_pay11, k0_pay12, k0_pay13, k0_pay14, k0_pay15, k0_pay16, k0_pay17, k0_pay18,
    k0_pay19, k0_pay20, chunk, silu]
  simp only [pay5_at, pay6_at, silu, ← h, zero_sub]

/-- A chunk whose blocks are the columns and rows from `o` of the whole weights is the sum over its 256 hidden units. -/
theorem chunk_of (x : Vec Ideal S128x1024 .bf16) (x4 : Vec Ideal S1024x5632 .bf16) (x5 : Vec Ideal S2816x1024 .bf16) (i : Fin 128) (n : Fin 1024)
    (g u : Vec Ideal S1024x256 .bf16) (d : Vec Ideal S256x1024 .bf16) (o : ℕ) (ho : o + 256 ≤ 2816)
    (hg : ∀ k (f : Fin 256), g (ix2 k f) = x4 (ix2 k ⟨o + f, by omega⟩)) (hu : ∀ k (f : Fin 256), u (ix2 k f) = x4 (ix2 k ⟨2816 + (o + f), by omega⟩))
    (hd : ∀ (f : Fin 256) n, d (ix2 f n) = x5 (ix2 ⟨o + f, by omega⟩ n)) :
    chunk x g u d i n
      = ∑ f : Fin 256, act (fun k => x (ix2 i k)) (fun k n => x4 (ix2 k n)) ⟨o + f, by omega⟩ * x5 (ix2 ⟨o + f, by omega⟩ n) := by
  unfold chunk act mm
  simp only [hg, hu, hd]

theorem chunk0 (x : Vec Ideal S128x1024 .bf16) (x4 : Vec Ideal S1024x5632 .bf16) (x5 : Vec Ideal S2816x1024 .bf16) (i : Fin 128) (n : Fin 1024) :
    chunk x (View.ld x4 r0_3) (View.ld x4 r0_4) (View.ld x5 r0_5) i n
      = ∑ f : Fin 256, act (fun k => x (ix2 i k)) (fun k n => x4 (ix2 k n)) ⟨0 + f, by omega⟩ * x5 (ix2 ⟨0 + f, by omega⟩ n) :=
  chunk_of x x4 x5 i n _ _ _ 0 (by omega) (fun k f => by pointwise; blk_ext) (fun k f => by pointwise; blk_ext) (fun f n => by pointwise; blk_ext)

theorem chunk1 (x : Vec Ideal S128x1024 .bf16) (x4 : Vec Ideal S1024x5632 .bf16) (x5 : Vec Ideal S2816x1024 .bf16) (i : Fin 128) (n : Fin 1024) :
    chunk x (View.ld x4 r0_6) (View.ld x4 r0_7) (View.ld x5 r0_8) i n
      = ∑ f : Fin 256, act (fun k => x (ix2 i k)) (fun k n => x4 (ix2 k n)) ⟨256 + f, by omega⟩ * x5 (ix2 ⟨256 + f, by omega⟩ n) :=
  chunk_of x x4 x5 i n _ _ _ 256 (by omega) (fun k f => by pointwise; blk_ext) (fun k f => by pointwise; blk_ext) (fun f n => by pointwise; blk_ext)

theorem chunk2 (x : Vec Ideal S128x1024 .bf16) (x4 : Vec Ideal S1024x5632 .bf16) (x5 : Vec Ideal S2816x1024 .bf16) (i : Fin 128) (n : Fin 1024) :
    chunk x (View.ld x4 r0_9) (View.ld x4 r0_10) (View.ld x5 r0_11) i n
      = ∑ f : Fin 256, act (fun k => x (ix2 i k)) (fun k n => x4 (ix2 k n)) ⟨512 + f, by omega⟩ * x5 (ix2 ⟨512 + f, by omega⟩ n) :=
  chunk_of x x4 x5 i n _ _ _ 512 (by omega) (fun k f => by pointwise; blk_ext) (fun k f => by pointwise; blk_ext) (fun f n => by pointwise; blk_ext)

theorem chunk3 (x : Vec Ideal S128x1024 .bf16) (x4 : Vec Ideal S1024x5632 .bf16) (x5 : Vec Ideal S2816x1024 .bf16) (i : Fin 128) (n : Fin 1024) :
    chunk x (View.ld x4 r0_12) (View.ld x4 r0_13) (View.ld x5 r0_14) i n
      = ∑ f : Fin 256, act (fun k => x (ix2 i k)) (fun k n => x4 (ix2 k n)) ⟨768 + f, by omega⟩ * x5 (ix2 ⟨768 + f, by omega⟩ n) :=
  chunk_of x x4 x5 i n _ _ _ 768 (by omega) (fun k f => by pointwise; blk_ext) (fun k f => by pointwise; blk_ext) (fun f n => by pointwise; blk_ext)

theorem chunk4 (x : Vec Ideal S128x1024 .bf16) (x4 : Vec Ideal S1024x5632 .bf16) (x5 : Vec Ideal S2816x1024 .bf16) (i : Fin 128) (n : Fin 1024) :
    chunk x (View.ld x4 r0_15) (View.ld x4 r0_16) (View.ld x5 r0_17) i n
      = ∑ f : Fin 256, act (fun k => x (ix2 i k)) (fun k n => x4 (ix2 k n)) ⟨1024 + f, by omega⟩ * x5 (ix2 ⟨1024 + f, by omega⟩ n) :=
  chunk_of x x4 x5 i n _ _ _ 1024 (by omega) (fun k f => by pointwise; blk_ext) (fun k f => by pointwise; blk_ext) (fun f n => by pointwise; blk_ext)

theorem chunk5 (x : Vec Ideal S128x1024 .bf16) (x4 : Vec Ideal S1024x5632 .bf16) (x5 : Vec Ideal S2816x1024 .bf16) (i : Fin 128) (n : Fin 1024) :
    chunk x (View.ld x4 r0_18) (View.ld x4 r0_19) (View.ld x5 r0_20) i n
      = ∑ f : Fin 256, act (fun k => x (ix2 i k)) (fun k n => x4 (ix2 k n)) ⟨1280 + f, by omega⟩ * x5 (ix2 ⟨1280 + f, by omega⟩ n) :=
  chunk_of x x4 x5 i n _ _ _ 1280 (by omega) (fun k f => by pointwise; blk_ext) (fun k f => by pointwise; blk_ext) (fun f n => by pointwise; blk_ext)

theorem chunk6 (x : Vec Ideal S128x1024 .bf16) (x4 : Vec Ideal S1024x5632 .bf16) (x5 : Vec Ideal S2816x1024 .bf16) (i : Fin 128) (n : Fin 1024) :
    chunk x (View.ld x4 r0_21) (View.ld x4 r0_22) (View.ld x5 r0_23) i n
      = ∑ f : Fin 256, act (fun k => x (ix2 i k)) (fun k n => x4 (ix2 k n)) ⟨1536 + f, by omega⟩ * x5 (ix2 ⟨1536 + f, by omega⟩ n) :=
  chunk_of x x4 x5 i n _ _ _ 1536 (by omega) (fun k f => by pointwise; blk_ext) (fun k f => by pointwise; blk_ext) (fun f n => by pointwise; blk_ext)

theorem chunk7 (x : Vec Ideal S128x1024 .bf16) (x4 : Vec Ideal S1024x5632 .bf16) (x5 : Vec Ideal S2816x1024 .bf16) (i : Fin 128) (n : Fin 1024) :
    chunk x (View.ld x4 r0_24) (View.ld x4 r0_25) (View.ld x5 r0_26) i n
      = ∑ f : Fin 256, act (fun k => x (ix2 i k)) (fun k n => x4 (ix2 k n)) ⟨1792 + f, by omega⟩ * x5 (ix2 ⟨1792 + f, by omega⟩ n) :=
  chunk_of x x4 x5 i n _ _ _ 1792 (by omega) (fun k f => by pointwise; blk_ext) (fun k f => by pointwise; blk_ext) (fun f n => by pointwise; blk_ext)

theorem chunk8 (x : Vec Ideal S128x1024 .bf16) (x4 : Vec Ideal S1024x5632 .bf16) (x5 : Vec Ideal S2816x1024 .bf16) (i : Fin 128) (n : Fin 1024) :
    chunk x (View.ld x4 r0_27) (View.ld x4 r0_28) (View.ld x5 r0_29) i n
      = ∑ f : Fin 256, act (fun k => x (ix2 i k)) (fun k n => x4 (ix2 k n)) ⟨2048 + f, by omega⟩ * x5 (ix2 ⟨2048 + f, by omega⟩ n) :=
  chunk_of x x4 x5 i n _ _ _ 2048 (by omega) (fun k f => by pointwise; blk_ext) (fun k f => by pointwise; blk_ext) (fun f n => by pointwise; blk_ext)

theorem chunk9 (x : Vec Ideal S128x1024 .bf16) (x4 : Vec Ideal S1024x5632 .bf16) (x5 : Vec Ideal S2816x1024 .bf16) (i : Fin 128) (n : Fin 1024) :
    chunk x (View.ld x4 r0_30) (View.ld x4 r0_31) (View.ld x5 r0_32) i n
      = ∑ f : Fin 256, act (fun k => x (ix2 i k)) (fun k n => x4 (ix2 k n)) ⟨2304 + f, by omega⟩ * x5 (ix2 ⟨2304 + f, by omega⟩ n) :=
  chunk_of x x4 x5 i n _ _ _ 2304 (by omega) (fun k f => by pointwise; blk_ext) (fun k f => by pointwise; blk_ext) (fun f n => by pointwise; blk_ext)

theorem chunk10 (x : Vec Ideal S128x1024 .bf16) (x4 : Vec Ideal S1024x5632 .bf16) (x5 : Vec Ideal S2816x1024 .bf16) (i : Fin 128) (n : Fin 1024) :
    chunk x (View.ld x4 r0_33) (View.ld x4 r0_34) (View.ld x5 r0_35) i n
      = ∑ f : Fin 256, act (fun k => x (ix2 i k)) (fun k n => x4 (ix2 k n)) ⟨2560 + f, by omega⟩ * x5 (ix2 ⟨2560 + f, by omega⟩ n) :=
  chunk_of x x4 x5 i n _ _ _ 2560 (by omega) (fun k f => by pointwise; blk_ext) (fun k f => by pointwise; blk_ext) (fun f n => by pointwise; blk_ext)

/-- What a grid point computes from its blocks, at row `i` and column `n` of the tile. -/
theorem block_at (x0 x1 : Vec Ideal S128x1024 .f32) (x2 : Vec Ideal S1024x1024 .bf16) (x3 : Vec Ideal S1x1024 .f32) (x4 : Vec Ideal S1024x5632 .bf16)
    (x5 : Vec Ideal S2816x1024 .bf16) (x6 : Vec Ideal S1x1024 .f32) (i : Fin 128) (n : Fin 1024) :
    out0_7 (F := Ideal) x0 x1 x2 x3 x4 x5 x6 (ix2 i n)
      = tail (fun k => x0 (ix2 i k)) (fun k => x1 (ix2 i k)) (fun k n => x2 (ix2 k n)) (fun k => x3 (ix2 0 k)) (fun k n => x4 (ix2 k n))
          (fun k n => x5 (ix2 k n)) (fun k => x6 (ix2 0 k)) n := by
  have h0 : View.ld x0 r0_0 = x0 := by frame_out
  have h1 : View.ld x1 r0_0 = x1 := by frame_out
  have h2 : View.ld x2 r0_1 = x2 := by frame_out
  have h3 : View.ld x3 r0_2 = x3 := by frame_out
  have h6 : View.ld x6 r0_2 = x6 := by frame_out
  have h21 : k0_pay21 (F := Ideal) x0 x1 x2 x3 x4 x5 x6 = k0_pay3 x0 x1 x2 x3 := by unfold k0_pay21; rw [h0, h1, h2, h3]
  unfold out0_7
  frame_out
  rw [pay1_at]
  simp only [acc_at _ _ _ _ _ _ _ _ _ _ _ _ _ _ _ _ _ _ _ _ _ _ _ _ _ _ _ _ _ _ _ _ _ _ _ h21, chunk0, chunk1, chunk2, chunk3, chunk4, chunk5, chunk6, chunk7, chunk8, chunk9, chunk10]
  simp only [h21, pay2_at, pay3_at]
  unfold tail
  refine congrArg (fun a => rms a _ n) (funext fun n => congrArg _ ?_)
  rw [mm, sum_chunks]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

/-- The result array as a function of the arguments. -/
def arr (h o : Vec Ideal S128x1024 .f32) (wxo : Vec Ideal S1x1024x1024 .f32) (wn : Vec Ideal S1x1024 .f32) (wgu : Vec Ideal S1x1024x5632 .f32)
    (wd : Vec Ideal S1x2816x1024 .f32) (wf : Vec Ideal S1024 .f32) : Vec Ideal S128x1024 .f32 := fun j =>
  tail (fun k => h (ix2 (j 0) k)) (fun k => o (ix2 (j 0) k)) (fun k n => wxo (ix3 0 k n)) (fun k => wn (ix2 0 k)) (fun k n => wgu (ix3 0 k n))
    (fun k n => wd (ix3 0 k n)) (fun k => wf (ix1 k)) (j 1)

theorem v1_read (X : Vec Ideal S1x1024x1024 .f32) (k : Fin 1024) (n : Fin 1024) : (truncf (F := Ideal) .bf16 (shapeCast S1024x1024 X shapeCasts_S1x1024x1024_S1024x1024) bitsLt_bf16_f32) (ix2 k n) = X (ix3 0 k n) := by
  pointwise

theorem v1_at (c : Dev nD) (k : Fin 1024) (n : Fin 1024) :
    (V m c main_v1 : Vec Ideal S1024x1024 .bf16) (ix2 k n) = (m ((c.tc : Thread nD τ).loc main_arg2) : Vec Ideal S1x1024x1024 .f32) (ix3 0 k n) := by
  have hv : (V m c main_v1 : Vec Ideal S1024x1024 .bf16) = truncf (F := Ideal) .bf16 (shapeCast S1024x1024 (m ((c.tc : Thread nD τ).loc main_arg2) : Vec Ideal S1x1024x1024 .f32) shapeCasts_S1x1024x1024_S1024x1024) bitsLt_bf16_f32 := by
    entry_read; rfl
  exact (congrFun hv _).trans (v1_read _ k n)

theorem v7_read (X : Vec Ideal S1x1024 .f32) (k : Fin 1024) : (shapeCast S1x1024 (shapeCast S1024 X shapeCasts_S1x1024_S1024) shapeCasts_S1024_S1x1024) (ix2 0 k) = X (ix2 0 k) := by
  pointwise

theorem v7_at (c : Dev nD) (k : Fin 1024) :
    (V m c main_v7 : Vec Ideal S1x1024 .f32) (ix2 0 k) = (m ((c.tc : Thread nD τ).loc main_arg3) : Vec Ideal S1x1024 .f32) (ix2 0 k) := by
  have hv : (V m c main_v7 : Vec Ideal S1x1024 .f32) = shapeCast S1x1024 (shapeCast S1024 (m ((c.tc : Thread nD τ).loc main_arg3) : Vec Ideal S1x1024 .f32) shapeCasts_S1x1024_S1024) shapeCasts_S1024_S1x1024 := by
    entry_read; rfl
  exact (congrFun hv _).trans (v7_read _ k)

theorem v4_read (X : Vec Ideal S1x1024x5632 .f32) (k : Fin 1024) (n : Fin 5632) : (truncf (F := Ideal) .bf16 (shapeCast S1024x5632 X shapeCasts_S1x1024x5632_S1024x5632) bitsLt_bf16_f32) (ix2 k n) = X (ix3 0 k n) := by
  pointwise

theorem v4_at (c : Dev nD) (k : Fin 1024) (n : Fin 5632) :
    (V m c main_v4 : Vec Ideal S1024x5632 .bf16) (ix2 k n) = (m ((c.tc : Thread nD τ).loc main_arg4) : Vec Ideal S1x1024x5632 .f32) (ix3 0 k n) := by
  have hv : (V m c main_v4 : Vec Ideal S1024x5632 .bf16) = truncf (F := Ideal) .bf16 (shapeCast S1024x5632 (m ((c.tc : Thread nD τ).loc main_arg4) : Vec Ideal S1x1024x5632 .f32) shapeCasts_S1x1024x5632_S1024x5632) bitsLt_bf16_f32 := by
    entry_read; rfl
  exact (congrFun hv _).trans (v4_read _ k n)

theorem v6_read (X : Vec Ideal S1x2816x1024 .f32) (k : Fin 2816) (n : Fin 1024) : (truncf (F := Ideal) .bf16 (shapeCast S2816x1024 X shapeCasts_S1x2816x1024_S2816x1024) bitsLt_bf16_f32) (ix2 k n) = X (ix3 0 k n) := by
  pointwise

theorem v6_at (c : Dev nD) (k : Fin 2816) (n : Fin 1024) :
    (V m c main_v6 : Vec Ideal S2816x1024 .bf16) (ix2 k n) = (m ((c.tc : Thread nD τ).loc main_arg5) : Vec Ideal S1x2816x1024 .f32) (ix3 0 k n) := by
  have hv : (V m c main_v6 : Vec Ideal S2816x1024 .bf16) = truncf (F := Ideal) .bf16 (shapeCast S2816x1024 (m ((c.tc : Thread nD τ).loc main_arg5) : Vec Ideal S1x2816x1024 .f32) shapeCasts_S1x2816x1024_S2816x1024) bitsLt_bf16_f32 := by
    entry_read; rfl
  exact (congrFun hv _).trans (v6_read _ k n)

theorem v8_read (X : Vec Ideal S1024 .f32) (k : Fin 1024) : (shapeCast S1x1024 X shapeCasts_S1024_S1x1024) (ix2 0 k) = X (ix1 k) := by
  pointwise

theorem v8_at (c : Dev nD) (k : Fin 1024) :
    (V m c main_v8 : Vec Ideal S1x1024 .f32) (ix2 0 k) = (m ((c.tc : Thread nD τ).loc main_arg6) : Vec Ideal S1024 .f32) (ix1 k) := by
  have hv : (V m c main_v8 : Vec Ideal S1x1024 .f32) = shapeCast S1x1024 (m ((c.tc : Thread nD τ).loc main_arg6) : Vec Ideal S1024 .f32) shapeCasts_S1024_S1x1024 := by
    entry_read; rfl
  exact (congrFun hv _).trans (v8_read _ k)

theorem point (c : Dev nD) (t : Fin cfg0.N) (y : S128x1024.Idx) :
    out0_7 (F := Ideal) (iblk m c 0 t) (iblk m c 1 t) (iblk m c 2 t) (iblk m c 3 t) (iblk m c 4 t) (iblk m c 5 t) (iblk m c 6 t) y
      = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 7).blk t).view.emb y) := by
  obtain ⟨i, n, rfl⟩ : ∃ i n, y = ix2 i n := ⟨y 0, y 1, eq_ix2 y⟩
  rw [block_at]
  have e0 : ∀ k, iblk m c 0 t (ix2 i k) = (m ((c.tc : Thread nD τ).loc main_arg0)) (ix2 (((cfg0.win 7).blk t).view.emb (ix2 i n) 0) k) := fun k => by
    blk_point [iblk, V, idx t]
  have e1 : ∀ k, iblk m c 1 t (ix2 i k) = (m ((c.tc : Thread nD τ).loc main_arg1)) (ix2 (((cfg0.win 7).blk t).view.emb (ix2 i n) 0) k) := fun k => by
    blk_point [iblk, V, idx t]
  have e2 : ∀ k n, iblk m c 2 t (ix2 k n) = (m ((c.tc : Thread nD τ).loc main_arg2)) (ix3 0 k n) := fun k n => by
    blk_simp [iblk]
    refine Eq.trans (congrArg (V m c main_v1) ?_) (v1_at m c k n)
    blk_ext [idx t]
  have e3 : ∀ k, iblk m c 3 t (ix2 0 k) = (m ((c.tc : Thread nD τ).loc main_arg3)) (ix2 0 k) := fun k => by
    blk_simp [iblk]
    refine Eq.trans (congrArg (V m c main_v7) ?_) (v7_at m c k)
    blk_ext [idx t]
  have e4 : ∀ k n, iblk m c 4 t (ix2 k n) = (m ((c.tc : Thread nD τ).loc main_arg4)) (ix3 0 k n) := fun k n => by
    blk_simp [iblk]
    refine Eq.trans (congrArg (V m c main_v4) ?_) (v4_at m c k n)
    blk_ext [idx t]
  have e5 : ∀ k n, iblk m c 5 t (ix2 k n) = (m ((c.tc : Thread nD τ).loc main_arg5)) (ix3 0 k n) := fun k n => by
    blk_simp [iblk]
    refine Eq.trans (congrArg (V m c main_v6) ?_) (v6_at m c k n)
    blk_ext [idx t]
  have e6 : ∀ k, iblk m c 6 t (ix2 0 k) = (m ((c.tc : Thread nD τ).loc main_arg6)) (ix1 k) := fun k => by
    blk_simp [iblk]
    refine Eq.trans (congrArg (V m c main_v8) ?_) (v8_at m c k)
    blk_ext [idx t]
  have en : ((cfg0.win 7).blk t).view.emb (ix2 i n) 1 = n := by
    apply Fin.ext; blk_simp [idx t]
  unfold arr
  simp only [e0, e1, e2, e3, e4, e5, e6]
  rw [en]

theorem final (c : Dev nD) : (dats m 0 c).arrAt 7 (cfgs 0).N = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t _ y => ?_
  blk_simp
  rw [after0_7]
  exact point m c t y
end Cert.Kernel6Ideal.Tail
-- ==== Proof.TailSampleRef.lean ====
module

public import proofs.«01_k».proof.Proof.Gen.Reference6Ideal.Run
public import proofs.«01_k».proof.Proof.Row
public import Idealize.ShloMosaic.Lib.Claim

/-! # The layer's tail, the reference's side

The reference's result, cut into the steps it is written in, is the row function `Row.tail` of each row. -/

@[expose] public section
set_option maxRecDepth 16384
noncomputable section
open Idealize.ShloMosaic Idealize.ShloMosaic.TcCoe Idealize.SL.Sem
namespace Cert.Reference6Ideal.Tail
open Cert.Reference6Ideal Cert.Reference6Ideal.Gen Cert.Row

/-- The residual with the attention's output projection. -/
def rAdd (h o : FVec Ideal S128x1024 .f32) (w : FVec Ideal S1x1024x1024 .f32) : FVec Ideal S128x1024 .f32 :=
  addf (F := Ideal) h (Host.dotGeneral dot_S128x1024_S1024x1024_S128x1024_1_0_0_1_n_n none o (shapeCast _ w shapeCasts_S1x1024x1024_S1024x1024))
/-- A normalisation. -/
def rNorm (x : FVec Ideal S128x1024 .f32) (w : FVec Ideal S1024 .f32) : FVec Ideal S128x1024 .f32 :=
  mulf (F := Ideal) (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 w))
/-- Gate and up projections. -/
def rGu (x : FVec Ideal S128x1024 .f32) (w : FVec Ideal S1x1024x5632 .f32) : FVec Ideal S128x5632 .f32 :=
  Host.dotGeneral (F := Ideal) dot_S128x1024_S1024x5632_S128x5632_1_0_0_1_n_n none x (shapeCast _ w shapeCasts_S1x1024x5632_S1024x5632)
/-- The gated units. -/
def rAct (g : FVec Ideal S128x5632 .f32) : FVec Ideal S128x2816 .f32 :=
  mulf (F := Ideal) (mulf (extractStridedSlice S128x2816 ![0, 0] g slices_S128x5632_S128x2816_0_0) (Host.divf (broadcastInDim S128x2816 ![] bcast_S_S128x2816 (constant S_ .f32 0x3F800000#32)) (addf (broadcastInDim S128x2816 ![] bcast_S_S128x2816 (constant S_ .f32 0x3F800000#32)) (Host.exp (Host.negf (extractStridedSlice S128x2816 ![0, 0] g slices_S128x5632_S128x2816_0_0)))))) (extractStridedSlice S128x2816 ![0, 2816] g slices_S128x5632_S128x2816_0_2816)
/-- The feed-forward step's output added to the residual. -/
def rDown (h : FVec Ideal S128x1024 .f32) (a : FVec Ideal S128x2816 .f32) (w : FVec Ideal S1x2816x1024 .f32) : FVec Ideal S128x1024 .f32 :=
  addf (F := Ideal) h (Host.dotGeneral dot_S128x2816_S2816x1024_S128x1024_1_0_0_1_n_n none a (shapeCast _ w shapeCasts_S1x2816x1024_S2816x1024))

theorem rAdd_at (h o w) (r : Fin 128) (n : Fin 1024) :
    rAdd h o w (ix2 r n) = added (fun k => h (ix2 r k)) (fun k => o (ix2 r k)) (fun k n => w (ix3 0 k n)) n := by
  pointwise [rAdd, added, mm]
theorem rNorm_at (x w) (r : Fin 128) (n : Fin 1024) : rNorm x w (ix2 r n) = rms (fun k => x (ix2 r k)) (fun k => w (ix1 k)) n := by
  pointwise [rNorm, rms]
theorem rGu_at (x w) (r : Fin 128) (n : Fin 5632) : rGu x w (ix2 r n) = mm (fun k => x (ix2 r k)) (fun k n => w (ix3 0 k n)) n := by
  pointwise [rGu, mm]
theorem rAct_at (g) (r : Fin 128) (f : Fin 2816) :
    rAct g (ix2 r f) = silu (g (ix2 r ⟨f, by omega⟩)) * g (ix2 r ⟨2816 + f, by omega⟩) := by
  pointwise [rAct, silu]
  try blk_ext
theorem rDown_at (h a w) (r : Fin 128) (n : Fin 1024) :
    rDown h a w (ix2 r n) = h (ix2 r n) + mm (fun k => a (ix2 r k)) (fun k n => w (ix3 0 k n)) n := by
  pointwise [rDown, mm]

variable (m : (ℓ : Loc nD τ sig) → Buf (Elt Ideal) ℓ)

theorem res_eq (c : Dev nD) : (Cert.Reference6Ideal.Value.res_out0 (F := Ideal) m c : FVec Ideal S128x1024 .f32) =
    rNorm (rDown (rAdd (m ((c.tc : Thread nD τ).loc main_arg0)) (m ((c.tc : Thread nD τ).loc main_arg1)) (m ((c.tc : Thread nD τ).loc main_arg2)))
      (rAct (rGu (rNorm (rAdd (m ((c.tc : Thread nD τ).loc main_arg0)) (m ((c.tc : Thread nD τ).loc main_arg1)) (m ((c.tc : Thread nD τ).loc main_arg2)))
        (shapeCast _ (m ((c.tc : Thread nD τ).loc main_arg3) : FVec Ideal S1x1024 .f32) shapeCasts_S1x1024_S1024)) (m ((c.tc : Thread nD τ).loc main_arg4))))
      (m ((c.tc : Thread nD τ).loc main_arg5))) (m ((c.tc : Thread nD τ).loc main_arg6)) := rfl

theorem norm_read (w : FVec Ideal S1x1024 .f32) (k : Fin 1024) : shapeCast S1024 w shapeCasts_S1x1024_S1024 (ix1 k) = w (ix2 0 k) := by
  pointwise

/-- The reference's result, row by row. -/
theorem steps_at (h o wxo wn wgu wd wf) (r : Fin 128) (n : Fin 1024) :
    rNorm (rDown (rAdd h o wxo) (rAct (rGu (rNorm (rAdd h o wxo) (shapeCast _ (wn : FVec Ideal S1x1024 .f32) shapeCasts_S1x1024_S1024)) wgu)) wd) wf (ix2 r n)
      = tail (fun k => h (ix2 r k)) (fun k => o (ix2 r k)) (fun k n => wxo (ix3 0 k n)) (fun k => wn (ix2 0 k)) (fun k n => wgu (ix3 0 k n))
        (fun k n => wd (ix3 0 k n)) (fun k => wf (ix1 k)) n := by
  simp only [rNorm_at, rDown_at, rAct_at, rGu_at, rAdd_at, norm_read]
  rfl

/-- The reference's result over arguments named by the other program. -/
theorem result (c : Dev nD) (h o : FVec Ideal S128x1024 .f32) (wxo : FVec Ideal S1x1024x1024 .f32) (wn : FVec Ideal S1x1024 .f32)
    (wgu : FVec Ideal S1x1024x5632 .f32) (wd : FVec Ideal S1x2816x1024 .f32) (wf : FVec Ideal S1024 .f32)
    (e0 : m ((c.tc : Thread nD τ).loc main_arg0) = h) (e1 : m ((c.tc : Thread nD τ).loc main_arg1) = o) (e2 : m ((c.tc : Thread nD τ).loc main_arg2) = wxo)
    (e3 : m ((c.tc : Thread nD τ).loc main_arg3) = wn) (e4 : m ((c.tc : Thread nD τ).loc main_arg4) = wgu) (e5 : m ((c.tc : Thread nD τ).loc main_arg5) = wd)
    (e6 : m ((c.tc : Thread nD τ).loc main_arg6) = wf) :
    (Cert.Reference6Ideal.Value.res_out0 (F := Ideal) m c : FVec Ideal S128x1024 .f32) = fun j =>
      tail (fun k => h (ix2 (j 0) k)) (fun k => o (ix2 (j 0) k)) (fun k n => wxo (ix3 0 k n)) (fun k => wn (ix2 0 k)) (fun k n => wgu (ix3 0 k n))
        (fun k n => wd (ix3 0 k n)) (fun k => wf (ix1 k)) (j 1) := by
  subst e0 e1 e2 e3 e4 e5 e6
  rw [res_eq]
  funext j
  obtain ⟨r, n, rfl⟩ : ∃ r n, j = ix2 r n := ⟨j 0, j 1, eq_ix2 j⟩
  exact steps_at _ _ _ _ _ _ _ r n
end Cert.Reference6Ideal.Tail
-- ==== Proof.Alg6.lean ====
module

public import proofs.«01_k».proof.Defs
public import proofs.«01_k».proof.Proof.TailSample
public import proofs.«01_k».proof.Proof.TailSampleRef
public import Idealize.ShloMosaic.Lib.Claim

/-! # Claim 6: the tail kernel and its reference give the same result -/

@[expose] public section
set_option maxRecDepth 16384
open Idealize.ShloMosaic Idealize.ShloMosaic.TcCoe Idealize.SL.Sem
namespace Cert.Proof

theorem algebraic6 : Cert.algebraic_Kernel6Ideal_Reference6Ideal := by
  pair_intro
  · run_from Cert.Kernel6Ideal.Gen.run_main m g
  · have h := fun c => Cert.Reference6Ideal.Tail.result m' c _ _ _ _ _ _ _ (hagree c).1 (hagree c).2.1 (hagree c).2.2.1 (hagree c).2.2.2.1 (hagree c).2.2.2.2.1
      (hagree c).2.2.2.2.2.1 (hagree c).2.2.2.2.2.2
    run_from Cert.Reference6Ideal.Value.run m' g'
    exact (h c).trans (Cert.Kernel6Ideal.Tail.final m c).symm
end Cert.Proof
-- ==== Proof.Attend.lean ====
module

public import proofs.«01_k».proof.Proof.Finite

/-! # The middle of the layer, one row at a time

The mixer's output projection with the residual, the query of the cross attention and its softmax average. The kernel scales the
queries and divides once at the end; the reference scales the scores and divides every weight. Over finite scores the two agree. -/

@[expose] public section
noncomputable section
open Idealize.ShloMosaic
namespace Cert.Row

/-- The residual row with the projected mixer output added, the two halves of the mixer output kept apart. -/
def mixed (om og : Fin 512 → EReal) (x : Fin 1024 → EReal) (w : Fin 1024 → Fin 1024 → EReal) (n : Fin 1024) : EReal :=
  x n + ((∑ k : Fin 512, om k * w ⟨k, by omega⟩ n) + ∑ k : Fin 512, og k * w ⟨512 + k, by omega⟩ n)

/-- A row of 1024 made of two halves. -/
def joined (om og : Fin 512 → EReal) (k : Fin 1024) : EReal := if h : k.val < 512 then om ⟨k, h⟩ else og ⟨k - 512, by omega⟩

theorem mm_joined (om og : Fin 512 → EReal) (w : Fin 1024 → Fin 1024 → EReal) (n : Fin 1024) :
    mm (joined om og) w n = (∑ k : Fin 512, om k * w ⟨k, by omega⟩ n) + ∑ k : Fin 512, og k * w ⟨512 + k, by omega⟩ n := by
  unfold mm
  refine (Fin.sum_univ_add (a := 512) (b := 512) fun k : Fin 1024 => joined om og k * w k n).trans ?_
  refine congrArg₂ (· + ·) (Finset.sum_congr rfl fun k _ => congrArg (· * _) ?_) (Finset.sum_congr rfl fun k _ => congrArg (· * _) ?_)
  · exact dif_pos k.isLt
  · refine (dif_neg (by show ¬ (512 + k.val < 512); omega)).trans (congrArg og (Fin.ext ?_))
    show 512 + k.val - 512 = k.val
    omega

/-- One over the square root of the head size. -/
abbrev c16 : EReal := Ideal.ofBits FTy.f32 1031798784#32
theorem c16_real : ∃ r : ℝ, 0 ≤ r ∧ c16 = (r : EReal) := by
  refine ⟨1 / 16, by norm_num, ?_⟩
  simp [c16, Ideal.ofBits, Ideal.ieee]
  norm_num
  rw [← EReal.coe_mul]
  norm_num

theorem low_eq : Ideal.ofBits FTy.f32 4286578688#32 = (⊥ : EReal) := by simp [Ideal.ofBits, Ideal.ieee]

/-- A number that is not negative comes out of a sum of any values. -/
theorem sum_scale {n : ℕ} (f : Fin n → EReal) (r : ℝ) (hr : 0 ≤ r) : ∑ j, f j * (r : EReal) = (∑ j, f j) * (r : EReal) := by
  have hd : ∀ a b : EReal, (a + b) * (r : EReal) = a * r + b * r := fun a b =>
    EReal.right_distrib_of_nonneg_of_ne_top (EReal.coe_nonneg.mpr hr) (EReal.coe_ne_top r) a b
  exact (map_sum (⟨⟨fun a : EReal => a * (r : EReal), zero_mul _⟩, hd⟩ : EReal →+ EReal) f Finset.univ).symm

/-- The largest score. -/
def peak {n : ℕ} (s : Fin n → EReal) : EReal := Finset.fold max (Ideal.ofBits FTy.f32 4286578688#32) s Finset.univ

theorem peak_num {n : ℕ} (s : Fin n → EReal) (j : Fin n) (h : ∀ j, IsNum (s j)) : IsNum (peak s) := by
  unfold peak
  rw [low_eq]
  constructor
  · refine ne_of_lt ?_
    rw [Finset.fold_max_lt]
    exact ⟨bot_lt_top, fun j _ => lt_top_iff_ne_top.mpr (h j).1⟩
  · refine ne_of_gt ?_
    rw [Finset.lt_fold_max]
    exact Or.inr ⟨j, Finset.mem_univ j, bot_lt_iff_ne_bot.mpr (h j).2⟩

/-- The softmax average as the kernel takes it: weigh the values, then divide once. -/
def average {n : ℕ} (s v : Fin n → EReal) : EReal :=
  Ideal.div (∑ j, Ideal.exp (s j - peak s) * v j) (∑ j, Ideal.exp (s j - peak s))
/-- As the reference takes it: divide every weight. -/
def averageOf {n : ℕ} (s v : Fin n → EReal) : EReal :=
  ∑ j, v j * Ideal.div (Ideal.exp (s j - peak s)) (∑ j, Ideal.exp (s j - peak s))

theorem average_eq {n : ℕ} (s v : Fin (n + 1) → EReal) (h : ∀ j, IsNum (s j)) : averageOf s v = average s v := by
  obtain ⟨p, hp⟩ := (peak_num s 0 h).lift
  choose y hy using fun j => (h j).lift
  have he : ∀ j, Ideal.exp (s j - peak s) = ((Real.exp (y j - p) : ℝ) : EReal) := fun j => by
    rw [hp, hy, ← EReal.coe_sub]
    rfl
  have hL : ∑ j, Ideal.exp (s j - peak s) = ((∑ j, Real.exp (y j - p) : ℝ) : EReal) := by
    simp only [he]
    exact (map_sum (⟨⟨Real.toEReal, rfl⟩, EReal.coe_add⟩ : ℝ →+ EReal) (fun j => Real.exp (y j - p)) Finset.univ).symm
  have hpos : 0 < ∑ j, Real.exp (y j - p) := Finset.sum_pos (fun j _ => Real.exp_pos _) Finset.univ_nonempty
  have hne : ((∑ j, Real.exp (y j - p) : ℝ) : EReal) ≠ 0 := by exact_mod_cast hpos.ne'
  unfold average averageOf Ideal.div
  rw [hL]
  simp only [if_neg hne, ← EReal.coe_inv]
  rw [← sum_scale _ _ (inv_nonneg.mpr hpos.le)]
  exact Finset.sum_congr rfl fun j _ => by rw [mul_comm (v j), mul_assoc, mul_comm _ (v j), mul_assoc]

theorem num_add {x y : EReal} (hx : IsNum x) (hy : IsNum y) : IsNum (x + y) := by
  obtain ⟨a, rfl⟩ := hx.lift
  obtain ⟨b, rfl⟩ := hy.lift
  exact IsNum.coe (a + b)
theorem num_sum {n : ℕ} (f : Fin n → EReal) (h : ∀ j, IsNum (f j)) : IsNum (∑ j, f j) := by
  choose y hy using fun j => (h j).lift
  have : ∑ j, f j = ((∑ j, y j : ℝ) : EReal) := by
    simp only [hy]
    exact (map_sum (⟨⟨Real.toEReal, rfl⟩, EReal.coe_add⟩ : ℝ →+ EReal) y Finset.univ).symm
  rw [this]
  exact IsNum.coe _

/-- The scaled score of a query and a key. -/
def score (q k : Fin 256 → EReal) : EReal := (∑ d, q d * k d) * c16
/-- Scaling the query first gives the same. -/
theorem score_eq (q k : Fin 256 → EReal) : ∑ d, q d * c16 * k d = score q k := by
  obtain ⟨r, hr, hc⟩ := c16_real
  unfold score
  rw [hc, ← sum_scale _ _ hr]
  exact Finset.sum_congr rfl fun d _ => by rw [mul_assoc, mul_comm (r : EReal), mul_assoc]
theorem score_num (q k : Fin 256 → EReal) (hq : ∀ d, IsNum (q d)) (hk : ∀ d, IsNum (k d)) : IsNum (score q k) := by
  obtain ⟨r, -, hc⟩ := c16_real
  exact (num_sum _ fun d => (hq d).mul (hk d)).mul (hc ▸ IsNum.coe r)

/-- Column `d` of head `a`. -/
def headCol (a : Fin 4) (d : Fin 256) : Fin 1024 := ⟨a * 256 + d, by omega⟩
/-- The head of a column. -/
def headOf (n : Fin 1024) : Fin 4 := ⟨n / 256, by omega⟩

/-- The scores of one head against the 256 memory rows. -/
def scores (q : Fin 1024 → EReal) (K : Fin 256 → Fin 1024 → EReal) (a : Fin 4) (j : Fin 256) : EReal :=
  score (fun d => q (headCol a d)) (fun d => K j (headCol a d))
/-- The cross attention of one query row. -/
def attend (q : Fin 1024 → EReal) (K V : Fin 256 → Fin 1024 → EReal) (n : Fin 1024) : EReal :=
  average (scores q K (headOf n)) (fun j => V j n)

theorem scores_num (x w : Fin 1024 → EReal) (W : Fin 1024 → Fin 1024 → EReal) (K : Fin 256 → Fin 1024 → EReal) (a : Fin 4) (j : Fin 256)
    (hw : ∀ n, IsNum (w n)) (hW : ∀ k n, IsNum (W k n)) (hK : ∀ j n, IsNum (K j n)) : IsNum (scores (mm (rms x w) W) K a j) :=
  score_num _ _ (fun _ => num_sum _ fun k => (rms_real x w k (hw k)).mul (hW k _)) fun _ => hK _ _

/-- The scores of token `b` in head `a`. -/
def tokenScores (q : FVec Ideal ⟨2, ![128, 1024]⟩ .f32) (K : FVec Ideal ⟨5, ![1, 128, 256, 4, 256]⟩ .f32) (b : Fin 128) (a : Fin 4) (j : Fin 256) : EReal :=
  score (fun d => q (ix2 b (headCol a d))) (fun d => K (ix5 0 b j a d))
/-- The cross attention of the sampled tokens. -/
def tokenAt (q : FVec Ideal ⟨2, ![128, 1024]⟩ .f32) (K V : FVec Ideal ⟨5, ![1, 128, 256, 4, 256]⟩ .f32) (b : Fin 128) (a : Fin 4) (d : Fin 256) : EReal :=
  average (tokenScores q K b a) (fun j => V (ix5 0 b j a d))
def tokens (q : FVec Ideal ⟨2, ![128, 1024]⟩ .f32) (K V : FVec Ideal ⟨5, ![1, 128, 256, 4, 256]⟩ .f32) : FVec Ideal ⟨3, ![128, 4, 256]⟩ .f32 :=
  fun j => tokenAt q K V (j 0) (j 1) (j 2)

end Cert.Row
-- ==== Proof.Mid.lean ====
module

public import proofs.«01_k».proof.Proof.Gen.Kernel7Ideal.Frame
public import proofs.«01_k».proof.Proof.Attend
public import Idealize.ShloMosaic.Lib.Claim

/-! # The middle of the layer, prompt batch: the kernel's side

Each grid point takes 512 rows through the mixer's output projection, the residual, the query projection and, one head at a time,
the cross attention over the 256 memory rows of their sequence. -/

@[expose] public section
set_option maxRecDepth 16384
noncomputable section
open Idealize.ShloMosaic Idealize.ShloMosaic.TcCoe Idealize.SL.Sem
open Idealize.ShloMosaic.Pipeline (Dat)
namespace Cert.Kernel7Ideal.Mid
open Cert.Kernel7Ideal Cert.Kernel7Ideal.Gen Cert.Row

theorem pay2_at (x om og) (wa wb : Vec Ideal S512x1024 .bf16) (i : Fin 512) (n : Fin 1024) :
    k0_pay2 (F := Ideal) x om wa og wb (ix2 i n)
      = x (ix2 i n) + ((∑ k : Fin 512, om (ix2 i k) * wa (ix2 k n)) + ∑ k : Fin 512, og (ix2 i k) * wb (ix2 k n)) := by
  pointwise [k0_pay2]
theorem pay3_at (x om og) (wa wb : Vec Ideal S512x1024 .bf16) (w W) (i : Fin 512) (n : Fin 1024) :
    k0_pay3 (F := Ideal) x om wa og wb w W (ix2 i n)
      = mm (rms (fun k => k0_pay2 (F := Ideal) x om wa og wb (ix2 i k)) (fun k => w (ix2 0 k))) (fun k n => W (ix2 k n)) n := by
  pointwise [k0_pay3, mm, rms]

theorem ld2 (x : Vec Ideal S1024x1024 .bf16) (k : Fin 512) (n : Fin 1024) : View.ld x r0_2 (ix2 k n) = x (ix2 ⟨k, by omega⟩ n) := by
  pointwise; blk_ext
theorem ld3 (x : Vec Ideal S1024x1024 .bf16) (k : Fin 512) (n : Fin 1024) : View.ld x r0_3 (ix2 k n) = x (ix2 ⟨512 + k, by omega⟩ n) := by
  pointwise; blk_ext
theorem ld6 (x : Vec Ideal S1x256x1024 .f32) (k : Fin 256) (n : Fin 256) : View.ld x r0_6 (ix3 0 k n) = x (ix3 0 k (headCol 0 n)) := by
  pointwise; blk_ext [headCol]
theorem ld8 (x : Vec Ideal S1x256x1024 .f32) (k : Fin 256) (n : Fin 256) : View.ld x r0_8 (ix3 0 k n) = x (ix3 0 k (headCol 1 n)) := by
  pointwise; blk_ext [headCol]
theorem ld10 (x : Vec Ideal S1x256x1024 .f32) (k : Fin 256) (n : Fin 256) : View.ld x r0_10 (ix3 0 k n) = x (ix3 0 k (headCol 2 n)) := by
  pointwise; blk_ext [headCol]
theorem ld12 (x : Vec Ideal S1x256x1024 .f32) (k : Fin 256) (n : Fin 256) : View.ld x r0_12 (ix3 0 k n) = x (ix3 0 k (headCol 3 n)) := by
  pointwise; blk_ext [headCol]

/-- A tile's rows after the residual. -/
theorem block8 (x0 x1 : Vec Ideal S512x512 .f32) (x2 : Vec Ideal S512x1024 .f32) (x3 : Vec Ideal S1024x1024 .bf16) (x4 : Vec Ideal S1x1024 .f32) (x5 : Vec Ideal S1024x1024 .bf16) (x6 x7 : Vec Ideal S1x256x1024 .f32) (i : Fin 512) (n : Fin 1024) :
    out0_8 (F := Ideal) x0 x1 x2 x3 x4 x5 x6 x7 (ix2 i n) = mixed (fun k => x0 (ix2 i k)) (fun k => x1 (ix2 i k)) (fun k => x2 (ix2 i k)) (fun k n => x3 (ix2 k n)) n := by
  unfold out0_8
  frame_out
  rw [pay2_at]
  exact congrArg (_ + ·) (congrArg₂ (· + ·) (Finset.sum_congr rfl fun k _ => congrArg (_ * ·) (ld2 x3 k n)) (Finset.sum_congr rfl fun k _ => congrArg (_ * ·) (ld3 x3 k n)))

/-- The query rows of a tile. -/
abbrev queries (x0 x1 : Vec Ideal S512x512 .f32) (x2 : Vec Ideal S512x1024 .f32) (x3 : Vec Ideal S1024x1024 .bf16) (x4 : Vec Ideal S1x1024 .f32) (x5 : Vec Ideal S1024x1024 .bf16) (i : Fin 512) : Fin 1024 → EReal :=
  mm (rms (mixed (fun k => x0 (ix2 i k)) (fun k => x1 (ix2 i k)) (fun k => x2 (ix2 i k)) (fun k n => x3 (ix2 k n))) (fun k => x4 (ix2 0 k))) (fun k n => x5 (ix2 k n))

theorem mixed_ld (x0 x1 : Vec Ideal S512x512 .f32) (x2 : Vec Ideal S512x1024 .f32) (x3 : Vec Ideal S1024x1024 .bf16) (i : Fin 512) (n : Fin 1024) :
    k0_pay2 (F := Ideal) (View.ld x2 r0_0) (View.ld x0 r0_1) (View.ld x3 r0_2) (View.ld x1 r0_1) (View.ld x3 r0_3) (ix2 i n)
      = mixed (fun k => x0 (ix2 i k)) (fun k => x1 (ix2 i k)) (fun k => x2 (ix2 i k)) (fun k n => x3 (ix2 k n)) n := by
  have h0 : View.ld x0 r0_1 = x0 := by frame_out
  have h1 : View.ld x1 r0_1 = x1 := by frame_out
  have h2 : View.ld x2 r0_0 = x2 := by frame_out
  rw [h0, h1, h2, pay2_at]
  exact congrArg (_ + ·) (congrArg₂ (· + ·) (Finset.sum_congr rfl fun k _ => congrArg (_ * ·) (ld2 x3 k n)) (Finset.sum_congr rfl fun k _ => congrArg (_ * ·) (ld3 x3 k n)))

theorem pay3_ld (x0 x1 : Vec Ideal S512x512 .f32) (x2 : Vec Ideal S512x1024 .f32) (x3 : Vec Ideal S1024x1024 .bf16) (x4 : Vec Ideal S1x1024 .f32) (x5 : Vec Ideal S1024x1024 .bf16) (i : Fin 512) (n : Fin 1024) :
    k0_pay3 (F := Ideal) (View.ld x2 r0_0) (View.ld x0 r0_1) (View.ld x3 r0_2) (View.ld x1 r0_1) (View.ld x3 r0_3) (View.ld x4 r0_4) (View.ld x5 r0_5) (ix2 i n) = queries x0 x1 x2 x3 x4 x5 i n := by
  have h4 : View.ld x4 r0_4 = x4 := by frame_out
  have h5 : View.ld x5 r0_5 = x5 := by frame_out
  rw [pay3_at, h4, h5]
  simp only [mixed_ld]
theorem pay13_at (x0 x1 : Vec Ideal S512x512 .f32) (x2 : Vec Ideal S512x1024 .f32) (x3 : Vec Ideal S1024x1024 .bf16) (x4 : Vec Ideal S1x1024 .f32) (x5 : Vec Ideal S1024x1024 .bf16) (x6 x7 : Vec Ideal S1x256x1024 .f32) (i : Fin 512) (n : Fin 1024) :
    k0_pay13 (F := Ideal) x0 x1 x2 x3 x4 x5 x6 x7 (ix2 i n) = queries x0 x1 x2 x3 x4 x5 i n := pay3_ld x0 x1 x2 x3 x4 x5 i n

/-- The softmax average over one head, as every head's code takes it from its own slices. -/
abbrev headMix (q : Fin 1024 → EReal) (a : Fin 4) (k v : Vec Ideal S1x256x256 .f32) (n : Fin 256) : EReal :=
  average (fun j => ∑ d, q (headCol a d) * c16 * k (ix3 0 j d)) (fun j => v (ix3 0 j n))

theorem pay4_at (x om og) (wa wb : Vec Ideal S512x1024 .bf16) (w W) (i : Fin 512) (d : Fin 256) :
    k0_pay4 (F := Ideal) x om wa og wb w W (ix2 i d) = k0_pay3 (F := Ideal) x om wa og wb w W (ix2 i (headCol 0 d)) * c16 := by
  have hd : headCol 0 d = ⟨d.val, by omega⟩ := Fin.ext (by simp [headCol])
  rw [hd]
  pointwise [k0_pay4]
theorem pay5_at (q : FVec Ideal S512x256 .bf16) (k v : Vec Ideal S1x256x256 .f32) (i : Fin 512) (n : Fin 256) :
    k0_pay5 (F := Ideal) q k v (ix2 i n) = average (fun j => ∑ d, q (ix2 i d) * k (ix3 0 j d)) (fun j => v (ix3 0 j n)) := by
  pointwise [k0_pay5, average, peak]
theorem head0_at (x om og) (wa wb : Vec Ideal S512x1024 .bf16) (w W) (k v : Vec Ideal S1x256x256 .f32) (i : Fin 512) (n : Fin 256) :
    k0_pay5 (F := Ideal) (k0_pay4 x om wa og wb w W) k v (ix2 i n) = headMix (fun n => k0_pay3 (F := Ideal) x om wa og wb w W (ix2 i n)) 0 k v n := by
  rw [pay5_at]
  simp only [pay4_at]
theorem pay6_at (q : FVec Ideal S512x1024 .f32) (k : Vec Ideal S1x256x256 .f32) (i : Fin 512) (j : Fin 256) :
    k0_pay6 (F := Ideal) q k (ix2 i j) = Ideal.exp ((∑ d, q (ix2 i (headCol 1 d)) * c16 * k (ix3 0 j d)) - peak fun j => ∑ d, q (ix2 i (headCol 1 d)) * c16 * k (ix3 0 j d)) := by
  pointwise [k0_pay6, peak]
  rfl
theorem pay7_at (q : FVec Ideal S512x1024 .f32) (k : Vec Ideal S1x256x256 .f32) (i : Fin 512) :
    k0_pay7 (F := Ideal) q k (ix2 i 0) = ∑ j, k0_pay6 (F := Ideal) q k (ix2 i j) := by
  pointwise [k0_pay7]
theorem pay8_at (q : FVec Ideal S512x1024 .f32) (k v : Vec Ideal S1x256x256 .f32) (i : Fin 512) (n : Fin 256) :
    k0_pay8 (F := Ideal) q k v (ix2 i n) = ∑ j, k0_pay6 (F := Ideal) q k (ix2 i j) * v (ix3 0 j n) := by
  pointwise [k0_pay8]
theorem pay9_at (l p) (i : Fin 512) (n : Fin 256) : k0_pay9 (F := Ideal) l p (ix2 i n) = Ideal.div (p (ix2 i n)) (l (ix2 i 0)) := by
  pointwise [k0_pay9]
theorem head1_at (q : FVec Ideal S512x1024 .f32) (k v : Vec Ideal S1x256x256 .f32) (i : Fin 512) (n : Fin 256) :
    k0_pay9 (F := Ideal) (k0_pay7 q k) (k0_pay8 q k v) (ix2 i n) = headMix (fun n => q (ix2 i n)) 1 k v n := by
  rw [pay9_at, pay7_at, pay8_at]
  simp only [pay6_at]
  rfl
theorem head2_at (q : FVec Ideal S512x1024 .f32) (k v : Vec Ideal S1x256x256 .f32) (i : Fin 512) (n : Fin 256) :
    k0_pay10 (F := Ideal) q k v (ix2 i n) = headMix (fun n => q (ix2 i n)) 2 k v n := by
  pointwise [k0_pay10, headMix, average, peak]
  rfl
theorem head3_at (q : FVec Ideal S512x1024 .f32) (k v : Vec Ideal S1x256x256 .f32) (i : Fin 512) (n : Fin 256) :
    k0_pay1 (F := Ideal) (k0_pay11 q k) (k0_pay12 q k) v (ix2 i n) = headMix (fun n => q (ix2 i n)) 3 k v n := by
  pointwise [k0_pay1, k0_pay11, k0_pay12, headMix, average, peak]
  rfl

theorem average_congr {n : ℕ} {s s' v v' : Fin n → EReal} (hs : s = s') (hv : v = v') : average s v = average s' v' := by rw [hs, hv]

theorem headOf_col (n : Fin 1024) (a : Fin 4) (n' : Fin 256) (h : n.val = a.val * 256 + n'.val) : headOf n = a ∧ headCol a n' = n :=
  ⟨Fin.ext (by show n.val / 256 = a.val; omega), Fin.ext h.symm⟩

/-- One head's average over its slices is that part of the attention. -/
theorem headMix_eq (q : Fin 1024 → EReal) (a : Fin 4) (K V : Vec Ideal S1x256x1024 .f32) (k v : Vec Ideal S1x256x256 .f32)
    (hk : ∀ j d, k (ix3 0 j d) = K (ix3 0 j (headCol a d))) (hv : ∀ j d, v (ix3 0 j d) = V (ix3 0 j (headCol a d))) (n : Fin 1024) (n' : Fin 256)
    (h : n.val = a.val * 256 + n'.val) : headMix q a k v n' = attend q (fun j n => K (ix3 0 j n)) (fun j n => V (ix3 0 j n)) n := by
  obtain ⟨h1, h2⟩ := headOf_col n a n' h
  unfold attend
  rw [h1]
  refine average_congr (funext fun j => ?_) (funext fun j => ?_)
  · simp only [hk]
    exact score_eq _ _
  · rw [hv, h2]

/-- A tile's rows of the cross attention. -/
theorem block9 (x0 x1 : Vec Ideal S512x512 .f32) (x2 : Vec Ideal S512x1024 .f32) (x3 : Vec Ideal S1024x1024 .bf16) (x4 : Vec Ideal S1x1024 .f32) (x5 : Vec Ideal S1024x1024 .bf16) (x6 x7 : Vec Ideal S1x256x1024 .f32) (i : Fin 512) (n : Fin 1024) :
    out0_9 (F := Ideal) x0 x1 x2 x3 x4 x5 x6 x7 (ix2 i n) = attend (queries x0 x1 x2 x3 x4 x5 i) (fun j n => x6 (ix3 0 j n)) (fun j n => x7 (ix3 0 j n)) n := by
  unfold out0_9
  generalize hy : (ix2 i n : S512x1024.Idx) = y
  canon_tiles x g
  case piece0 =>
    obtain ⟨i', n', rfl⟩ : ∃ d n, x = ix2 d n := ⟨x 0, x 1, by blk_ext⟩
    obtain rfl : i = i' := Fin.ext (by subst hy; simpa using g0)
    have hn : n.val = 768 + n'.val := by subst hy; simpa using g1
    rw [head3_at]
    simp only [pay13_at]
    exact headMix_eq _ 3 x6 x7 _ _ (ld12 x6) (ld12 x7) n n' (by omega)
  case piece1 =>
    obtain ⟨i', n', rfl⟩ : ∃ d n, x = ix2 d n := ⟨x 0, x 1, by blk_ext⟩
    obtain rfl : i = i' := Fin.ext (by subst hy; simpa using g0)
    have hn : n.val = 512 + n'.val := by subst hy; simpa using g1
    rw [head2_at]
    simp only [pay13_at]
    exact headMix_eq _ 2 x6 x7 _ _ (ld10 x6) (ld10 x7) n n' (by omega)
  case piece2 =>
    obtain ⟨i', n', rfl⟩ : ∃ d n, x = ix2 d n := ⟨x 0, x 1, by blk_ext⟩
    obtain rfl : i = i' := Fin.ext (by subst hy; simpa using g0)
    have hn : n.val = 256 + n'.val := by subst hy; simpa using g1
    rw [head1_at]
    simp only [pay13_at]
    exact headMix_eq _ 1 x6 x7 _ _ (ld8 x6) (ld8 x7) n n' (by omega)
  case piece3 =>
    obtain ⟨i', n', rfl⟩ : ∃ d n, x = ix2 d n := ⟨x 0, x 1, by blk_ext⟩
    obtain rfl : i = i' := Fin.ext (by subst hy; simpa using g0)
    have hn : n.val = n'.val := by subst hy; simpa using g1
    rw [head0_at]
    simp only [pay3_ld]
    exact headMix_eq _ 0 x6 x7 _ _ (ld6 x6) (ld6 x7) n n' (by omega)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val / 16, 0, 0] ∧ win0_7.index t = ![t.val / 16, 0, 0]
    ∧ win0_8.index t = ![t.val, 0] ∧ win0_9.index t = ![t.val, 0] :=
  (by decide +kernel : ∀ t : Fin grid0.N, _)
theorem tile (t : Fin cfg0.N) : t.val < 128 := t.isLt

/-- The residual rows as a function of the arguments. -/
def rows (om og : Vec Ideal S65536x512 .f32) (x : Vec Ideal S65536x1024 .f32) (w : Vec Ideal S1x1024x1024 .f32) (r : Fin 65536) : Fin 1024 → EReal :=
  mixed (fun k => om (ix2 r k)) (fun k => og (ix2 r k)) (fun k => x (ix2 r k)) (fun k n => w (ix3 0 k n))
def residual (om og : Vec Ideal S65536x512 .f32) (x : Vec Ideal S65536x1024 .f32) (w : Vec Ideal S1x1024x1024 .f32) : Vec Ideal S65536x1024 .f32 :=
  fun j => rows om og x w (j 0) (j 1)
/-- The cross attention of row `r` as a function of the arguments. -/
def crossAt (om og : Vec Ideal S65536x512 .f32) (x : Vec Ideal S65536x1024 .f32) (w : Vec Ideal S1x1024x1024 .f32) (nw : Vec Ideal S1x1024 .f32)
    (W : Vec Ideal S1x1024x1024 .f32) (K V : Vec Ideal S8x256x1024 .f32) (r : Fin 65536) (n : Fin 1024) : EReal :=
  attend (mm (rms (rows om og x w r) (fun k => nw (ix2 0 k))) (fun k n => W (ix3 0 k n)))
    (fun j n => K (ix3 ⟨r.val / 8192, by omega⟩ j n)) (fun j n => V (ix3 ⟨r.val / 8192, by omega⟩ j n)) n
def cross (om og : Vec Ideal S65536x512 .f32) (x : Vec Ideal S65536x1024 .f32) (w : Vec Ideal S1x1024x1024 .f32) (nw : Vec Ideal S1x1024 .f32)
    (W : Vec Ideal S1x1024x1024 .f32) (K V : Vec Ideal S8x256x1024 .f32) : Vec Ideal S65536x1024 .f32 :=
  fun j => crossAt om og x w nw W K V (j 0) (j 1)

theorem vw_read (X : Vec Ideal S1x1024x1024 .f32) (k n : Fin 1024) : (truncf (F := Ideal) .bf16 (shapeCast S1024x1024 X shapeCasts_S1x1024x1024_S1024x1024) bitsLt_bf16_f32) (ix2 k n) = X (ix3 0 k n) := by
  pointwise
theorem v1_at (c : Dev nD) (k n : Fin 1024) :
    (V m c main_v1 : Vec Ideal S1024x1024 .bf16) (ix2 k n) = (m ((c.tc : Thread nD τ).loc main_arg3) : Vec Ideal S1x1024x1024 .f32) (ix3 0 k n) := by
  have hv : (V m c main_v1 : Vec Ideal S1024x1024 .bf16) = truncf (F := Ideal) .bf16 (shapeCast S1024x1024 (m ((c.tc : Thread nD τ).loc main_arg3) : Vec Ideal S1x1024x1024 .f32) shapeCasts_S1x1024x1024_S1024x1024) bitsLt_bf16_f32 := by
    entry_read; rfl
  exact (congrFun hv _).trans (vw_read _ k n)
theorem v4_at (c : Dev nD) (k n : Fin 1024) :
    (V m c main_v4 : Vec Ideal S1024x1024 .bf16) (ix2 k n) = (m ((c.tc : Thread nD τ).loc main_arg5) : Vec Ideal S1x1024x1024 .f32) (ix3 0 k n) := by
  have hv : (V m c main_v4 : Vec Ideal S1024x1024 .bf16) = truncf (F := Ideal) .bf16 (shapeCast S1024x1024 (m ((c.tc : Thread nD τ).loc main_arg5) : Vec Ideal S1x1024x1024 .f32) shapeCasts_S1x1024x1024_S1024x1024) bitsLt_bf16_f32 := by
    entry_read; rfl
  exact (congrFun hv _).trans (vw_read _ k n)
theorem v5_read (X : Vec Ideal S1x1024 .f32) (k : Fin 1024) : (shapeCast S1x1024 (shapeCast S1024 X shapeCasts_S1x1024_S1024) shapeCasts_S1024_S1x1024) (ix2 0 k) = X (ix2 0 k) := by
  pointwise
theorem v5_at (c : Dev nD) (k : Fin 1024) :
    (V m c main_v5 : Vec Ideal S1x1024 .f32) (ix2 0 k) = (m ((c.tc : Thread nD τ).loc main_arg4) : Vec Ideal S1x1024 .f32) (ix2 0 k) := by
  have hv : (V m c main_v5 : Vec Ideal S1x1024 .f32) = shapeCast S1x1024 (shapeCast S1024 (m ((c.tc : Thread nD τ).loc main_arg4) : Vec Ideal S1x1024 .f32) shapeCasts_S1x1024_S1024) shapeCasts_S1024_S1x1024 := by
    entry_read; rfl
  exact (congrFun hv _).trans (v5_read _ k)

theorem e0 (c : Dev nD) (t : Fin cfg0.N) (i : Fin 512) (k : Fin 512) : iblk m c 0 t (ix2 i k) = (m ((c.tc : Thread nD τ).loc main_arg0) : Vec Ideal S65536x512 .f32) (ix2 ⟨t.val * 512 + i.val, by have := tile t; omega⟩ k) := by
  have := tile t
  blk_simp [iblk]
  refine Eq.trans (congrArg (V m c main_arg0) ?_) (congrFun (V_main_arg0 m c) _)
  blk_ext [idx t]
theorem e1 (c : Dev nD) (t : Fin cfg0.N) (i : Fin 512) (k : Fin 512) : iblk m c 1 t (ix2 i k) = (m ((c.tc : Thread nD τ).loc main_arg1) : Vec Ideal S65536x512 .f32) (ix2 ⟨t.val * 512 + i.val, by have := tile t; omega⟩ k) := by
  have := tile t
  blk_simp [iblk]
  refine Eq.trans (congrArg (V m c main_arg1) ?_) (congrFun (V_main_arg1 m c) _)
  blk_ext [idx t]
theorem e2 (c : Dev nD) (t : Fin cfg0.N) (i : Fin 512) (k : Fin 1024) : iblk m c 2 t (ix2 i k) = (m ((c.tc : Thread nD τ).loc main_arg2) : Vec Ideal S65536x1024 .f32) (ix2 ⟨t.val * 512 + i.val, by have := tile t; omega⟩ k) := by
  have := tile t
  blk_simp [iblk]
  refine Eq.trans (congrArg (V m c main_arg2) ?_) (congrFun (V_main_arg2 m c) _)
  blk_ext [idx t]
theorem e3 (c : Dev nD) (t : Fin cfg0.N) (k n : Fin 1024) : iblk m c 3 t (ix2 k n) = (m ((c.tc : Thread nD τ).loc main_arg3) : Vec Ideal S1x1024x1024 .f32) (ix3 0 k n) := by
  blk_simp [iblk]
  refine Eq.trans (congrArg (V m c main_v1) ?_) (v1_at m c k n)
  blk_ext [idx t]
theorem e4 (c : Dev nD) (t : Fin cfg0.N) (k : Fin 1024) : iblk m c 4 t (ix2 0 k) = (m ((c.tc : Thread nD τ).loc main_arg4) : Vec Ideal S1x1024 .f32) (ix2 0 k) := by
  blk_simp [iblk]
  refine Eq.trans (congrArg (V m c main_v5) ?_) (v5_at m c k)
  blk_ext [idx t]
theorem e5 (c : Dev nD) (t : Fin cfg0.N) (k n : Fin 1024) : iblk m c 5 t (ix2 k n) = (m ((c.tc : Thread nD τ).loc main_arg5) : Vec Ideal S1x1024x1024 .f32) (ix3 0 k n) := by
  blk_simp [iblk]
  refine Eq.trans (congrArg (V m c main_v4) ?_) (v4_at m c k n)
  blk_ext [idx t]
theorem e6 (c : Dev nD) (t : Fin cfg0.N) (j : Fin 256) (k : Fin 1024) : iblk m c 6 t (ix3 0 j k) = (m ((c.tc : Thread nD τ).loc main_arg6) : Vec Ideal S8x256x1024 .f32) (ix3 ⟨t.val / 16, by have := tile t; omega⟩ j k) := by
  have := tile t
  blk_simp [iblk]
  refine Eq.trans (congrArg (V m c main_arg6) ?_) (congrFun (V_main_arg6 m c) _)
  blk_ext [idx t]
theorem e7 (c : Dev nD) (t : Fin cfg0.N) (j : Fin 256) (k : Fin 1024) : iblk m c 7 t (ix3 0 j k) = (m ((c.tc : Thread nD τ).loc main_arg7) : Vec Ideal S8x256x1024 .f32) (ix3 ⟨t.val / 16, by have := tile t; omega⟩ j k) := by
  have := tile t
  blk_simp [iblk]
  refine Eq.trans (congrArg (V m c main_arg7) ?_) (congrFun (V_main_arg7 m c) _)
  blk_ext [idx t]

theorem point8 (c : Dev nD) (t : Fin cfg0.N) (y : S512x1024.Idx) :
    out0_8 (F := Ideal) (iblk m c 0 t) (iblk m c 1 t) (iblk m c 2 t) (iblk m c 3 t) (iblk m c 4 t) (iblk m c 5 t) (iblk m c 6 t) (iblk m c 7 t) y
      = residual (m ((c.tc : Thread nD τ).loc main_arg0)) (m ((c.tc : Thread nD τ).loc main_arg1)) (m ((c.tc : Thread nD τ).loc main_arg2)) (m ((c.tc : Thread nD τ).loc main_arg3)) (((cfg0.win 8).blk t).view.emb y) := by
  obtain ⟨i, n, rfl⟩ : ∃ i n, y = ix2 i n := ⟨y 0, y 1, eq_ix2 y⟩
  have := tile t
  have en : ((cfg0.win 8).blk t).view.emb (ix2 i n) = ix2 ⟨t.val * 512 + i.val, by omega⟩ n := by blk_ext [idx t]
  rw [block8, en]
  simp only [e0, e1, e2, e3]
  rfl
theorem final8 (c : Dev nD) : (dats m 0 c).arrAt 8 (cfgs 0).N
    = residual (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t _ y => ?_
  blk_simp
  rw [after0_8]
  exact point8 m c t y

theorem attend_congr {q q' : Fin 1024 → EReal} {K K' V V' : Fin 256 → Fin 1024 → EReal} (hq : q = q') (hK : K = K') (hV : V = V') (n : Fin 1024) :
    attend q K V n = attend q' K' V' n := by rw [hq, hK, hV]
theorem queries_eq (c : Dev nD) (t : Fin cfg0.N) (i : Fin 512) :
    queries (iblk m c 0 t) (iblk m c 1 t) (iblk m c 2 t) (iblk m c 3 t) (iblk m c 4 t) (iblk m c 5 t) i
      = mm (rms (rows (m ((c.tc : Thread nD τ).loc main_arg0)) (m ((c.tc : Thread nD τ).loc main_arg1)) (m ((c.tc : Thread nD τ).loc main_arg2)) (m ((c.tc : Thread nD τ).loc main_arg3)) ⟨t.val * 512 + i.val, by have := tile t; omega⟩)
          (fun k => (m ((c.tc : Thread nD τ).loc main_arg4) : Vec Ideal S1x1024 .f32) (ix2 0 k))) (fun k n => (m ((c.tc : Thread nD τ).loc main_arg5) : Vec Ideal S1x1024x1024 .f32) (ix3 0 k n)) := by
  unfold queries rows
  simp only [e0, e1, e2, e3, e4, e5]

theorem point9 (c : Dev nD) (t : Fin cfg0.N) (y : S512x1024.Idx) :
    out0_9 (F := Ideal) (iblk m c 0 t) (iblk m c 1 t) (iblk m c 2 t) (iblk m c 3 t) (iblk m c 4 t) (iblk m c 5 t) (iblk m c 6 t) (iblk m c 7 t) y
      = cross (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 9).blk t).view.emb y) := by
  obtain ⟨i, n, rfl⟩ : ∃ i n, y = ix2 i n := ⟨y 0, y 1, eq_ix2 y⟩
  have := tile t
  have en : ((cfg0.win 9).blk t).view.emb (ix2 i n) = ix2 ⟨t.val * 512 + i.val, by omega⟩ n := by blk_ext [idx t]
  have hb : (⟨t.val / 16, by omega⟩ : Fin 8) = ⟨(t.val * 512 + i.val) / 8192, by omega⟩ := Fin.ext (by show t.val / 16 = (t.val * 512 + i.val) / 8192; omega)
  rw [block9, en]
  show _ = crossAt _ _ _ _ _ _ _ _ ⟨t.val * 512 + i.val, by omega⟩ n
  unfold crossAt
  refine attend_congr (queries_eq m c t i) (funext fun j => funext fun k => ?_) (funext fun j => funext fun k => ?_) n
  · exact (e6 m c t j k).trans (congrArg (fun b => (m ((c.tc : Thread nD τ).loc main_arg6) : Vec Ideal S8x256x1024 .f32) (ix3 b j k)) hb)
  · exact (e7 m c t j k).trans (congrArg (fun b => (m ((c.tc : Thread nD τ).loc main_arg7) : Vec Ideal S8x256x1024 .f32) (ix3 b j k)) hb)
theorem final9 (c : Dev nD) : (dats m 0 c).arrAt 9 (cfgs 0).N
    = cross (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 9 _ (by decide +kernel) fun t _ y => ?_
  blk_simp
  rw [after0_9]
  exact point9 m c t y
end Cert.Kernel7Ideal.Mid
-- ==== Proof.MidRef.lean ====
module

public import proofs.«01_k».proof.Proof.Gen.Reference7Ideal.Run
public import proofs.«01_k».proof.Proof.Mid
public import Idealize.ShloMosaic.Lib.Claim

/-! # The middle of the layer, prompt batch: the reference's side -/

@[expose] public section
set_option maxRecDepth 16384
noncomputable section
open Idealize.ShloMosaic Idealize.ShloMosaic.TcCoe Idealize.SL.Sem
namespace Cert.Reference7Ideal.Mid
open Cert.Reference7Ideal Cert.Reference7Ideal.Gen Cert.Row

/-- The two mixer outputs side by side. -/
def rJoin (a b : FVec Ideal S65536x512 .f32) : FVec Ideal S65536x1024 .f32 :=
  concatenate S65536x1024 1 [⟨S65536x512, a⟩, ⟨S65536x512, b⟩] concatenates_S65536x512_S65536x512_S65536x1024_d1
/-- A product with a weight matrix. -/
def rMul (x : FVec Ideal S65536x1024 .f32) (W : FVec Ideal S1x1024x1024 .f32) : FVec Ideal S65536x1024 .f32 :=
  Host.dotGeneral (F := Ideal) dot_S65536x1024_S1024x1024_S65536x1024_1_0_0_1_n_n none x (shapeCast _ W shapeCasts_S1x1024x1024_S1024x1024)
/-- The normalised rows. -/
def rNorm (x : FVec Ideal S65536x1024 .f32) (w : FVec Ideal S1x1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast _ w shapeCasts_S1x1024_S1024)))
/-- Queries against keys, scaled. -/
def rScore (q : FVec Ideal S65536x1024 .f32) (K : FVec Ideal S8x256x1024 .f32) : FVec Ideal S8x4x8192x256 .f32 :=
  mulf (Host.dotGeneral dot_S8x8192x4x256_S8x256x4x256_S8x4x8192x256_3_3_1_1_02_02 none (shapeCast _ q shapeCasts_S65536x1024_S8x8192x4x256) (shapeCast _ K shapeCasts_S8x256x1024_S8x256x4x256)) (broadcastInDim S8x4x8192x256 ![] bcast_S_S8x4x8192x256 (constant S_ .f32 0x3D800000#32))
/-- The largest score of each query. -/
def rPeak (s : FVec Ideal S8x4x8192x256 .f32) : FVec Ideal S8x4x8192 .f32 :=
  Host.reduce FloatOps.maximumf s (constant S_ .f32 0xFF800000#32) reducesTo_S8x4x8192x256_S8x4x8192_d3 h_S_
/-- The exponentials over the peak. -/
def rExp (s : FVec Ideal S8x4x8192x256 .f32) (p : FVec Ideal S8x4x8192 .f32) : FVec Ideal S8x4x8192x256 .f32 :=
  Host.exp (subf s (broadcastInDim S8x4x8192x256 ![0, 1, 2, 3] bcast_S8x4x8192x1_S8x4x8192x256_0_1_2_3 (broadcastInDim S8x4x8192x1 ![0, 1, 2] bcast_S8x4x8192_S8x4x8192x1_0_1_2 (maximumf (broadcastInDim S8x4x8192 ![] bcast_S_S8x4x8192 (constant S_ .f32 0xFF800000#32)) p))))
/-- The weights of the average. -/
def rWeights (e : FVec Ideal S8x4x8192x256 .f32) : FVec Ideal S8x4x8192x256 .f32 :=
  Host.divf e (broadcastInDim S8x4x8192x256 ![0, 1, 2, 3] bcast_S8x4x8192x1_S8x4x8192x256_0_1_2_3 (broadcastInDim S8x4x8192x1 ![0, 1, 2] bcast_S8x4x8192_S8x4x8192x1_0_1_2 (Host.reduceAdd e (constant S_ .f32 0x00000000#32) reducesTo_S8x4x8192x256_S8x4x8192_d3 h_S_)))
/-- The weighted average, one row per query again. -/
def rMix (v : FVec Ideal S8x256x1024 .f32) (p : FVec Ideal S8x4x8192x256 .f32) : FVec Ideal S65536x1024 .f32 :=
  shapeCast _ (transpose S8x8192x4x256 [0, 3, 1, 2] (Host.dotGeneral dot_S8x256x4x256_S8x4x8192x256_S8x4x256x8192_1_3_3_2_02_01 none (shapeCast _ v shapeCasts_S8x256x1024_S8x256x4x256) p : FVec Ideal S8x4x256x8192 .f32) transposes_S8x4x256x8192_S8x8192x4x256_0_3_1_2) shapeCasts_S8x8192x4x256_S65536x1024

theorem rJoin_at (a b) (r : Fin 65536) (n : Fin 1024) : rJoin a b (ix2 r n) = joined (fun k => a (ix2 r k)) (fun k => b (ix2 r k)) n := by
  unfold rJoin joined
  obtain ⟨n, hn⟩ := n
  pointwise
theorem rMul_at (x W) (r : Fin 65536) (n : Fin 1024) : rMul x W (ix2 r n) = mm (fun k => x (ix2 r k)) (fun k n => W (ix3 0 k n)) n := by
  pointwise [rMul, mm]
theorem rNorm_at (x w) (r : Fin 65536) (n : Fin 1024) : rNorm x w (ix2 r n) = rms (fun k => x (ix2 r k)) (fun k => w (ix2 0 k)) n := by
  pointwise [rNorm, rms]
theorem rScore_at (q K) (b : Fin 8) (a : Fin 4) (t : Fin 8192) (j : Fin 256) :
    rScore q K (ix4 b a t j) = scores (fun n => q (ix2 ⟨b * 8192 + t, by omega⟩ n)) (fun j n => K (ix3 b j n)) a j := by
  pointwise [rScore]
  rfl
theorem reduces3 : S8x4x8192x256.Reduces [3] S8x4x8192 := by decide
theorem rPeak_at (s) (b : Fin 8) (a : Fin 4) (t : Fin 8192) : rPeak s (ix3 b a t) = peak (fun j : Fin 256 => s (ix4 b a t j)) := by
  refine (Host.reduce_eq_fold_single FloatOps.maximumf s _ _ reduces3 _ _).trans ?_
  have hl : ∀ j, reduces3.lift (ix3 b a t) j = ix4 b a t j := fun j => by
    funext d
    fin_cases d <;> rfl
  exact congrArg (fun f => Finset.fold max (Ideal.ofBits FTy.f32 4286578688#32) f Finset.univ) (funext fun j => congrArg s (hl j))
theorem rExp_at (s p) (b : Fin 8) (a : Fin 4) (t : Fin 8192) (j : Fin 256) : rExp s p (ix4 b a t j) = Ideal.exp (s (ix4 b a t j) - p (ix3 b a t)) := by
  pointwise [rExp]
  rw [low_eq, max_eq_right bot_le]
theorem rWeights_at (e) (b : Fin 8) (a : Fin 4) (t : Fin 8192) (j : Fin 256) :
    rWeights e (ix4 b a t j) = Ideal.div (e (ix4 b a t j)) (∑ j, e (ix4 b a t j)) := by
  pointwise [rWeights]
theorem rMix_at (v p) (r : Fin 65536) (n : Fin 1024) :
    rMix v p (ix2 r n) = ∑ j, v (ix3 ⟨r / 8192, by omega⟩ j n) * p (ix4 ⟨r / 8192, by omega⟩ (headOf n) ⟨r % 8192, by omega⟩ j) := by
  pointwise [rMix]
  rfl

/-- The residual rows. -/
def rRes (om og : FVec Ideal S65536x512 .f32) (x : FVec Ideal S65536x1024 .f32) (w : FVec Ideal S1x1024x1024 .f32) : FVec Ideal S65536x1024 .f32 :=
  addf x (rMul (rJoin om og) w)
theorem rRes_at (om og x w) (r : Fin 65536) (n : Fin 1024) : rRes om og x w (ix2 r n) = Cert.Kernel7Ideal.Mid.rows om og x w r n := by
  unfold rRes
  refine (show _ = x (ix2 r n) + rMul (rJoin om og) w (ix2 r n) from rfl).trans ?_
  rw [rMul_at]
  simp only [rJoin_at]
  exact congrArg (_ + ·) (mm_joined _ _ _ n)
/-- The first result. -/
theorem eqRes (om og x w) : rRes om og x w = Cert.Kernel7Ideal.Mid.residual om og x w := by
  funext j
  obtain ⟨r, n, rfl⟩ : ∃ r n, j = ix2 r n := ⟨j 0, j 1, eq_ix2 j⟩
  exact rRes_at om og x w r n

/-- The attention of the queries. -/
def rAttend (q : FVec Ideal S65536x1024 .f32) (K V : FVec Ideal S8x256x1024 .f32) : FVec Ideal S65536x1024 .f32 :=
  rMix V (rWeights (rExp (rScore q K) (rPeak (rScore q K))))
theorem rAttend_at (q K V) (r : Fin 65536) (n : Fin 1024)
    (h : ∀ j, IsNum (scores (fun n => q (ix2 r n)) (fun j n => K (ix3 ⟨r.val / 8192, by omega⟩ j n)) (headOf n) j)) :
    rAttend q K V (ix2 r n) = attend (fun n => q (ix2 r n)) (fun j n => K (ix3 ⟨r.val / 8192, by omega⟩ j n)) (fun j n => V (ix3 ⟨r.val / 8192, by omega⟩ j n)) n := by
  unfold rAttend
  rw [rMix_at]
  simp only [rWeights_at, rExp_at, rPeak_at, rScore_at]
  have hr : (⟨r.val / 8192 * 8192 + r.val % 8192, by omega⟩ : Fin 65536) = r := Fin.ext (by show r.val / 8192 * 8192 + r.val % 8192 = r.val; omega)
  simp only [hr]
  exact average_eq _ _ h
/-- The second result. -/
theorem eqCross (om og x w nw W K V) (hn : ∀ k, IsNum (nw k)) (hW : ∀ k, IsNum (W k)) (hK : ∀ k, IsNum (K k)) :
    rAttend (rMul (rNorm (rRes om og x w) nw) W) K V = Cert.Kernel7Ideal.Mid.cross om og x w nw W K V := by
  funext j
  obtain ⟨r, n, rfl⟩ : ∃ r n, j = ix2 r n := ⟨j 0, j 1, eq_ix2 j⟩
  have hq : (fun n => rMul (rNorm (rRes om og x w) nw) W (ix2 r n))
      = mm (rms (Cert.Kernel7Ideal.Mid.rows om og x w r) (fun k => nw (ix2 0 k))) (fun k n => W (ix3 0 k n)) := by
    funext n
    rw [rMul_at]
    simp only [rNorm_at, rRes_at]
  rw [rAttend_at, hq]
  · rfl
  · rw [hq]
    exact fun j => scores_num _ _ _ _ _ j (fun _ => hn _) (fun _ _ => hW _) (fun _ _ => hK _)
end Cert.Reference7Ideal.Mid
-- ==== Proof.Alg7.lean ====
module

public import proofs.«01_k».proof.Defs
public import proofs.«01_k».proof.Proof.Mid
public import proofs.«01_k».proof.Proof.MidRef
public import Idealize.ShloMosaic.Lib.ReduceAll
public import Idealize.ShloMosaic.Lib.Claim

/-! # Claim 7: the middle of the layer with the cross attention, prompt batch, kernel and reference -/

@[expose] public section
set_option maxRecDepth 16384
open Idealize.ShloMosaic Idealize.ShloMosaic.TcCoe Idealize.SL.Sem
namespace Cert.Proof
open Cert.Row

/-- What the precondition says. -/
theorem scores_pre [Cert.Pre_finite_scores.Facts] (om og : FVec Ideal ⟨2, ![65536, 512]⟩ .f32) (x : FVec Ideal ⟨2, ![65536, 1024]⟩ .f32) (w : FVec Ideal ⟨3, ![1, 1024, 1024]⟩ .f32)
    (nw : FVec Ideal ⟨2, ![1, 1024]⟩ .f32) (W : FVec Ideal ⟨3, ![1, 1024, 1024]⟩ .f32) (K V : FVec Ideal ⟨3, ![8, 256, 1024]⟩ .f32)
    (h : Cert.Pre_finite_scores.fn (F := Ideal) om og x w nw W K V = fun _ => 1#1) : (∀ k, IsNum (nw k)) ∧ (∀ k, IsNum (W k)) ∧ ∀ k, IsNum (K k) := by
  have h0 := congrFun h ix0
  dsimp only [Cert.Pre_finite_scores.fn] at h0
  obtain ⟨h1, h2⟩ := andi_one _ _ h0
  obtain ⟨h2, h3⟩ := andi_one _ _ h2
  exact ⟨fun k => lt_num _ (Host.reduce_andi_all _ _ _ _ _ h1 k), fun k => lt_num _ (Host.reduce_andi_all _ _ _ _ _ h2 k), fun k => lt_num _ (Host.reduce_andi_all _ _ _ _ _ h3 k)⟩

set_option maxHeartbeats 4000000 in
theorem algebraic7 [Cert.Pre_finite_scores.Facts] : Cert.algebraic_Kernel7Ideal_Reference7Ideal_pre_finite_scores := by
  pair_intro
  · run_from Cert.Kernel7Ideal.Gen.run_main m g
    all_goals first
      | exact Cert.Kernel7Ideal.Gen.V_main_arg0 m c
      | exact Cert.Kernel7Ideal.Gen.V_main_arg1 m c
      | exact Cert.Kernel7Ideal.Gen.V_main_arg2 m c
  · refine Idealize.ShloMosaic.θ_run_mono (Cert.Reference7Ideal.Value.run m' g') fun r hr c => ?_
    obtain ⟨h0, h1, ha⟩ := hr c
    obtain ⟨e0, e1, e2, e3, e4, e5, e6, e7⟩ := hagree c
    obtain ⟨p1, p2, p3⟩ := scores_pre _ _ _ _ _ _ _ _ (hpre c)
    refine ⟨h0.trans ?_, h1.trans ?_, ha⟩
    · refine (Cert.Reference7Ideal.Mid.eqRes (m' (c.tc.loc Cert.Reference7Ideal.main_arg0)) (m' (c.tc.loc Cert.Reference7Ideal.main_arg1)) (m' (c.tc.loc Cert.Reference7Ideal.main_arg2)) (m' (c.tc.loc Cert.Reference7Ideal.main_arg3))).trans ?_
      rw [e0, e1, e2, e3]
      exact (Cert.Kernel7Ideal.Mid.final8 m c).symm
    · refine (Cert.Reference7Ideal.Mid.eqCross (m' (c.tc.loc Cert.Reference7Ideal.main_arg0)) (m' (c.tc.loc Cert.Reference7Ideal.main_arg1)) (m' (c.tc.loc Cert.Reference7Ideal.main_arg2)) (m' (c.tc.loc Cert.Reference7Ideal.main_arg3)) (m' (c.tc.loc Cert.Reference7Ideal.main_arg4)) (m' (c.tc.loc Cert.Reference7Ideal.main_arg5)) (m' (c.tc.loc Cert.Reference7Ideal.main_arg6)) (m' (c.tc.loc Cert.Reference7Ideal.main_arg7)) (by rw [e4]; exact p1) (by rw [e5]; exact p2) (by rw [e6]; exact p3)).trans ?_
      rw [e0, e1, e2, e3, e4, e5, e6, e7]
      exact (Cert.Kernel7Ideal.Mid.final9 m c).symm
end Cert.Proof
-- ==== Proof.MidSample.lean ====
module

public import proofs.«01_k».proof.Proof.Gen.Kernel8Ideal.Frame
public import proofs.«01_k».proof.Proof.Attend
public import Idealize.ShloMosaic.Lib.Claim

/-! # The middle of the layer, sample batch: the kernel's side

One grid point takes the 128 rows through the mixer's output projection, the residual and the query projection. -/

@[expose] public section
set_option maxRecDepth 16384
noncomputable section
open Idealize.ShloMosaic Idealize.ShloMosaic.TcCoe Idealize.SL.Sem
open Idealize.ShloMosaic.Pipeline (Dat)
namespace Cert.Kernel8Ideal.Mid
open Cert.Kernel8Ideal Cert.Kernel8Ideal.Gen Cert.Row

theorem pay1_at (x om og) (wa wb : Vec Ideal S512x1024 .bf16) (i : Fin 128) (n : Fin 1024) :
    k0_pay1 (F := Ideal) x om wa og wb (ix2 i n)
      = x (ix2 i n) + ((∑ k : Fin 512, om (ix2 i k) * wa (ix2 k n)) + ∑ k : Fin 512, og (ix2 i k) * wb (ix2 k n)) := by
  pointwise [k0_pay1]
theorem pay2_at (x om og) (wa wb : Vec Ideal S512x1024 .bf16) (w W) (i : Fin 128) (n : Fin 1024) :
    k0_pay2 (F := Ideal) x om wa og wb w W (ix2 i n)
      = mm (rms (fun k => k0_pay1 (F := Ideal) x om wa og wb (ix2 i k)) (fun k => w (ix2 0 k))) (fun k n => W (ix2 k n)) n := by
  pointwise [k0_pay2, mm, rms]

theorem ld2 (x : Vec Ideal S1024x1024 .bf16) (k : Fin 512) (n : Fin 1024) : View.ld x r0_2 (ix2 k n) = x (ix2 ⟨k, by omega⟩ n) := by
  pointwise; blk_ext
theorem ld3 (x : Vec Ideal S1024x1024 .bf16) (k : Fin 512) (n : Fin 1024) : View.ld x r0_3 (ix2 k n) = x (ix2 ⟨512 + k, by omega⟩ n) := by
  pointwise; blk_ext
/-- A tile's rows after the residual. -/
theorem block6 (x0 x1 : Vec Ideal S128x512 .f32) (x2 : Vec Ideal S128x1024 .f32) (x3 : Vec Ideal S1024x1024 .bf16) (x4 : Vec Ideal S1x1024 .f32) (x5 : Vec Ideal S1024x1024 .bf16) (i : Fin 128) (n : Fin 1024) :
    out0_6 (F := Ideal) x0 x1 x2 x3 x4 x5 (ix2 i n) = mixed (fun k => x0 (ix2 i k)) (fun k => x1 (ix2 i k)) (fun k => x2 (ix2 i k)) (fun k n => x3 (ix2 k n)) n := by
  unfold out0_6
  frame_out
  rw [pay1_at]
  exact congrArg (_ + ·) (congrArg₂ (· + ·) (Finset.sum_congr rfl fun k _ => congrArg (_ * ·) (ld2 x3 k n)) (Finset.sum_congr rfl fun k _ => congrArg (_ * ·) (ld3 x3 k n)))

/-- The query rows of a tile. -/
abbrev queries (x0 x1 : Vec Ideal S128x512 .f32) (x2 : Vec Ideal S128x1024 .f32) (x3 : Vec Ideal S1024x1024 .bf16) (x4 : Vec Ideal S1x1024 .f32) (x5 : Vec Ideal S1024x1024 .bf16) (i : Fin 128) : Fin 1024 → EReal :=
  mm (rms (mixed (fun k => x0 (ix2 i k)) (fun k => x1 (ix2 i k)) (fun k => x2 (ix2 i k)) (fun k n => x3 (ix2 k n))) (fun k => x4 (ix2 0 k))) (fun k n => x5 (ix2 k n))

theorem mixed_ld (x0 x1 : Vec Ideal S128x512 .f32) (x2 : Vec Ideal S128x1024 .f32) (x3 : Vec Ideal S1024x1024 .bf16) (i : Fin 128) (n : Fin 1024) :
    k0_pay1 (F := Ideal) (View.ld x2 r0_0) (View.ld x0 r0_1) (View.ld x3 r0_2) (View.ld x1 r0_1) (View.ld x3 r0_3) (ix2 i n)
      = mixed (fun k => x0 (ix2 i k)) (fun k => x1 (ix2 i k)) (fun k => x2 (ix2 i k)) (fun k n => x3 (ix2 k n)) n := by
  have h0 : View.ld x0 r0_1 = x0 := by frame_out
  have h1 : View.ld x1 r0_1 = x1 := by frame_out
  have h2 : View.ld x2 r0_0 = x2 := by frame_out
  rw [h0, h1, h2, pay1_at]
  exact congrArg (_ + ·) (congrArg₂ (· + ·) (Finset.sum_congr rfl fun k _ => congrArg (_ * ·) (ld2 x3 k n)) (Finset.sum_congr rfl fun k _ => congrArg (_ * ·) (ld3 x3 k n)))

theorem pay2_ld (x0 x1 : Vec Ideal S128x512 .f32) (x2 : Vec Ideal S128x1024 .f32) (x3 : Vec Ideal S1024x1024 .bf16) (x4 : Vec Ideal S1x1024 .f32) (x5 : Vec Ideal S1024x1024 .bf16) (i : Fin 128) (n : Fin 1024) :
    k0_pay2 (F := Ideal) (View.ld x2 r0_0) (View.ld x0 r0_1) (View.ld x3 r0_2) (View.ld x1 r0_1) (View.ld x3 r0_3) (View.ld x4 r0_4) (View.ld x5 r0_5) (ix2 i n) = queries x0 x1 x2 x3 x4 x5 i n := by
  have h4 : View.ld x4 r0_4 = x4 := by frame_out
  have h5 : View.ld x5 r0_5 = x5 := by frame_out
  rw [pay2_at, h4, h5]
  simp only [mixed_ld]
/-- The queries of the block. -/
theorem block7 (x0 x1 : Vec Ideal S128x512 .f32) (x2 : Vec Ideal S128x1024 .f32) (x3 : Vec Ideal S1024x1024 .bf16) (x4 : Vec Ideal S1x1024 .f32) (x5 : Vec Ideal S1024x1024 .bf16) (i : Fin 128) (n : Fin 1024) :
    out0_7 (F := Ideal) x0 x1 x2 x3 x4 x5 (ix2 i n) = queries x0 x1 x2 x3 x4 x5 i n := by
  unfold out0_7
  refine Eq.trans (congrFun (?_ : _ = k0_pay2 (F := Ideal) (View.ld x2 r0_0) (View.ld x0 r0_1) (View.ld x3 r0_2) (View.ld x1 r0_1) (View.ld x3 r0_3) (View.ld x4 r0_4) (View.ld x5 r0_5)) (ix2 i n)) (pay2_ld x0 x1 x2 x3 x4 x5 i n)
  frame_out

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

/-- The residual rows as a function of the arguments. -/
def rows (om og : Vec Ideal S128x512 .f32) (x : Vec Ideal S128x1024 .f32) (w : Vec Ideal S1x1024x1024 .f32) (r : Fin 128) : Fin 1024 → EReal :=
  mixed (fun k => om (ix2 r k)) (fun k => og (ix2 r k)) (fun k => x (ix2 r k)) (fun k n => w (ix3 0 k n))
def residual (om og : Vec Ideal S128x512 .f32) (x : Vec Ideal S128x1024 .f32) (w : Vec Ideal S1x1024x1024 .f32) : Vec Ideal S128x1024 .f32 :=
  fun j => rows om og x w (j 0) (j 1)
/-- The queries as a function of the arguments. -/
def query (om og : Vec Ideal S128x512 .f32) (x : Vec Ideal S128x1024 .f32) (w : Vec Ideal S1x1024x1024 .f32) (nw : Vec Ideal S1x1024 .f32)
    (W : Vec Ideal S1x1024x1024 .f32) : Vec Ideal S128x1024 .f32 :=
  fun j => mm (rms (rows om og x w (j 0)) (fun k => nw (ix2 0 k))) (fun k n => W (ix3 0 k n)) (j 1)

theorem vw_read (X : Vec Ideal S1x1024x1024 .f32) (k n : Fin 1024) : (truncf (F := Ideal) .bf16 (shapeCast S1024x1024 X shapeCasts_S1x1024x1024_S1024x1024) bitsLt_bf16_f32) (ix2 k n) = X (ix3 0 k n) := by
  pointwise
theorem v1_at (c : Dev nD) (k n : Fin 1024) :
    (V m c main_v1 : Vec Ideal S1024x1024 .bf16) (ix2 k n) = (m ((c.tc : Thread nD τ).loc main_arg3) : Vec Ideal S1x1024x1024 .f32) (ix3 0 k n) := by
  have hv : (V m c main_v1 : Vec Ideal S1024x1024 .bf16) = truncf (F := Ideal) .bf16 (shapeCast S1024x1024 (m ((c.tc : Thread nD τ).loc main_arg3) : Vec Ideal S1x1024x1024 .f32) shapeCasts_S1x1024x1024_S1024x1024) bitsLt_bf16_f32 := by
    entry_read; rfl
  exact (congrFun hv _).trans (vw_read _ k n)
theorem v4_at (c : Dev nD) (k n : Fin 1024) :
    (V m c main_v4 : Vec Ideal S1024x1024 .bf16) (ix2 k n) = (m ((c.tc : Thread nD τ).loc main_arg5) : Vec Ideal S1x1024x1024 .f32) (ix3 0 k n) := by
  have hv : (V m c main_v4 : Vec Ideal S1024x1024 .bf16) = truncf (F := Ideal) .bf16 (shapeCast S1024x1024 (m ((c.tc : Thread nD τ).loc main_arg5) : Vec Ideal S1x1024x1024 .f32) shapeCasts_S1x1024x1024_S1024x1024) bitsLt_bf16_f32 := by
    entry_read; rfl
  exact (congrFun hv _).trans (vw_read _ k n)
theorem v5_read (X : Vec Ideal S1x1024 .f32) (k : Fin 1024) : (shapeCast S1x1024 (shapeCast S1024 X shapeCasts_S1x1024_S1024) shapeCasts_S1024_S1x1024) (ix2 0 k) = X (ix2 0 k) := by
  pointwise
theorem v5_at (c : Dev nD) (k : Fin 1024) :
    (V m c main_v5 : Vec Ideal S1x1024 .f32) (ix2 0 k) = (m ((c.tc : Thread nD τ).loc main_arg4) : Vec Ideal S1x1024 .f32) (ix2 0 k) := by
  have hv : (V m c main_v5 : Vec Ideal S1x1024 .f32) = shapeCast S1x1024 (shapeCast S1024 (m ((c.tc : Thread nD τ).loc main_arg4) : Vec Ideal S1x1024 .f32) shapeCasts_S1x1024_S1024) shapeCasts_S1024_S1x1024 := by
    entry_read; rfl
  exact (congrFun hv _).trans (v5_read _ k)

theorem e0 (c : Dev nD) (t : Fin cfg0.N) (i : Fin 128) (k : Fin 512) : iblk m c 0 t (ix2 i k) = (m ((c.tc : Thread nD τ).loc main_arg0) : Vec Ideal S128x512 .f32) (ix2 i k) := by
  blk_simp [iblk]
  refine Eq.trans (congrArg (V m c main_arg0) ?_) (congrFun (V_main_arg0 m c) _)
  blk_ext [idx t]
theorem e1 (c : Dev nD) (t : Fin cfg0.N) (i : Fin 128) (k : Fin 512) : iblk m c 1 t (ix2 i k) = (m ((c.tc : Thread nD τ).loc main_arg1) : Vec Ideal S128x512 .f32) (ix2 i k) := by
  blk_simp [iblk]
  refine Eq.trans (congrArg (V m c main_arg1) ?_) (congrFun (V_main_arg1 m c) _)
  blk_ext [idx t]
theorem e2 (c : Dev nD) (t : Fin cfg0.N) (i : Fin 128) (k : Fin 1024) : iblk m c 2 t (ix2 i k) = (m ((c.tc : Thread nD τ).loc main_arg2) : Vec Ideal S128x1024 .f32) (ix2 i k) := by
  blk_simp [iblk]
  refine Eq.trans (congrArg (V m c main_arg2) ?_) (congrFun (V_main_arg2 m c) _)
  blk_ext [idx t]
theorem e3 (c : Dev nD) (t : Fin cfg0.N) (k n : Fin 1024) : iblk m c 3 t (ix2 k n) = (m ((c.tc : Thread nD τ).loc main_arg3) : Vec Ideal S1x1024x1024 .f32) (ix3 0 k n) := by
  blk_simp [iblk]
  refine Eq.trans (congrArg (V m c main_v1) ?_) (v1_at m c k n)
  blk_ext [idx t]
theorem e4 (c : Dev nD) (t : Fin cfg0.N) (k : Fin 1024) : iblk m c 4 t (ix2 0 k) = (m ((c.tc : Thread nD τ).loc main_arg4) : Vec Ideal S1x1024 .f32) (ix2 0 k) := by
  blk_simp [iblk]
  refine Eq.trans (congrArg (V m c main_v5) ?_) (v5_at m c k)
  blk_ext [idx t]
theorem e5 (c : Dev nD) (t : Fin cfg0.N) (k n : Fin 1024) : iblk m c 5 t (ix2 k n) = (m ((c.tc : Thread nD τ).loc main_arg5) : Vec Ideal S1x1024x1024 .f32) (ix3 0 k n) := by
  blk_simp [iblk]
  refine Eq.trans (congrArg (V m c main_v4) ?_) (v4_at m c k n)
  blk_ext [idx t]

theorem point6 (c : Dev nD) (t : Fin cfg0.N) (y : S128x1024.Idx) :
    out0_6 (F := Ideal) (iblk m c 0 t) (iblk m c 1 t) (iblk m c 2 t) (iblk m c 3 t) (iblk m c 4 t) (iblk m c 5 t) y
      = residual (m ((c.tc : Thread nD τ).loc main_arg0)) (m ((c.tc : Thread nD τ).loc main_arg1)) (m ((c.tc : Thread nD τ).loc main_arg2)) (m ((c.tc : Thread nD τ).loc main_arg3)) (((cfg0.win 6).blk t).view.emb y) := by
  obtain ⟨i, n, rfl⟩ : ∃ i n, y = ix2 i n := ⟨y 0, y 1, eq_ix2 y⟩
  have en : ((cfg0.win 6).blk t).view.emb (ix2 i n) = ix2 i n := by blk_ext [idx t]
  rw [block6, en]
  simp only [e0, e1, e2, e3]
  rfl
theorem final6 (c : Dev nD) : (dats m 0 c).arrAt 6 (cfgs 0).N = residual (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp
  rw [after0_6]
  exact point6 m c t y

theorem point7 (c : Dev nD) (t : Fin cfg0.N) (y : S128x1024.Idx) :
    out0_7 (F := Ideal) (iblk m c 0 t) (iblk m c 1 t) (iblk m c 2 t) (iblk m c 3 t) (iblk m c 4 t) (iblk m c 5 t) y
      = query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 7).blk t).view.emb y) := by
  obtain ⟨i, n, rfl⟩ : ∃ i n, y = ix2 i n := ⟨y 0, y 1, eq_ix2 y⟩
  have en : ((cfg0.win 7).blk t).view.emb (ix2 i n) = ix2 i n := by blk_ext [idx t]
  rw [block7, en]
  unfold queries
  simp only [e0, e1, e2, e3, e4, e5]
  rfl
theorem final7 (c : Dev nD) : (dats m 0 c).arrAt 7 (cfgs 0).N = query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t _ y => ?_
  blk_simp
  rw [after0_7]
  exact point7 m c t y
end Cert.Kernel8Ideal.Mid
-- ==== Proof.MidSampleRef.lean ====
module

public import proofs.«01_k».proof.Proof.Gen.Reference8Ideal.Run
public import proofs.«01_k».proof.Proof.MidSample
public import Idealize.ShloMosaic.Lib.Claim

/-! # The middle of the layer, sample batch: the reference's side -/

@[expose] public section
set_option maxRecDepth 16384
noncomputable section
open Idealize.ShloMosaic Idealize.ShloMosaic.TcCoe Idealize.SL.Sem
namespace Cert.Reference8Ideal.Mid
open Cert.Reference8Ideal Cert.Reference8Ideal.Gen Cert.Row

/-- The two mixer outputs side by side. -/
def rJoin (a b : FVec Ideal S128x512 .f32) : FVec Ideal S128x1024 .f32 :=
  concatenate S128x1024 1 [⟨S128x512, a⟩, ⟨S128x512, b⟩] concatenates_S128x512_S128x512_S128x1024_d1
/-- A product with a weight matrix. -/
def rMul (x : FVec Ideal S128x1024 .f32) (W : FVec Ideal S1x1024x1024 .f32) : FVec Ideal S128x1024 .f32 :=
  Host.dotGeneral (F := Ideal) dot_S128x1024_S1024x1024_S128x1024_1_0_0_1_n_n none x (shapeCast _ W shapeCasts_S1x1024x1024_S1024x1024)
/-- The normalised rows. -/
def rNorm (x : FVec Ideal S128x1024 .f32) (w : FVec Ideal S1x1024 .f32) : FVec Ideal S128x1024 .f32 :=
  mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ w shapeCasts_S1x1024_S1024)))
theorem rJoin_at (a b) (r : Fin 128) (n : Fin 1024) : rJoin a b (ix2 r n) = joined (fun k => a (ix2 r k)) (fun k => b (ix2 r k)) n := by
  unfold rJoin joined
  obtain ⟨n, hn⟩ := n
  pointwise
theorem rMul_at (x W) (r : Fin 128) (n : Fin 1024) : rMul x W (ix2 r n) = mm (fun k => x (ix2 r k)) (fun k n => W (ix3 0 k n)) n := by
  pointwise [rMul, mm]
theorem rNorm_at (x w) (r : Fin 128) (n : Fin 1024) : rNorm x w (ix2 r n) = rms (fun k => x (ix2 r k)) (fun k => w (ix2 0 k)) n := by
  pointwise [rNorm, rms]
/-- The residual rows. -/
def rRes (om og : FVec Ideal S128x512 .f32) (x : FVec Ideal S128x1024 .f32) (w : FVec Ideal S1x1024x1024 .f32) : FVec Ideal S128x1024 .f32 :=
  addf x (rMul (rJoin om og) w)
theorem rRes_at (om og x w) (r : Fin 128) (n : Fin 1024) : rRes om og x w (ix2 r n) = Cert.Kernel8Ideal.Mid.rows om og x w r n := by
  unfold rRes
  refine (show _ = x (ix2 r n) + rMul (rJoin om og) w (ix2 r n) from rfl).trans ?_
  rw [rMul_at]
  simp only [rJoin_at]
  exact congrArg (_ + ·) (mm_joined _ _ _ n)
/-- The first result. -/
theorem eqRes (om og x w) : rRes om og x w = Cert.Kernel8Ideal.Mid.residual om og x w := by
  funext j
  obtain ⟨r, n, rfl⟩ : ∃ r n, j = ix2 r n := ⟨j 0, j 1, eq_ix2 j⟩
  exact rRes_at om og x w r n

/-- The second result. -/
theorem eqQuery (om og x w nw W) : rMul (rNorm (rRes om og x w) nw) W = Cert.Kernel8Ideal.Mid.query om og x w nw W := by
  funext j
  obtain ⟨r, n, rfl⟩ : ∃ r n, j = ix2 r n := ⟨j 0, j 1, eq_ix2 j⟩
  rw [rMul_at]
  simp only [rNorm_at, rRes_at]
  rfl
end Cert.Reference8Ideal.Mid
-- ==== Proof.Alg8.lean ====
module

public import proofs.«01_k».proof.Defs
public import proofs.«01_k».proof.Proof.MidSample
public import proofs.«01_k».proof.Proof.MidSampleRef
public import Idealize.ShloMosaic.Lib.Claim

/-! # Claim 8: the middle of the layer up to the query, sample batch, kernel and reference -/

@[expose] public section
set_option maxRecDepth 16384
open Idealize.ShloMosaic Idealize.ShloMosaic.TcCoe Idealize.SL.Sem
namespace Cert.Proof

set_option maxHeartbeats 4000000 in
theorem algebraic8 : Cert.algebraic_Kernel8Ideal_Reference8Ideal := by
  pair_intro
  · run_from Cert.Kernel8Ideal.Gen.run_main m g
    all_goals first
      | exact Cert.Kernel8Ideal.Gen.V_main_arg0 m c
      | exact Cert.Kernel8Ideal.Gen.V_main_arg1 m c
      | exact Cert.Kernel8Ideal.Gen.V_main_arg2 m c
  · refine Idealize.ShloMosaic.θ_run_mono (Cert.Reference8Ideal.Value.run m' g') fun r hr c => ?_
    obtain ⟨h0, h1, ha⟩ := hr c
    obtain ⟨e0, e1, e2, e3, e4, e5⟩ := hagree c
    refine ⟨h0.trans ?_, h1.trans ?_, ha⟩
    · refine (Cert.Reference8Ideal.Mid.eqRes (m' (c.tc.loc Cert.Reference8Ideal.main_arg0)) (m' (c.tc.loc Cert.Reference8Ideal.main_arg1)) (m' (c.tc.loc Cert.Reference8Ideal.main_arg2)) (m' (c.tc.loc Cert.Reference8Ideal.main_arg3))).trans ?_
      rw [e0, e1, e2, e3]
      exact (Cert.Kernel8Ideal.Mid.final6 m c).symm
    · refine (Cert.Reference8Ideal.Mid.eqQuery (m' (c.tc.loc Cert.Reference8Ideal.main_arg0)) (m' (c.tc.loc Cert.Reference8Ideal.main_arg1)) (m' (c.tc.loc Cert.Reference8Ideal.main_arg2)) (m' (c.tc.loc Cert.Reference8Ideal.main_arg3)) (m' (c.tc.loc Cert.Reference8Ideal.main_arg4)) (m' (c.tc.loc Cert.Reference8Ideal.main_arg5))).trans ?_
      rw [e0, e1, e2, e3, e4, e5]
      exact (Cert.Kernel8Ideal.Mid.final7 m c).symm
end Cert.Proof
-- ==== Proof.Halves.lean ====
module

public import proofs.«01_k».proof.Proof.Attend
public import Idealize.ShloMosaic.Lib.Claim

/-! # Reducing by halves

A stack of 256 layers is added up, or its largest layer taken, by laying its upper half on its lower half eight times over. The result
is the sum, or the largest value, of all the layers. -/

@[expose] public section
noncomputable section
open Idealize.ShloMosaic
namespace Cert.Row

/-- A stack of `n` layers. -/
abbrev Stack (n a b : ℕ) := FVec Ideal ⟨3, ![n, a, b]⟩ .f32

theorem low_slices (n a b : ℕ) : (⟨3, ![n + n, a, b]⟩ : Shape).Slices ![0, 0, 0] ⟨3, ![n, a, b]⟩ :=
  ⟨rfl, fun d => by fin_cases d <;> simp⟩
theorem high_slices (n a b : ℕ) : (⟨3, ![n + n, a, b]⟩ : Shape).Slices ![n, 0, 0] ⟨3, ![n, a, b]⟩ :=
  ⟨rfl, fun d => by fin_cases d <;> simp⟩

/-- The lower half. -/
abbrev low (n : ℕ) {a b : ℕ} (v : Stack (n + n) a b) : Stack n a b := extractStridedSlice ⟨3, ![n, a, b]⟩ ![0, 0, 0] v (low_slices n a b)
/-- The upper half. -/
abbrev high (n : ℕ) {a b : ℕ} (v : Stack (n + n) a b) : Stack n a b := extractStridedSlice ⟨3, ![n, a, b]⟩ ![n, 0, 0] v (high_slices n a b)

theorem low_at (n : ℕ) {a b : ℕ} (v : Stack (n + n) a b) (j : Fin n) (i : Fin a) (d : Fin b) : low n v (ix3 j i d) = v (ix3 (Fin.castAdd n j) i d) := by
  refine congrArg v (funext fun e => Fin.ext ?_)
  fin_cases e <;> exact Nat.zero_add _
theorem high_at (n : ℕ) {a b : ℕ} (v : Stack (n + n) a b) (j : Fin n) (i : Fin a) (d : Fin b) : high n v (ix3 j i d) = v (ix3 (Fin.natAdd n j) i d) := by
  refine congrArg v (funext fun e => Fin.ext ?_)
  fin_cases e
  · rfl
  · exact Nat.zero_add _
  · exact Nat.zero_add _

def addHalves (n : ℕ) {a b : ℕ} (v : Stack (n + n) a b) : Stack n a b := addf (low n v) (high n v)
def maxHalves (n : ℕ) {a b : ℕ} (v : Stack (n + n) a b) : Stack n a b := maximumf (low n v) (high n v)

theorem addHalves_sum (n : ℕ) {a b : ℕ} (v : Stack (n + n) a b) (i : Fin a) (d : Fin b) :
    ∑ j, addHalves n v (ix3 j i d) = ∑ j, v (ix3 j i d) := by
  refine Eq.trans ?_ (Fin.sum_univ_add (a := n) (b := n) fun j => v (ix3 j i d)).symm
  refine Eq.trans ?_ Finset.sum_add_distrib
  exact Finset.sum_congr rfl fun j _ => congrArg₂ (· + ·) (low_at n v j i d) (high_at n v j i d)

theorem le_peak {n : ℕ} (s : Fin n → EReal) (j : Fin n) : s j ≤ peak s := (Finset.le_fold_max _).mpr (Or.inr ⟨j, Finset.mem_univ j, le_rfl⟩)
theorem peak_le {n : ℕ} (s : Fin n → EReal) (c : EReal) (h : ∀ j, s j ≤ c) : peak s ≤ c := by
  unfold peak
  rw [low_eq]
  exact (Finset.fold_max_le _).mpr ⟨bot_le, fun j _ => h j⟩
theorem peak_one (s : Fin 1 → EReal) : peak s = s 0 :=
  le_antisymm (peak_le _ _ fun j => by rw [Subsingleton.elim j 0]) (le_peak _ _)

theorem maxHalves_peak (n : ℕ) {a b : ℕ} (v : Stack (n + n) a b) (i : Fin a) (d : Fin b) :
    (peak fun j => maxHalves n v (ix3 j i d)) = peak fun j => v (ix3 j i d) := by
  have hm : ∀ j : Fin n, maxHalves n v (ix3 j i d) = max (v (ix3 (Fin.castAdd n j) i d)) (v (ix3 (Fin.natAdd n j) i d)) := fun j =>
    congrArg₂ max (low_at n v j i d) (high_at n v j i d)
  refine le_antisymm (peak_le _ _ fun j => ?_) (peak_le _ _ fun j => ?_)
  · rw [hm]
    exact max_le (le_peak (fun j => v (ix3 j i d)) _) (le_peak (fun j => v (ix3 j i d)) _)
  · refine Fin.addCases (fun k => ?_) (fun k => ?_) j
    · exact (le_max_left _ _).trans (Eq.trans_le (hm k).symm (le_peak (fun j => maxHalves n v (ix3 j i d)) k))
    · exact (le_max_right _ _).trans (Eq.trans_le (hm k).symm (le_peak (fun j => maxHalves n v (ix3 j i d)) k))

/-- The sum of 256 layers. -/
def addAll {a b : ℕ} (v : Stack 256 a b) : Stack 1 a b :=
  addHalves 1 (addHalves 2 (addHalves 4 (addHalves 8 (addHalves 16 (addHalves 32 (addHalves 64 (addHalves 128 v)))))))
/-- The largest of 256 layers. -/
def maxAll {a b : ℕ} (v : Stack 256 a b) : Stack 1 a b :=
  maxHalves 1 (maxHalves 2 (maxHalves 4 (maxHalves 8 (maxHalves 16 (maxHalves 32 (maxHalves 64 (maxHalves 128 v)))))))

theorem addAll_at {a b : ℕ} (v : Stack 256 a b) (i : Fin a) (d : Fin b) : addAll v (ix3 0 i d) = ∑ j, v (ix3 j i d) := by
  unfold addAll
  refine Eq.trans (Fin.sum_univ_one (fun j => (addHalves 1 _ : Stack 1 a b) (ix3 j i d))).symm ?_
  exact (addHalves_sum 1 _ i d).trans <| (addHalves_sum 2 _ i d).trans <| (addHalves_sum 4 _ i d).trans <| (addHalves_sum 8 _ i d).trans <|
    (addHalves_sum 16 _ i d).trans <| (addHalves_sum 32 _ i d).trans <| (addHalves_sum 64 _ i d).trans (addHalves_sum 128 v i d)
theorem maxAll_at {a b : ℕ} (v : Stack 256 a b) (i : Fin a) (d : Fin b) : maxAll v (ix3 0 i d) = peak fun j => v (ix3 j i d) := by
  unfold maxAll
  refine Eq.trans (peak_one (fun j => (maxHalves 1 _ : Stack 1 a b) (ix3 j i d))).symm ?_
  exact (maxHalves_peak 1 _ i d).trans <| (maxHalves_peak 2 _ i d).trans <| (maxHalves_peak 4 _ i d).trans <| (maxHalves_peak 8 _ i d).trans <|
    (maxHalves_peak 16 _ i d).trans <| (maxHalves_peak 32 _ i d).trans <| (maxHalves_peak 64 _ i d).trans (maxHalves_peak 128 v i d)

end Cert.Row
-- ==== Proof.CrossSample.lean ====
module

public import proofs.«01_k».proof.Proof.Gen.Kernel9Ideal.Frame
public import proofs.«01_k».proof.Proof.Halves
public import Idealize.ShloMosaic.Lib.Claim

/-! # The cross attention of the sampled tokens: the kernel's side

Each grid point takes one token. The 256 memory rows are one stack of layers, and the largest score, the sum of the exponentials and
the weighted sum of the values are each taken by halves. -/

@[expose] public section
set_option maxRecDepth 16384
noncomputable section
open Idealize.ShloMosaic Idealize.ShloMosaic.TcCoe Idealize.SL.Sem
open Idealize.ShloMosaic.Pipeline (Dat)
namespace Cert.Kernel9Ideal.Cross
open Cert.Kernel9Ideal Cert.Kernel9Ideal.Gen Cert.Row

/-- The scores of one token, a layer for every memory row. -/
def kScore (q : Vec Ideal S1x4x256 .f32) (k : Vec Ideal S1x256x4x256 .f32) : FVec Ideal S256x4x1 .f32 :=
  shapeCast S256x4x1 (multiReduction (F := Ideal) .add [2] S256x4 (mulf (shapeCast S256x4x256 k shapeCasts_S1x256x4x256_S256x4x256) (broadcastTo S256x4x256 (shapeCast S1x4x256 (mulf (shapeCast S4x256 q shapeCasts_S1x4x256_S4x256) (broadcast S4x256 (Scalar.ofBits (F := Ideal) .f32 0x3D800000#32))) shapeCasts_S4x256_S1x4x256) broadcasts_S1x4x256_S256x4x256)) 0x00000000#32 reduces_S256x4x256_S256x4 (.inl rfl) rfl) shapeCasts_S256x4_S256x4x1
/-- The exponentials over the largest score. -/
def kExp (s : FVec Ideal S256x4x1 .f32) (p : FVec Ideal S1x4x1 .f32) : FVec Ideal S256x4x1 .f32 :=
  exp (subf s (broadcastTo S256x4x1 p broadcasts_S1x4x1_S256x4x1))
/-- The weighted values. -/
def kValues (e : FVec Ideal S256x4x1 .f32) (v : Vec Ideal S1x256x4x256 .f32) : FVec Ideal S256x4x256 .f32 :=
  mulf (broadcastTo S256x4x256 e broadcasts_S256x4x1_S256x4x256) (shapeCast S256x4x256 v shapeCasts_S1x256x4x256_S256x4x256)
/-- The final division. -/
def kDiv (n : FVec Ideal S1x4x256 .f32) (l : FVec Ideal S1x4x1 .f32) : FVec Ideal S1x4x256 .f32 :=
  shapeCast S1x4x256 (divf (shapeCast S4x256 n shapeCasts_S1x4x256_S4x256) (broadcastTo S4x256 (shapeCast S4x1 l shapeCasts_S1x4x1_S4x1) broadcasts_S4x1_S4x256)) shapeCasts_S4x256_S1x4x256

theorem kScore_at (q k) (j : Fin 256) (a : Fin 4) : kScore q k (ix3 j a 0) = score (fun d => q (ix3 0 a d)) (fun d => k (ix4 0 j a d)) := by
  rw [← score_eq]
  pointwise [kScore]
  exact Finset.sum_congr rfl fun d _ => mul_comm _ _
theorem kExp_at (s p) (j : Fin 256) (a : Fin 4) : kExp s p (ix3 j a 0) = Ideal.exp (s (ix3 j a 0) - p (ix3 0 a 0)) := by
  pointwise [kExp]
theorem kValues_at (e v) (j : Fin 256) (a : Fin 4) (d : Fin 256) : kValues e v (ix3 j a d) = e (ix3 j a 0) * v (ix4 0 j a d) := by
  pointwise [kValues]
theorem kDiv_at (n l) (a : Fin 4) (d : Fin 256) : kDiv n l (ix3 0 a d) = Ideal.div (n (ix3 0 a d)) (l (ix3 0 a 0)) := by
  pointwise [kDiv]

theorem pay2_eq (q k) : k0_pay2 (F := Ideal) q k = kExp (kScore q k) (maxAll (kScore q k)) := rfl
theorem pay1_eq (q k v) : k0_pay1 (F := Ideal) (k0_pay2 q k) (k0_pay3 q k) v
    = kDiv (addAll (kValues (k0_pay2 (F := Ideal) q k) v)) (addAll (k0_pay2 (F := Ideal) q k)) := rfl

/-- A token's output. -/
theorem block (q : Vec Ideal S1x4x256 .f32) (k v : Vec Ideal S1x256x4x256 .f32) (a : Fin 4) (d : Fin 256) :
    out0_3 (F := Ideal) q k v (ix3 0 a d) = average (fun j => score (fun d => q (ix3 0 a d)) (fun d => k (ix4 0 j a d))) (fun j => v (ix4 0 j a d)) := by
  have h0 : View.ld q r0_0 = q := by frame_out
  have h1 : View.ld k r0_1 = k := by frame_out
  have h2 : View.ld v r0_1 = v := by frame_out
  have ho : out0_3 (F := Ideal) q k v = k0_pay1 (F := Ideal) (k0_pay2 q k) (k0_pay3 q k) v := by
    unfold out0_3
    rw [h0, h1, h2]
    frame_out
  rw [ho, pay1_eq, kDiv_at, addAll_at, addAll_at]
  simp only [kValues_at, pay2_eq, kExp_at, maxAll_at, kScore_at]
  rfl

variable (m : (ℓ : Loc nD τ sig) → Buf (Elt Ideal) ℓ)

theorem idx : ∀ t : Fin cfg0.N, win0_0.index t = ![t.val, 0, 0] ∧ win0_1.index t = ![t.val, 0, 0, 0] ∧ win0_2.index t = ![t.val, 0, 0, 0]
    ∧ win0_3.index t = ![t.val, 0, 0] :=
  (by decide +kernel : ∀ t : Fin grid0.N, _)
theorem tile (t : Fin cfg0.N) : t.val < 128 := t.isLt

theorem q_read (X : Vec Ideal S128x1024 .f32) (b : Fin 128) (a : Fin 4) (d : Fin 256) : (shapeCast S128x4x256 X shapeCasts_S128x1024_S128x4x256) (ix3 b a d) = X (ix2 b (headCol a d)) := by
  pointwise
  rfl
theorem m_read (X : Vec Ideal S1x128x256x4x256 .f32) (b : Fin 128) (j : Fin 256) (a : Fin 4) (d : Fin 256) : (shapeCast S128x256x4x256 X shapeCasts_S1x128x256x4x256_S128x256x4x256) (ix4 b j a d) = X (ix5 0 b j a d) := by
  pointwise
theorem v2_at (c : Dev nD) (b : Fin 128) (a : Fin 4) (d : Fin 256) :
    (V m c main_v2 : Vec Ideal S128x4x256 .f32) (ix3 b a d) = (m ((c.tc : Thread nD τ).loc main_arg0) : Vec Ideal S128x1024 .f32) (ix2 b (headCol a d)) := by
  have hv : (V m c main_v2 : Vec Ideal S128x4x256 .f32) = shapeCast S128x4x256 (m ((c.tc : Thread nD τ).loc main_arg0) : Vec Ideal S128x1024 .f32) shapeCasts_S128x1024_S128x4x256 := by
    entry_read; rfl
  exact (congrFun hv _).trans (q_read _ b a d)
theorem v0_at (c : Dev nD) (b : Fin 128) (j : Fin 256) (a : Fin 4) (d : Fin 256) :
    (V m c main_v0 : Vec Ideal S128x256x4x256 .f32) (ix4 b j a d) = (m ((c.tc : Thread nD τ).loc main_arg1) : Vec Ideal S1x128x256x4x256 .f32) (ix5 0 b j a d) := by
  have hv : (V m c main_v0 : Vec Ideal S128x256x4x256 .f32) = shapeCast S128x256x4x256 (m ((c.tc : Thread nD τ).loc main_arg1) : Vec Ideal S1x128x256x4x256 .f32) shapeCasts_S1x128x256x4x256_S128x256x4x256 := by
    entry_read; rfl
  exact (congrFun hv _).trans (m_read _ b j a d)
theorem v1_at (c : Dev nD) (b : Fin 128) (j : Fin 256) (a : Fin 4) (d : Fin 256) :
    (V m c main_v1 : Vec Ideal S128x256x4x256 .f32) (ix4 b j a d) = (m ((c.tc : Thread nD τ).loc main_arg2) : Vec Ideal S1x128x256x4x256 .f32) (ix5 0 b j a d) := by
  have hv : (V m c main_v1 : Vec Ideal S128x256x4x256 .f32) = shapeCast S128x256x4x256 (m ((c.tc : Thread nD τ).loc main_arg2) : Vec Ideal S1x128x256x4x256 .f32) shapeCasts_S1x128x256x4x256_S128x256x4x256 := by
    entry_read; rfl
  exact (congrFun hv _).trans (m_read _ b j a d)

theorem e0 (c : Dev nD) (t : Fin cfg0.N) (a : Fin 4) (d : Fin 256) : iblk m c 0 t (ix3 0 a d) = (m ((c.tc : Thread nD τ).loc main_arg0) : Vec Ideal S128x1024 .f32) (ix2 ⟨t.val, tile t⟩ (headCol a d)) := by
  have := tile t
  blk_simp [iblk]
  refine Eq.trans (congrArg (V m c main_v2) ?_) (v2_at m c ⟨t.val, tile t⟩ a d)
  blk_ext [idx t]
theorem e1 (c : Dev nD) (t : Fin cfg0.N) (j : Fin 256) (a : Fin 4) (d : Fin 256) : iblk m c 1 t (ix4 0 j a d) = (m ((c.tc : Thread nD τ).loc main_arg1) : Vec Ideal S1x128x256x4x256 .f32) (ix5 0 ⟨t.val, tile t⟩ j a d) := by
  have := tile t
  blk_simp [iblk]
  refine Eq.trans (congrArg (V m c main_v0) ?_) (v0_at m c ⟨t.val, tile t⟩ j a d)
  blk_ext [idx t]
theorem e2 (c : Dev nD) (t : Fin cfg0.N) (j : Fin 256) (a : Fin 4) (d : Fin 256) : iblk m c 2 t (ix4 0 j a d) = (m ((c.tc : Thread nD τ).loc main_arg2) : Vec Ideal S1x128x256x4x256 .f32) (ix5 0 ⟨t.val, tile t⟩ j a d) := by
  have := tile t
  blk_simp [iblk]
  refine Eq.trans (congrArg (V m c main_v1) ?_) (v1_at m c ⟨t.val, tile t⟩ j a d)
  blk_ext [idx t]

theorem point (c : Dev nD) (t : Fin cfg0.N) (y : S1x4x256.Idx) :
    out0_3 (F := Ideal) (iblk m c 0 t) (iblk m c 1 t) (iblk m c 2 t) y
      = tokens (m ((c.tc : Thread nD τ).loc main_arg0)) (m ((c.tc : Thread nD τ).loc main_arg1)) (m ((c.tc : Thread nD τ).loc main_arg2)) (((cfg0.win 3).blk t).view.emb y) := by
  obtain ⟨z, a, d, rfl⟩ : ∃ z a d, y = ix3 z a d := ⟨y 0, y 1, y 2, eq_ix3 y⟩
  obtain rfl : z = 0 := Subsingleton.elim _ _
  have := tile t
  have en : ((cfg0.win 3).blk t).view.emb (ix3 0 a d) = ix3 ⟨t.val, tile t⟩ a d := by blk_ext [idx t]
  rw [block, en]
  simp only [e0, e1, e2]
  rfl
theorem final (c : Dev nD) : (dats m 0 c).arrAt 3 (cfgs 0).N
    = tokens (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  exact point m c t y
end Cert.Kernel9Ideal.Cross
-- ==== Proof.CrossSampleRef.lean ====
module

public import proofs.«01_k».proof.Proof.Gen.Reference9Ideal.Run
public import proofs.«01_k».proof.Proof.Attend
public import Idealize.ShloMosaic.Lib.Claim

/-! # The cross attention of the sampled tokens: the reference's side -/

@[expose] public section
set_option maxRecDepth 16384
noncomputable section
open Idealize.ShloMosaic Idealize.ShloMosaic.TcCoe Idealize.SL.Sem
namespace Cert.Reference9Ideal.Cross
open Cert.Reference9Ideal Cert.Reference9Ideal.Gen Cert.Row

/-- Queries against keys, scaled. -/
def rScore (q : FVec Ideal S128x1024 .f32) (K : FVec Ideal S1x128x256x4x256 .f32) : FVec Ideal S128x4x1x256 .f32 :=
  mulf (Host.dotGeneral dot_S128x1x4x256_S128x256x4x256_S128x4x1x256_3_3_1_1_02_02 none (shapeCast _ q shapeCasts_S128x1024_S128x1x4x256) (shapeCast _ K shapeCasts_S1x128x256x4x256_S128x256x4x256)) (broadcastInDim S128x4x1x256 ![] bcast_S_S128x4x1x256 (constant S_ .f32 0x3D800000#32))
/-- The largest score of each query. -/
def rPeak (s : FVec Ideal S128x4x1x256 .f32) : FVec Ideal S128x4x1 .f32 :=
  Host.reduce FloatOps.maximumf s (constant S_ .f32 0xFF800000#32) reducesTo_S128x4x1x256_S128x4x1_d3 h_S_
/-- The exponentials over the peak. -/
def rExp (s : FVec Ideal S128x4x1x256 .f32) (p : FVec Ideal S128x4x1 .f32) : FVec Ideal S128x4x1x256 .f32 :=
  Host.exp (subf s (broadcastInDim S128x4x1x256 ![0, 1, 2, 3] bcast_S128x4x1x1_S128x4x1x256_0_1_2_3 (broadcastInDim S128x4x1x1 ![0, 1, 2] bcast_S128x4x1_S128x4x1x1_0_1_2 (maximumf (broadcastInDim S128x4x1 ![] bcast_S_S128x4x1 (constant S_ .f32 0xFF800000#32)) p))))
/-- The weights of the average. -/
def rWeights (e : FVec Ideal S128x4x1x256 .f32) : FVec Ideal S128x4x1x256 .f32 :=
  Host.divf e (broadcastInDim S128x4x1x256 ![0, 1, 2, 3] bcast_S128x4x1x1_S128x4x1x256_0_1_2_3 (broadcastInDim S128x4x1x1 ![0, 1, 2] bcast_S128x4x1_S128x4x1x1_0_1_2 (Host.reduceAdd e (constant S_ .f32 0x00000000#32) reducesTo_S128x4x1x256_S128x4x1_d3 h_S_)))
/-- The weighted average. -/
def rMix (v : FVec Ideal S1x128x256x4x256 .f32) (p : FVec Ideal S128x4x1x256 .f32) : FVec Ideal S128x4x256 .f32 :=
  shapeCast _ (transpose S128x1x4x256 [0, 3, 1, 2] (Host.dotGeneral dot_S128x256x4x256_S128x4x1x256_S128x4x256x1_1_3_3_2_02_01 none (shapeCast _ v shapeCasts_S1x128x256x4x256_S128x256x4x256) p : FVec Ideal S128x4x256x1 .f32) transposes_S128x4x256x1_S128x1x4x256_0_3_1_2) shapeCasts_S128x1x4x256_S128x4x256

theorem rScore_at (q K) (b : Fin 128) (a : Fin 4) (j : Fin 256) : rScore q K (ix4 b a 0 j) = tokenScores q K b a j := by
  pointwise [rScore]
  rfl
theorem reduces3 : S128x4x1x256.Reduces [3] S128x4x1 := by decide
theorem rPeak_at (s) (b : Fin 128) (a : Fin 4) : rPeak s (ix3 b a 0) = peak (fun j : Fin 256 => s (ix4 b a 0 j)) := by
  refine (Host.reduce_eq_fold_single FloatOps.maximumf s _ _ reduces3 _ _).trans ?_
  have hl : ∀ j, reduces3.lift (ix3 b a 0) j = ix4 b a 0 j := fun j => by
    funext d
    fin_cases d <;> rfl
  exact congrArg (fun f => Finset.fold max (Ideal.ofBits FTy.f32 4286578688#32) f Finset.univ) (funext fun j => congrArg s (hl j))
theorem rExp_at (s p) (b : Fin 128) (a : Fin 4) (j : Fin 256) : rExp s p (ix4 b a 0 j) = Ideal.exp (s (ix4 b a 0 j) - p (ix3 b a 0)) := by
  pointwise [rExp]
  rw [low_eq, max_eq_right bot_le]
theorem rWeights_at (e) (b : Fin 128) (a : Fin 4) (j : Fin 256) :
    rWeights e (ix4 b a 0 j) = Ideal.div (e (ix4 b a 0 j)) (∑ j, e (ix4 b a 0 j)) := by
  pointwise [rWeights]
theorem rMix_at (v p) (b : Fin 128) (a : Fin 4) (d : Fin 256) : rMix v p (ix3 b a d) = ∑ j, v (ix5 0 b j a d) * p (ix4 b a 0 j) := by
  pointwise [rMix]

/-- The result. -/
theorem eqCross (q K V) (hq : ∀ k, IsNum (q k)) (hK : ∀ k, IsNum (K k)) :
    rMix V (rWeights (rExp (rScore q K) (rPeak (rScore q K)))) = tokens q K V := by
  funext j
  obtain ⟨b, a, d, rfl⟩ : ∃ b a d, j = ix3 b a d := ⟨j 0, j 1, j 2, eq_ix3 j⟩
  rw [rMix_at]
  simp only [rWeights_at, rExp_at, rPeak_at, rScore_at]
  exact average_eq _ _ fun j => score_num _ _ (fun _ => hq _) fun _ => hK _
end Cert.Reference9Ideal.Cross
-- ==== Proof.Alg9.lean ====
module

public import proofs.«01_k».proof.Defs
public import proofs.«01_k».proof.Proof.CrossSample
public import proofs.«01_k».proof.Proof.CrossSampleRef
public import Idealize.ShloMosaic.Lib.ReduceAll
public import Idealize.ShloMosaic.Lib.Claim

/-! # Claim 9: the cross attention of the sampled tokens, kernel and reference -/

@[expose] public section
set_option maxRecDepth 16384
open Idealize.ShloMosaic Idealize.ShloMosaic.TcCoe Idealize.SL.Sem
namespace Cert.Proof
open Cert.Row

/-- What the precondition says. -/
theorem scores_sample_pre [Cert.Pre_finite_scores_sample.Facts] (q : FVec Ideal ⟨2, ![128, 1024]⟩ .f32) (K V : FVec Ideal ⟨5, ![1, 128, 256, 4, 256]⟩ .f32)
    (h : Cert.Pre_finite_scores_sample.fn (F := Ideal) q K V = fun _ => 1#1) : (∀ k, IsNum (q k)) ∧ ∀ k, IsNum (K k) := by
  have h0 := congrFun h ix0
  dsimp only [Cert.Pre_finite_scores_sample.fn] at h0
  obtain ⟨h1, h2⟩ := andi_one _ _ h0
  exact ⟨fun k => lt_num _ (Host.reduce_andi_all _ _ _ _ _ h1 k), fun k => lt_num _ (Host.reduce_andi_all _ _ _ _ _ h2 k)⟩

set_option maxHeartbeats 4000000 in
theorem algebraic9 [Cert.Pre_finite_scores_sample.Facts] : Cert.algebraic_Kernel9Ideal_Reference9Ideal_pre_finite_scores_sample := by
  pair_intro
  · run_from Cert.Kernel9Ideal.Gen.run_main m g
  · refine Idealize.ShloMosaic.θ_run_mono (Cert.Reference9Ideal.Value.run m' g') fun r hr c => ?_
    obtain ⟨h0, ha⟩ := hr c
    obtain ⟨e0, e1, e2⟩ := hagree c
    obtain ⟨p1, p2⟩ := scores_sample_pre _ _ _ (hpre c)
    refine ⟨h0.trans ?_, ha⟩
    refine (Cert.Reference9Ideal.Cross.eqCross (m' (c.tc.loc Cert.Reference9Ideal.main_arg0)) (m' (c.tc.loc Cert.Reference9Ideal.main_arg1)) (m' (c.tc.loc Cert.Reference9Ideal.main_arg2)) (by rw [e0]; exact p1) (by rw [e1]; exact p2)).trans ?_
    rw [e0, e1, e2]
    exact (Cert.Kernel9Ideal.Cross.final m c).symm
end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Alg1
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Alg2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Alg3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Alg4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Alg5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Alg6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Alg7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Alg8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Alg9
public import Idealize.ShloMosaic.Lib.Claim

@[expose] public section
set_option maxRecDepth 16384
open Idealize.ShloMosaic Idealize.SL.Sem
namespace Cert.Proof

theorem quiescent_ReferenceIdeal : Cert.quiescent_ReferenceIdeal := by
  intro m g hp
  refine (θ_run _ _ _).mono (fun r h => ⟨fun c => (h c).2.2.2, ?_⟩) (Cert.ReferenceIdeal.Value.run m g)
  funext x
  obtain ⟨_, x⟩ := x
  cases x with
  | reg s => exact s.elim0
  | dma s => exact s.elim0

theorem quiescent_Reference2Ideal : Cert.quiescent_Reference2Ideal := by
  intro m g hp
  refine (θ_run _ _ _).mono (fun r h => ⟨fun c => (h c).2.2.2.2.2.2.2, ?_⟩) (Cert.Reference2Ideal.Value.run m g)
  funext x
  obtain ⟨_, x⟩ := x
  cases x with
  | reg s => exact s.elim0
  | dma s => exact s.elim0

theorem quiescent_Reference3Ideal : Cert.quiescent_Reference3Ideal := by
  intro m g hp
  refine (θ_run _ _ _).mono (fun r h => ⟨fun c => (h c).2.2, ?_⟩) (Cert.Reference3Ideal.Value.run m g)
  funext x
  obtain ⟨_, x⟩ := x
  cases x with
  | reg s => exact s.elim0
  | dma s => exact s.elim0

theorem quiescent_Reference4Ideal : Cert.quiescent_Reference4Ideal := by
  intro m g hp
  refine (θ_run _ _ _).mono (fun r h => ⟨fun c => (h c).2.2.2.2.2.2, ?_⟩) (Cert.Reference4Ideal.Value.run m g)
  funext x
  obtain ⟨_, x⟩ := x
  cases x with
  | reg s => exact s.elim0
  | dma s => exact s.elim0

theorem quiescent_Reference5Ideal : Cert.quiescent_Reference5Ideal := by
  intro m g hp
  refine (θ_run _ _ _).mono (fun r h => ⟨fun c => (h c).2, ?_⟩) (Cert.Reference5Ideal.Value.run m g)
  funext x
  obtain ⟨_, x⟩ := x
  cases x with
  | reg s => exact s.elim0
  | dma s => exact s.elim0

theorem quiescent_Reference6Ideal : Cert.quiescent_Reference6Ideal := by
  intro m g hp
  refine (θ_run _ _ _).mono (fun r h => ⟨fun c => (h c).2, ?_⟩) (Cert.Reference6Ideal.Value.run m g)
  funext x
  obtain ⟨_, x⟩ := x
  cases x with
  | reg s => exact s.elim0
  | dma s => exact s.elim0

theorem quiescent_Reference7Ideal : Cert.quiescent_Reference7Ideal := by
  intro m g hp
  refine (θ_run _ _ _).mono (fun r h => ⟨fun c => (h c).2.2, ?_⟩) (Cert.Reference7Ideal.Value.run m g)
  funext x
  obtain ⟨_, x⟩ := x
  cases x with
  | reg s => exact s.elim0
  | dma s => exact s.elim0

theorem quiescent_Reference8Ideal : Cert.quiescent_Reference8Ideal := by
  intro m g hp
  refine (θ_run _ _ _).mono (fun r h => ⟨fun c => (h c).2.2, ?_⟩) (Cert.Reference8Ideal.Value.run m g)
  funext x
  obtain ⟨_, x⟩ := x
  cases x with
  | reg s => exact s.elim0
  | dma s => exact s.elim0

theorem quiescent_Reference9Ideal : Cert.quiescent_Reference9Ideal := by
  intro m g hp
  refine (θ_run _ _ _).mono (fun r h => ⟨fun c => (h c).2, ?_⟩) (Cert.Reference9Ideal.Value.run m g)
  funext x
  obtain ⟨_, x⟩ := x
  cases x with
  | reg s => exact s.elim0
  | dma s => exact s.elim0

theorem facts_finite_weights : Cert.Pre_finite_weights.Facts := by constructor <;> decide

theorem facts_finite_weights_sample : Cert.Pre_finite_weights_sample.Facts := by constructor <;> decide

theorem facts_finite_scores : Cert.Pre_finite_scores.Facts := by constructor <;> decide

theorem facts_finite_scores_sample : Cert.Pre_finite_scores_sample.Facts := by constructor <;> decide

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    facts_finite_weights,
    facts_finite_weights_sample,
    facts_finite_scores,
    facts_finite_scores_sample,
    fun m ρ _ => Cert.Kernel.Gen.frame m ρ,
    fun m ρ _ => Cert.KernelIdeal.Gen.frame m ρ,
    quiescent_ReferenceIdeal,
    fun m ρ _ => Cert.Kernel2.Gen.frame m ρ,
    fun m ρ _ => Cert.Kernel2Ideal.Gen.frame m ρ,
    fun m ρ _ => Cert.Kernel2Ideal.Gen.frame m ρ,
    quiescent_Reference2Ideal,
    fun m ρ _ => quiescent_Reference2Ideal m ρ trivial,
    fun m ρ _ => Cert.Kernel3.Gen.frame m ρ,
    fun m ρ _ => Cert.Kernel3Ideal.Gen.frame m ρ,
    quiescent_Reference3Ideal,
    fun m ρ _ => Cert.Kernel4.Gen.frame m ρ,
    fun m ρ _ => Cert.Kernel4Ideal.Gen.frame m ρ,
    fun m ρ _ => Cert.Kernel4Ideal.Gen.frame m ρ,
    quiescent_Reference4Ideal,
    fun m ρ _ => quiescent_Reference4Ideal m ρ trivial,
    fun m ρ _ => Cert.Kernel5.Gen.frame m ρ,
    fun m ρ _ => Cert.Kernel5Ideal.Gen.frame m ρ,
    quiescent_Reference5Ideal,
    fun m ρ _ => Cert.Kernel6.Gen.frame m ρ,
    fun m ρ _ => Cert.Kernel6Ideal.Gen.frame m ρ,
    quiescent_Reference6Ideal,
    fun m ρ _ => Cert.Kernel7.Gen.frame m ρ,
    fun m ρ _ => Cert.Kernel7Ideal.Gen.frame m ρ,
    fun m ρ _ => Cert.Kernel7Ideal.Gen.frame m ρ,
    quiescent_Reference7Ideal,
    fun m ρ _ => quiescent_Reference7Ideal m ρ trivial,
    fun m ρ _ => Cert.Kernel8.Gen.frame m ρ,
    fun m ρ _ => Cert.Kernel8Ideal.Gen.frame m ρ,
    quiescent_Reference8Ideal,
    fun m ρ _ => Cert.Kernel9.Gen.frame m ρ,
    fun m ρ _ => Cert.Kernel9Ideal.Gen.frame m ρ,
    fun m ρ _ => Cert.Kernel9Ideal.Gen.frame m ρ,
    quiescent_Reference9Ideal,
    fun m ρ _ => quiescent_Reference9Ideal m ρ trivial,
    trivial,
    algebraic1,
    trivial,
    @algebraic2 facts_finite_weights,
    trivial,
    algebraic3,
    trivial,
    @algebraic4 facts_finite_weights_sample,
    trivial,
    algebraic5,
    trivial,
    algebraic6,
    trivial,
    @algebraic7 facts_finite_scores,
    trivial,
    algebraic8,
    trivial,
    @algebraic9 facts_finite_scores_sample⟩

end Cert.Proof

end
